-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_attn_args [hPre_attn_args : Cert.Pre_attn_args.Facts] (m : (ℓ : Loc Cert.KernelIdeal.nD Cert.KernelIdeal.τ Cert.KernelIdeal.sig) → Buf (Elt Ideal) ℓ) : Prop :=
  ∀ c : Dev Cert.KernelIdeal.nD,
    (Cert.Pre_attn_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_attn_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_attn_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_attn_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_attn_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_attn_args [hPre_attn_args : Cert.Pre_attn_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_attn_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_attn_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_attn_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_attn_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_attn_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolRefIdeal (m : (ℓ : Loc Cert.PoolRefIdeal.nD Cert.PoolRefIdeal.τ Cert.PoolRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_attn_args [hKernelIdeal : Cert.KernelIdeal.Facts] [hPre_attn_args : Cert.Pre_attn_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_attn_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_attn_args [hReferenceIdeal : Cert.ReferenceIdeal.Facts] [hPre_attn_args : Cert.Pre_attn_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_attn_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2)
      ∧ r.2.mem ((c.tc : Thread Cert.Mod.nD Cert.Mod.τ).loc Cert.Mod.main_arg3) = m ((c.tc : Thread Cert.Mod.nD Cert.Mod.τ).loc Cert.Mod.main_arg3))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2)
      ∧ r.2.mem ((c.tc : Thread Cert.ModRefIdeal.nD Cert.ModRefIdeal.τ).loc Cert.ModRefIdeal.main_arg3) = m ((c.tc : Thread Cert.ModRefIdeal.nD Cert.ModRefIdeal.τ).loc Cert.ModRefIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8)
      ∧ r.2.mem ((c.tc : Thread Cert.Proj.nD Cert.Proj.τ).loc Cert.Proj.main_arg9) = m ((c.tc : Thread Cert.Proj.nD Cert.Proj.τ).loc Cert.Proj.main_arg9)
      ∧ r.2.mem ((c.tc : Thread Cert.Proj.nD Cert.Proj.τ).loc Cert.Proj.main_arg10) = m ((c.tc : Thread Cert.Proj.nD Cert.Proj.τ).loc Cert.Proj.main_arg10))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
      ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
      ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7)
      ∧ r.2.mem ((c.tc : Thread Cert.ProjRefIdeal.nD Cert.ProjRefIdeal.τ).loc Cert.ProjRefIdeal.main_arg8) = m ((c.tc : Thread Cert.ProjRefIdeal.nD Cert.ProjRefIdeal.τ).loc Cert.ProjRefIdeal.main_arg8)
      ∧ r.2.mem ((c.tc : Thread Cert.ProjRefIdeal.nD Cert.ProjRefIdeal.τ).loc Cert.ProjRefIdeal.main_arg9) = m ((c.tc : Thread Cert.ProjRefIdeal.nD Cert.ProjRefIdeal.τ).loc Cert.ProjRefIdeal.main_arg9)
      ∧ r.2.mem ((c.tc : Thread Cert.ProjRefIdeal.nD Cert.ProjRefIdeal.τ).loc Cert.ProjRefIdeal.main_arg10) = m ((c.tc : Thread Cert.ProjRefIdeal.nD Cert.ProjRefIdeal.τ).loc Cert.ProjRefIdeal.main_arg10))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2))
      ∧ r.2.sem = fun _ => 0)

def preserves_Kernel_KernelIdeal : Prop :=
  IdealRules.named_const.Statement Cert.KernelIdeal.κ "qscale" .f32 0x3E16C740#32 (((Real.sqrt 96)⁻¹ * (Real.log 2)⁻¹ : ℝ) : EReal)

def algebraic_KernelIdeal_ReferenceIdeal_pre_attn_args [hKernelIdeal : Cert.KernelIdeal.Facts] [hReferenceIdeal : Cert.ReferenceIdeal.Facts] [hPre_attn_args : Cert.Pre_attn_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_attn_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v14) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v5_0)) (v1 : (c : Dev Cert.MergeIdeal.nD) → Buf (Elt Ideal) ((c.tc : Thread Cert.MergeIdeal.nD Cert.MergeIdeal.τ).loc Cert.MergeIdeal.main_v5_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v5_0) = v0 c
          ∧ r.2.mem ((c.tc : Thread Cert.MergeIdeal.nD Cert.MergeIdeal.τ).loc Cert.MergeIdeal.main_v5_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v49) = v0 c
          ∧ r.2.mem ((c.tc : Thread Cert.MergeRefIdeal.nD Cert.MergeRefIdeal.τ).loc Cert.MergeRefIdeal.main_v51) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v12) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)
      ∧ m' ((c.tc : Thread Cert.ModRefIdeal.nD Cert.ModRefIdeal.τ).loc Cert.ModRefIdeal.main_arg3) = m ((c.tc : Thread Cert.ModIdeal.nD Cert.ModIdeal.τ).loc Cert.ModIdeal.main_arg3)) →
    ∃ (v0 : (c : Dev Cert.ModIdeal.nD) → Buf (Elt Ideal) ((c.tc : Thread Cert.ModIdeal.nD Cert.ModIdeal.τ).loc Cert.ModIdeal.main_v4)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v4) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
          ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v8) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2)
          ∧ r.2.mem ((c.tc : Thread Cert.ModRefIdeal.nD Cert.ModRefIdeal.τ).loc Cert.ModRefIdeal.main_arg3) = m' ((c.tc : Thread Cert.ModRefIdeal.nD Cert.ModRefIdeal.τ).loc Cert.ModRefIdeal.main_arg3))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)
      ∧ m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7)
      ∧ m' ((c.tc : Thread Cert.ProjRefIdeal.nD Cert.ProjRefIdeal.τ).loc Cert.ProjRefIdeal.main_arg8) = m ((c.tc : Thread Cert.ProjIdeal.nD Cert.ProjIdeal.τ).loc Cert.ProjIdeal.main_arg8)
      ∧ m' ((c.tc : Thread Cert.ProjRefIdeal.nD Cert.ProjRefIdeal.τ).loc Cert.ProjRefIdeal.main_arg9) = m ((c.tc : Thread Cert.ProjIdeal.nD Cert.ProjIdeal.τ).loc Cert.ProjIdeal.main_arg9)
      ∧ m' ((c.tc : Thread Cert.ProjRefIdeal.nD Cert.ProjRefIdeal.τ).loc Cert.ProjRefIdeal.main_arg10) = m ((c.tc : Thread Cert.ProjIdeal.nD Cert.ProjIdeal.τ).loc Cert.ProjIdeal.main_arg10)) →
    ∃ (v0 : (c : Dev Cert.ProjIdeal.nD) → Buf (Elt Ideal) ((c.tc : Thread Cert.ProjIdeal.nD Cert.ProjIdeal.τ).loc Cert.ProjIdeal.main_v83_0)) (v1 : (c : Dev Cert.ProjIdeal.nD) → Buf (Elt Ideal) ((c.tc : Thread Cert.ProjIdeal.nD Cert.ProjIdeal.τ).loc Cert.ProjIdeal.main_v83_1)) (v2 : (c : Dev Cert.ProjIdeal.nD) → Buf (Elt Ideal) ((c.tc : Thread Cert.ProjIdeal.nD Cert.ProjIdeal.τ).loc Cert.ProjIdeal.main_v83_2)) (v3 : (c : Dev Cert.ProjIdeal.nD) → Buf (Elt Ideal) ((c.tc : Thread Cert.ProjIdeal.nD Cert.ProjIdeal.τ).loc Cert.ProjIdeal.main_v83_3)) (v4 : (c : Dev Cert.ProjIdeal.nD) → Buf (Elt Ideal) ((c.tc : Thread Cert.ProjIdeal.nD Cert.ProjIdeal.τ).loc Cert.ProjIdeal.main_v83_4)) (v5 : (c : Dev Cert.ProjIdeal.nD) → Buf (Elt Ideal) ((c.tc : Thread Cert.ProjIdeal.nD Cert.ProjIdeal.τ).loc Cert.ProjIdeal.main_v83_5)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v83_0) = v0 c
          ∧ r.2.mem ((c.tc : Thread Cert.ProjIdeal.nD Cert.ProjIdeal.τ).loc Cert.ProjIdeal.main_v83_1) = v1 c
          ∧ r.2.mem ((c.tc : Thread Cert.ProjIdeal.nD Cert.ProjIdeal.τ).loc Cert.ProjIdeal.main_v83_2) = v2 c
          ∧ r.2.mem ((c.tc : Thread Cert.ProjIdeal.nD Cert.ProjIdeal.τ).loc Cert.ProjIdeal.main_v83_3) = v3 c
          ∧ r.2.mem ((c.tc : Thread Cert.ProjIdeal.nD Cert.ProjIdeal.τ).loc Cert.ProjIdeal.main_v83_4) = v4 c
          ∧ r.2.mem ((c.tc : Thread Cert.ProjIdeal.nD Cert.ProjIdeal.τ).loc Cert.ProjIdeal.main_v83_5) = v5 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
          ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
          ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v116) = v0 c
          ∧ r.2.mem ((c.tc : Thread Cert.ProjRefIdeal.nD Cert.ProjRefIdeal.τ).loc Cert.ProjRefIdeal.main_v119) = v1 c
          ∧ r.2.mem ((c.tc : Thread Cert.ProjRefIdeal.nD Cert.ProjRefIdeal.τ).loc Cert.ProjRefIdeal.main_v122) = v2 c
          ∧ r.2.mem ((c.tc : Thread Cert.ProjRefIdeal.nD Cert.ProjRefIdeal.τ).loc Cert.ProjRefIdeal.main_v124) = v3 c
          ∧ r.2.mem ((c.tc : Thread Cert.ProjRefIdeal.nD Cert.ProjRefIdeal.τ).loc Cert.ProjRefIdeal.main_v127) = v4 c
          ∧ r.2.mem ((c.tc : Thread Cert.ProjRefIdeal.nD Cert.ProjRefIdeal.τ).loc Cert.ProjRefIdeal.main_v139) = v5 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6)
          ∧ r.2.mem ((c.tc : Thread Cert.ProjRefIdeal.nD Cert.ProjRefIdeal.τ).loc Cert.ProjRefIdeal.main_arg7) = m' ((c.tc : Thread Cert.ProjRefIdeal.nD Cert.ProjRefIdeal.τ).loc Cert.ProjRefIdeal.main_arg7)
          ∧ r.2.mem ((c.tc : Thread Cert.ProjRefIdeal.nD Cert.ProjRefIdeal.τ).loc Cert.ProjRefIdeal.main_arg8) = m' ((c.tc : Thread Cert.ProjRefIdeal.nD Cert.ProjRefIdeal.τ).loc Cert.ProjRefIdeal.main_arg8)
          ∧ r.2.mem ((c.tc : Thread Cert.ProjRefIdeal.nD Cert.ProjRefIdeal.τ).loc Cert.ProjRefIdeal.main_arg9) = m' ((c.tc : Thread Cert.ProjRefIdeal.nD Cert.ProjRefIdeal.τ).loc Cert.ProjRefIdeal.main_arg9)
          ∧ r.2.mem ((c.tc : Thread Cert.ProjRefIdeal.nD Cert.ProjRefIdeal.τ).loc Cert.ProjRefIdeal.main_arg10) = m' ((c.tc : Thread Cert.ProjRefIdeal.nD Cert.ProjRefIdeal.τ).loc Cert.ProjRefIdeal.main_arg10))

def preserves_Pool_PoolIdeal : Prop :=
  True

def algebraic_PoolIdeal_PoolRefIdeal [hPoolIdeal : Cert.PoolIdeal.Facts] [hPoolRefIdeal : Cert.PoolRefIdeal.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)) →
    ∃ (v0 : (c : Dev Cert.PoolIdeal.nD) → Buf (Elt Ideal) ((c.tc : Thread Cert.PoolIdeal.nD Cert.PoolIdeal.τ).loc Cert.PoolIdeal.main_v38)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v38) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v50) = v0 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hNorm : Cert.Norm.Facts) (hNormIdeal : Cert.NormIdeal.Facts) (hNormRefIdeal : Cert.NormRefIdeal.Facts) (hMod : Cert.Mod.Facts) (hModIdeal : Cert.ModIdeal.Facts) (hModRefIdeal : Cert.ModRefIdeal.Facts) (hProj : Cert.Proj.Facts) (hProjIdeal : Cert.ProjIdeal.Facts) (hProjRefIdeal : Cert.ProjRefIdeal.Facts) (hPool : Cert.Pool.Facts) (hPoolIdeal : Cert.PoolIdeal.Facts) (hPoolRefIdeal : Cert.PoolRefIdeal.Facts) (hPre_attn_args : Cert.Pre_attn_args.Facts),
    quiescent_Kernel (hKernel := hKernel)
    ∧ quiescent_KernelIdeal (hKernelIdeal := hKernelIdeal)
    ∧ quiescent_KernelIdeal_pre_attn_args (hKernelIdeal := hKernelIdeal) (hPre_attn_args := hPre_attn_args)
    ∧ quiescent_ReferenceIdeal (hReferenceIdeal := hReferenceIdeal)
    ∧ quiescent_ReferenceIdeal_pre_attn_args (hReferenceIdeal := hReferenceIdeal) (hPre_attn_args := hPre_attn_args)
    ∧ quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ quiescent_Norm (hNorm := hNorm)
    ∧ quiescent_NormIdeal (hNormIdeal := hNormIdeal)
    ∧ quiescent_NormRefIdeal (hNormRefIdeal := hNormRefIdeal)
    ∧ quiescent_Mod (hMod := hMod)
    ∧ quiescent_ModIdeal (hModIdeal := hModIdeal)
    ∧ quiescent_ModRefIdeal (hModRefIdeal := hModRefIdeal)
    ∧ quiescent_Proj (hProj := hProj)
    ∧ quiescent_ProjIdeal (hProjIdeal := hProjIdeal)
    ∧ quiescent_ProjRefIdeal (hProjRefIdeal := hProjRefIdeal)
    ∧ quiescent_Pool (hPool := hPool)
    ∧ quiescent_PoolIdeal (hPoolIdeal := hPoolIdeal)
    ∧ quiescent_PoolRefIdeal (hPoolRefIdeal := hPoolRefIdeal)
    ∧ preserves_Kernel_KernelIdeal
    ∧ algebraic_KernelIdeal_ReferenceIdeal_pre_attn_args (hKernelIdeal := hKernelIdeal) (hReferenceIdeal := hReferenceIdeal) (hPre_attn_args := hPre_attn_args)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
    ∧ preserves_Norm_NormIdeal
    ∧ algebraic_NormIdeal_NormRefIdeal (hNormIdeal := hNormIdeal) (hNormRefIdeal := hNormRefIdeal)
    ∧ preserves_Mod_ModIdeal
    ∧ algebraic_ModIdeal_ModRefIdeal (hModIdeal := hModIdeal) (hModRefIdeal := hModRefIdeal)
    ∧ preserves_Proj_ProjIdeal
    ∧ algebraic_ProjIdeal_ProjRefIdeal (hProjIdeal := hProjIdeal) (hProjRefIdeal := hProjRefIdeal)
    ∧ preserves_Pool_PoolIdeal
    ∧ algebraic_PoolIdeal_PoolRefIdeal (hPoolIdeal := hPoolIdeal) (hPoolRefIdeal := hPoolRefIdeal)
-- ==== Pre_attn_args.lean ====
abbrev S8x16384x128 : Shape := ⟨3, ![8, 16384, 128]⟩
abbrev S8x512x128 : Shape := ⟨3, ![8, 512, 128]⟩
abbrev S2x640x256 : Shape := ⟨3, ![2, 640, 256]⟩
abbrev S2x640x8192 : Shape := ⟨3, ![2, 640, 8192]⟩
abbrev S_ : Shape := ⟨0, ![]⟩
abbrev S2x8x80x256 : Shape := ⟨4, ![2, 8, 80, 256]⟩
abbrev S2x8x1x256 : Shape := ⟨4, ![2, 8, 1, 256]⟩
abbrev S2x8x256 : Shape := ⟨3, ![2, 8, 256]⟩
abbrev S2x8x80x8192 : Shape := ⟨4, ![2, 8, 80, 8192]⟩
abbrev S2x8x1x8192 : Shape := ⟨4, ![2, 8, 1, 8192]⟩
abbrev S2x8x8192 : Shape := ⟨3, ![2, 8, 8192]⟩

class Facts : Prop where
  bitsLt_bf16_f32 : FTy.bits .bf16 < FTy.bits .f32
  bcast_S_S8x16384x128 : S_.BroadcastsInDim S8x16384x128 (![] : Fin 0 → Fin S8x16384x128.rank)
  bcast_S_S8x512x128 : S_.BroadcastsInDim S8x512x128 (![] : Fin 0 → Fin S8x512x128.rank)
  shapeCasts_S2x640x256_S2x8x80x256 : S2x640x256.ShapeCasts S2x8x80x256
  slices_S2x8x80x256_S2x8x1x256_0_0_64_0 : S2x8x80x256.Slices ![0, 0, 64, 0] S2x8x1x256
  shapeCasts_S2x8x1x256_S2x8x256 : S2x8x1x256.ShapeCasts S2x8x256
  bcast_S_S2x8x256 : S_.BroadcastsInDim S2x8x256 (![] : Fin 0 → Fin S2x8x256.rank)
  shapeCasts_S2x640x8192_S2x8x80x8192 : S2x640x8192.ShapeCasts S2x8x80x8192
  slices_S2x8x80x8192_S2x8x1x8192_0_0_64_0 : S2x8x80x8192.Slices ![0, 0, 64, 0] S2x8x1x8192
  shapeCasts_S2x8x1x8192_S2x8x8192 : S2x8x1x8192.ShapeCasts S2x8x8192
  bcast_S_S2x8x8192 : S_.BroadcastsInDim S2x8x8192 (![] : Fin 0 → Fin S2x8x8192.rank)

variable [Facts]

def fn_part1 {F : FTy → Type} [FloatOps F] (main_v3 : IVec S8x16384x128 1) (main_v7 : IVec S8x512x128 1) (main_v11 : IVec S8x16384x128 1) (main_v17 : IVec S2x8x256 1) (main_v19 : FVec F S2x8x80x8192 .f32) : IVec S8x16384x128 1 × IVec S8x512x128 1 × IVec S8x16384x128 1 × IVec S2x8x256 1 × IVec S2x8x8192 1 :=
  let main_v20 : FVec F S2x8x1x8192 .f32 := (extractStridedSlice S2x8x1x8192 ![0, 0, 64, 0] · slices_S2x8x80x8192_S2x8x1x8192_0_0_64_0) main_v19
  let main_v21 : FVec F S2x8x8192 .f32 := shapeCast S2x8x8192 main_v20 shapeCasts_S2x8x1x8192_S2x8x8192
  let main_cst_3 : FVec F S_ .f32 := constant S_ .f32 0x3F800000#32
  let main_v22 : FVec F S2x8x8192 .f32 := broadcastInDim S2x8x8192 ![] bcast_S_S2x8x8192 main_cst_3
  let main_v23 : IVec S2x8x8192 1 := cmpf .oeq main_v21 main_v22
  (main_v3, main_v7, main_v11, main_v17, main_v23)

def fn {F : FTy → Type} [FloatOps F] (main_arg0 : FVec F S8x16384x128 .bf16) (main_arg1 : FVec F S8x512x128 .bf16) (main_arg2 : FVec F S2x640x256 .bf16) (main_arg3 : FVec F S8x16384x128 .bf16) (main_arg4 : FVec F S2x640x8192 .bf16) : IVec S8x16384x128 1 × IVec S8x512x128 1 × IVec S8x16384x128 1 × IVec S2x8x256 1 × IVec S2x8x8192 1 :=
  let main_v0 : FVec F S8x16384x128 .f32 := (extf .f32 · bitsLt_bf16_f32) main_arg0
  let main_v1 : FVec F S8x16384x128 .f32 := Host.absf main_v0
  let main_cst : FVec F S_ .f32 := constant S_ .f32 0x7F800000#32
  let main_v2 : FVec F S8x16384x128 .f32 := broadcastInDim S8x16384x128 ![] bcast_S_S8x16384x128 main_cst
  let main_v3 : IVec S8x16384x128 1 := cmpf .olt main_v1 main_v2
  let main_v4 : FVec F S8x512x128 .f32 := (extf .f32 · bitsLt_bf16_f32) main_arg1
  let main_v5 : FVec F S8x512x128 .f32 := Host.absf main_v4
  let main_cst_0 : FVec F S_ .f32 := constant S_ .f32 0x7F800000#32
  let main_v6 : FVec F S8x512x128 .f32 := broadcastInDim S8x512x128 ![] bcast_S_S8x512x128 main_cst_0
  let main_v7 : IVec S8x512x128 1 := cmpf .olt main_v5 main_v6
  let main_v8 : FVec F S8x16384x128 .f32 := (extf .f32 · bitsLt_bf16_f32) main_arg3
  let main_v9 : FVec F S8x16384x128 .f32 := Host.absf main_v8
  let main_cst_1 : FVec F S_ .f32 := constant S_ .f32 0x7F800000#32
  let main_v10 : FVec F S8x16384x128 .f32 := broadcastInDim S8x16384x128 ![] bcast_S_S8x16384x128 main_cst_1
  let main_v11 : IVec S8x16384x128 1 := cmpf .olt main_v9 main_v10
  let main_v12 : FVec F S2x640x256 .f32 := (extf .f32 · bitsLt_bf16_f32) main_arg2
  let main_v13 : FVec F S2x8x80x256 .f32 := shapeCast S2x8x80x256 main_v12 shapeCasts_S2x640x256_S2x8x80x256
  let main_v14 : FVec F S2x8x1x256 .f32 := (extractStridedSlice S2x8x1x256 ![0, 0, 64, 0] · slices_S2x8x80x256_S2x8x1x256_0_0_64_0) main_v13
  let main_v15 : FVec F S2x8x256 .f32 := shapeCast S2x8x256 main_v14 shapeCasts_S2x8x1x256_S2x8x256
  let main_cst_2 : FVec F S_ .f32 := constant S_ .f32 0x3F800000#32
  let main_v16 : FVec F S2x8x256 .f32 := broadcastInDim S2x8x256 ![] bcast_S_S2x8x256 main_cst_2
  let main_v17 : IVec S2x8x256 1 := cmpf .oeq main_v15 main_v16
  let main_v18 : FVec F S2x640x8192 .f32 := (extf .f32 · bitsLt_bf16_f32) main_arg4
  let main_v19 : FVec F S2x8x80x8192 .f32 := shapeCast S2x8x80x8192 main_v18 shapeCasts_S2x640x8192_S2x8x80x8192
  fn_part1 (F := F) main_v3 main_v7 main_v11 main_v17 main_v19
-- ==== Kernel.lean ====
abbrev S8x16384x128 : Shape := ⟨3, ![8, 16384, 128]⟩
abbrev S8x512x128 : Shape := ⟨3, ![8, 512, 128]⟩
abbrev S2x640x256 : Shape := ⟨3, ![2, 640, 256]⟩
abbrev S2x640x8192 : Shape := ⟨3, ![2, 640, 8192]⟩
abbrev S16384x512 : Shape := ⟨2, ![16384, 512]⟩
abbrev S2x256x128 : Shape := ⟨3, ![2, 256, 128]⟩
abbrev S1x160x256 : Shape := ⟨3, ![1, 160, 256]⟩
abbrev S2x8192x128 : Shape := ⟨3, ![2, 8192, 128]⟩
abbrev S1x160x8192 : Shape := ⟨3, ![1, 160, 8192]⟩
abbrev S256x128 : Shape := ⟨2, ![256, 128]⟩
abbrev S1x256x128 : Shape := ⟨3, ![1, 256, 128]⟩
abbrev S1x256 : Shape := ⟨2, ![1, 256]⟩
abbrev S80x256 : Shape := ⟨2, ![80, 256]⟩
abbrev S1x80x256 : Shape := ⟨3, ![1, 80, 256]⟩
abbrev S256x256 : Shape := ⟨2, ![256, 256]⟩
abbrev S256 : Shape := ⟨1, ![256]⟩
abbrev S1x512x128 : Shape := ⟨3, ![1, 512, 128]⟩
abbrev S512x128 : Shape := ⟨2, ![512, 128]⟩
abbrev S1x80x512 : Shape := ⟨3, ![1, 80, 512]⟩
abbrev S80x512 : Shape := ⟨2, ![80, 512]⟩
abbrev S512x256 : Shape := ⟨2, ![512, 256]⟩
abbrev S64x256 : Shape := ⟨2, ![64, 256]⟩
abbrev S128x256 : Shape := ⟨2, ![128, 256]⟩

abbrev nBuf : Space → Nat
  | .hbm => 6
  | .vmem => 12
  | .smem => 0
  | _ => 0

abbrev bufTy : (tb : Table) → Fin (tcTables nBuf tb) → BufTy
  | .hbm, ⟨0, _⟩ => ⟨S8x16384x128, .bf16⟩
  | .hbm, ⟨1, _⟩ => ⟨S8x512x128, .bf16⟩
  | .hbm, ⟨2, _⟩ => ⟨S2x640x256, .bf16⟩
  | .hbm, ⟨3, _⟩ => ⟨S8x16384x128, .bf16⟩
  | .hbm, ⟨4, _⟩ => ⟨S2x640x8192, .bf16⟩
  | .hbm, ⟨5, _⟩ => ⟨S16384x512, .bf16⟩
  | .local _ .vmem, ⟨0, _⟩ => ⟨S2x256x128, .bf16⟩
  | .local _ .vmem, ⟨1, _⟩ => ⟨S2x256x128, .bf16⟩
  | .local _ .vmem, ⟨2, _⟩ => ⟨S2x256x128, .bf16⟩
  | .local _ .vmem, ⟨3, _⟩ => ⟨S2x256x128, .bf16⟩
  | .local _ .vmem, ⟨4, _⟩ => ⟨S1x160x256, .bf16⟩
  | .local _ .vmem, ⟨5, _⟩ => ⟨S1x160x256, .bf16⟩
  | .local _ .vmem, ⟨6, _⟩ => ⟨S2x8192x128, .bf16⟩
  | .local _ .vmem, ⟨7, _⟩ => ⟨S2x8192x128, .bf16⟩
  | .local _ .vmem, ⟨8, _⟩ => ⟨S1x160x8192, .bf16⟩
  | .local _ .vmem, ⟨9, _⟩ => ⟨S1x160x8192, .bf16⟩
  | .local _ .vmem, ⟨10, _⟩ => ⟨S256x128, .bf16⟩
  | .local _ .vmem, ⟨11, _⟩ => ⟨S256x128, .bf16⟩
  | _, _ => ⟨S8x16384x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 4, 32], ![false, false, false]⟩

@[reducible] def k0_t1_loop : Scf.Loop 32 :=
  let c0_i32 : BitVec 32 := 0#32
  let c16_i32 : BitVec 32 := 16#32
  let v26 : BitVec 32 := Scalar.addi c0_i32 c16_i32
  let c1_i32 : BitVec 32 := 1#32
  ⟨c0_i32, v26, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c512_i32 : BitVec 32 := 512#32
  let v68 : BitVec 32 := Scalar.muli arg9 c512_i32
  v68
def k0_off1 (k0_t1 : Fin k0_t1_loop.trips) : Fin 3 → Nat :=
  let c0_33 : Index := 0#32
  let c0_i32 : BitVec 32 := 0#32
  let c1_i32 : BitVec 32 := 1#32
  let arg9 : BitVec 32 := Scf.iv c0_i32 c1_i32 k0_t1
  let c512_i32 : BitVec 32 := 512#32
  let v68 : BitVec 32 := Scalar.muli arg9 c512_i32
  let v69 : BitVec 32 := v68
  let v70 : Index := Scalar.indexCast v69
  let c0_34 : Index := 0#32
  ![0, v70.toNat, 0]
def k0_off2 (k0_t1 : Fin k0_t1_loop.trips) : Fin 3 → Nat :=
  let c0_35 : Index := 0#32
  let c0_36 : Index := 0#32
  let c0_i32 : BitVec 32 := 0#32
  let c1_i32 : BitVec 32 := 1#32
  let arg9 : BitVec 32 := Scf.iv c0_i32 c1_i32 k0_t1
  let c512_i32 : BitVec 32 := 512#32
  let v68 : BitVec 32 := Scalar.muli arg9 c512_i32
  let v69 : BitVec 32 := v68
  let v73 : Index := Scalar.indexCast v69
  ![0, 0, v73.toNat]
@[reducible] def k0_t2_loop : Scf.Loop 32 :=
  let c0_i32_27 : BitVec 32 := 0#32
  let c16_i32_28 : BitVec 32 := 16#32
  let v58 : BitVec 32 := Scalar.addi c0_i32_27 c16_i32_28
  let c1_i32_29 : BitVec 32 := 1#32
  ⟨c0_i32_27, v58, c1_i32_29⟩
def k0_mult2 (k0_t2 : Fin k0_t2_loop.trips) : BitVec 32 :=
  let c0_i32_27 : BitVec 32 := 0#32
  let c1_i32_29 : BitVec 32 := 1#32
  let arg9 : BitVec 32 := Scf.iv c0_i32_27 c1_i32_29 k0_t2
  let c512_i32 : BitVec 32 := 512#32
  let v68 : BitVec 32 := Scalar.muli arg9 c512_i32
  v68
def k0_off3 (k0_t2 : Fin k0_t2_loop.trips) : Fin 3 → Nat :=
  let c1_33 : Index := 1#32
  let c0_i32_27 : BitVec 32 := 0#32
  let c1_i32_29 : BitVec 32 := 1#32
  let arg9 : BitVec 32 := Scf.iv c0_i32_27 c1_i32_29 k0_t2
  let c512_i32 : BitVec 32 := 512#32
  let v68 : BitVec 32 := Scalar.muli arg9 c512_i32
  let v69 : BitVec 32 := v68
  let v70 : Index := Scalar.indexCast v69
  let c0_34 : Index := 0#32
  ![1, v70.toNat, 0]
def k0_off4 (k0_t2 : Fin k0_t2_loop.trips) : Fin 3 → Nat :=
  let c0_35 : Index := 0#32
  let c80_36 : Index := 80#32
  let c0_i32_27 : BitVec 32 := 0#32
  let c1_i32_29 : BitVec 32 := 1#32
  let arg9 : BitVec 32 := Scf.iv c0_i32_27 c1_i32_29 k0_t2
  let c512_i32 : BitVec 32 := 512#32
  let v68 : BitVec 32 := Scalar.muli arg9 c512_i32
  let v69 : BitVec 32 := v68
  let v73 : Index := Scalar.indexCast v69
  ![0, 80, v73.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  let c0_i32_0 : BitVec 32 := 0#32
  ![arg1.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 2 → Memref sig .tc .vmem S2x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x160x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2x8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x160x8192 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "qscale" => some (((Real.sqrt 96)⁻¹ * (Real.log 2)⁻¹ : ℝ) : EReal)
  | _ => none
-- ==== ReferenceIdeal.lean ====
abbrev S8x16384x128 : Shape := ⟨3, ![8, 16384, 128]⟩
abbrev S8x512x128 : Shape := ⟨3, ![8, 512, 128]⟩
abbrev S2x640x256 : Shape := ⟨3, ![2, 640, 256]⟩
abbrev S2x640x8192 : Shape := ⟨3, ![2, 640, 8192]⟩
abbrev S8x2x8192x128 : Shape := ⟨4, ![8, 2, 8192, 128]⟩
abbrev S8x2x256x128 : Shape := ⟨4, ![8, 2, 256, 128]⟩
abbrev S8x2x8448x128 : Shape := ⟨4, ![8, 2, 8448, 128]⟩
abbrev S2x640x8448 : Shape := ⟨3, ![2, 640, 8448]⟩
abbrev S2x8x80x8448 : Shape := ⟨4, ![2, 8, 80, 8448]⟩
abbrev S2x8x64x8448 : Shape := ⟨4, ![2, 8, 64, 8448]⟩
abbrev S2x8x8192x8448 : Shape := ⟨4, ![2, 8, 8192, 8448]⟩
abbrev S_ : Shape := ⟨0, ![]⟩
abbrev S2x8x8192 : Shape := ⟨3, ![2, 8, 8192]⟩
abbrev S2x8x8192x1 : Shape := ⟨4, ![2, 8, 8192, 1]⟩
abbrev S2x8x64x8192 : Shape := ⟨4, ![2, 8, 64, 8192]⟩
abbrev S2x8192x8x64 : Shape := ⟨4, ![2, 8192, 8, 64]⟩
abbrev S16384x512 : Shape := ⟨2, ![16384, 512]⟩

abbrev nBuf : Space → Nat
  | .hbm => 40
  | .vmem => 0
  | .smem => 0
  | _ => 0

abbrev bufTy : (tb : Table) → Fin (tcTables nBuf tb) → BufTy
  | .hbm, ⟨0, _⟩ => ⟨S8x16384x128, .bf16⟩
  | .hbm, ⟨1, _⟩ => ⟨S8x512x128, .bf16⟩
  | .hbm, ⟨2, _⟩ => ⟨S2x640x256, .bf16⟩
  | .hbm, ⟨3, _⟩ => ⟨S8x16384x128, .bf16⟩
  | .hbm, ⟨4, _⟩ => ⟨S2x640x8192, .bf16⟩
  | .hbm, ⟨5, _⟩ => ⟨S8x16384x128, .f32⟩
  | .hbm, ⟨6, _⟩ => ⟨S8x2x8192x128, .f32⟩
  | .hbm, ⟨7, _⟩ => ⟨S8x512x128, .f32⟩
  | .hbm, ⟨8, _⟩ => ⟨S8x2x256x128, .f32⟩
  | .hbm, ⟨9, _⟩ => ⟨S8x16384x128, .f32⟩
  | .hbm, ⟨10, _⟩ => ⟨S8x2x8192x128, .f32⟩
  | .hbm, ⟨11, _⟩ => ⟨S8x2x8448x128, .f32⟩
  | .hbm, ⟨12, _⟩ => ⟨S2x640x256, .f32⟩
  | .hbm, ⟨13, _⟩ => ⟨S2x640x8192, .f32⟩
  | .hbm, ⟨14, _⟩ => ⟨S2x640x8448, .f32⟩
  | .hbm, ⟨15, _⟩ => ⟨S2x8x80x8448, .f32⟩
  | .hbm, ⟨16, _⟩ => ⟨S2x8x64x8448, .f32⟩
  | .hbm, ⟨17, _⟩ => ⟨S2x8x8192x8448, .f32⟩
  | .hbm, ⟨18, _⟩ => ⟨S_, .f32⟩
  | .hbm, ⟨19, _⟩ => ⟨S_, .f32⟩
  | .hbm, ⟨20, _⟩ => ⟨S2x8x8192x8448, .f32⟩
  | .hbm, ⟨21, _⟩ => ⟨S2x8x8192x8448, .f32⟩
  | .hbm, ⟨22, _⟩ => ⟨S_, .f32⟩
  | .hbm, ⟨23, _⟩ => ⟨S2x8x8192, .f32⟩
  | .hbm, ⟨24, _⟩ => ⟨S_, .f32⟩
  | .hbm, ⟨25, _⟩ => ⟨S2x8x8192, .f32⟩
  | .hbm, ⟨26, _⟩ => ⟨S2x8x8192, .f32⟩
  | .hbm, ⟨27, _⟩ => ⟨S2x8x8192x1, .f32⟩
  | .hbm, ⟨28, _⟩ => ⟨S2x8x8192x8448, .f32⟩
  | .hbm, ⟨29, _⟩ => ⟨S2x8x8192x8448, .f32⟩
  | .hbm, ⟨30, _⟩ => ⟨S2x8x8192x8448, .f32⟩
  | .hbm, ⟨31, _⟩ => ⟨S_, .f32⟩
  | .hbm, ⟨32, _⟩ => ⟨S2x8x8192, .f32⟩
  | .hbm, ⟨33, _⟩ => ⟨S2x8x8192x1, .f32⟩
  | .hbm, ⟨34, _⟩ => ⟨S2x8x8192x8448, .f32⟩
  | .hbm, ⟨35, _⟩ => ⟨S2x8x8192x8448, .f32⟩
  | .hbm, ⟨36, _⟩ => ⟨S2x8x64x8192, .f32⟩
  | .hbm, ⟨37, _⟩ => ⟨S2x8192x8x64, .f32⟩
  | .hbm, ⟨38, _⟩ => ⟨S16384x512, .f32⟩
  | .hbm, ⟨39, _⟩ => ⟨S16384x512, .bf16⟩
  | _, _ => ⟨S8x16384x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== Ffn.lean ====
abbrev S16384x1024 : Shape := ⟨2, ![16384, 1024]⟩
abbrev S2x1x1024 : Shape := ⟨3, ![2, 1, 1024]⟩
abbrev S16384x1 : Shape := ⟨2, ![16384, 1]⟩
abbrev S1024x2816 : Shape := ⟨2, ![1024, 2816]⟩
abbrev S2816x1024 : Shape := ⟨2, ![2816, 1024]⟩
abbrev S256x1024 : Shape := ⟨2, ![256, 1024]⟩
abbrev S1x1x1024 : Shape := ⟨3, ![1, 1, 1024]⟩
abbrev S256x1 : Shape := ⟨2, ![256, 1]⟩
abbrev S256x2816 : Shape := ⟨2, ![256, 2816]⟩
abbrev S1x1024 : Shape := ⟨2, ![1, 1024]⟩

abbrev nBuf : Space → Nat
  | .hbm => 11
  | .vmem => 13
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S2x1x1024, .f32⟩
  | .hbm, ⟨3, _⟩ => ⟨S16384x1, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S16384x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S1x1x1024, .f32⟩
  | .local _ .vmem, ⟨5, _⟩ => ⟨S1x1x1024, .f32⟩
  | .local _ .vmem, ⟨6, _⟩ => ⟨S256x1, .f32⟩
  | .local _ .vmem, ⟨7, _⟩ => ⟨S256x1, .f32⟩
  | .local _ .vmem, ⟨8, _⟩ => ⟨S1024x2816, .bf16⟩
  | .local _ .vmem, ⟨9, _⟩ => ⟨S1024x2816, .bf16⟩
  | .local _ .vmem, ⟨10, _⟩ => ⟨S2816x1024, .bf16⟩
  | .local _ .vmem, ⟨11, _⟩ => ⟨S256x1024, .f32⟩
  | .local _ .vmem, ⟨12, _⟩ => ⟨S256x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnRefIdeal.lean ====
abbrev S16384x1024 : Shape := ⟨2, ![16384, 1024]⟩
abbrev S2x1x1024 : Shape := ⟨3, ![2, 1, 1024]⟩
abbrev S16384x1 : Shape := ⟨2, ![16384, 1]⟩
abbrev S1024x2816 : Shape := ⟨2, ![1024, 2816]⟩
abbrev S2816x1024 : Shape := ⟨2, ![2816, 1024]⟩
abbrev S2x8192x1024 : Shape := ⟨3, ![2, 8192, 1024]⟩
abbrev S2x8192x1 : Shape := ⟨3, ![2, 8192, 1]⟩
abbrev S2x8192x2816 : Shape := ⟨3, ![2, 8192, 2816]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S2x1x1024, .f32⟩
  | .hbm, ⟨3, _⟩ => ⟨S16384x1, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S16384x1024, .f32⟩
  | .hbm, ⟨8, _⟩ => ⟨S2x8192x1024, .f32⟩
  | .hbm, ⟨9, _⟩ => ⟨S2x8192x1, .f32⟩
  | .hbm, ⟨10, _⟩ => ⟨S2x8192x2816, .f32⟩
  | .hbm, ⟨11, _⟩ => ⟨S2x8192x2816, .f32⟩
  | .hbm, ⟨12, _⟩ => ⟨S2x8192x2816, .f32⟩
  | .hbm, ⟨13, _⟩ => ⟨S_, .f32⟩
  | .hbm, ⟨14, _⟩ => ⟨S2x8192x2816, .f32⟩
  | .hbm, ⟨15, _⟩ => ⟨S2x8192x2816, .f32⟩
  | .hbm, ⟨16, _⟩ => ⟨S_, .f32⟩
  | .hbm, ⟨17, _⟩ => ⟨S2x8192x2816, .f32⟩
  | .hbm, ⟨18, _⟩ => ⟨S2x8192x2816, .f32⟩
  | .hbm, ⟨19, _⟩ => ⟨S2x8192x2816, .f32⟩
  | .hbm, ⟨20, _⟩ => ⟨S2x8192x2816, .f32⟩
  | .hbm, ⟨21, _⟩ => ⟨S2x8192x2816, .f32⟩
  | .hbm, ⟨22, _⟩ => ⟨S2x8192x1024, .f32⟩
  | .hbm, ⟨23, _⟩ => ⟨S2x8192x1024, .f32⟩
  | .hbm, ⟨24, _⟩ => ⟨S2x8192x1024, .f32⟩
  | .hbm, ⟨25, _⟩ => ⟨S2x8192x1024, .f32⟩
  | .hbm, ⟨26, _⟩ => ⟨S2x8192x1024, .f32⟩
  | .hbm, ⟨27, _⟩ => ⟨S2x8192x1024, .f32⟩
  | .hbm, ⟨28, _⟩ => ⟨S2x8192x1024, .f32⟩
  | .hbm, ⟨29, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩

abbrev nD : Nat := 1
abbrev τ : Topo := Topo.v7x

variable {F : FTy → Type} [FloatOps F]
-- ==== Merge.lean ====
abbrev S16384x512 : Shape := ⟨2, ![16384, 512]⟩
abbrev S16384x3072 : Shape := ⟨2, ![16384, 3072]⟩
abbrev S16384x1024 : Shape := ⟨2, ![16384, 1024]⟩
abbrev S2x3x1024 : Shape := ⟨3, ![2, 3, 1024]⟩
abbrev S512x1024 : Shape := ⟨2, ![512, 1024]⟩
abbrev S1024x1024 : Shape := ⟨2, ![1024, 1024]⟩
abbrev S1024 : Shape := ⟨1, ![1024]⟩
abbrev S1x1024 : Shape := ⟨2, ![1, 1024]⟩
abbrev S256x512 : Shape := ⟨2, ![256, 512]⟩
abbrev S256x3072 : Shape := ⟨2, ![256, 3072]⟩
abbrev S256x1024 : Shape := ⟨2, ![256, 1024]⟩
abbrev S1x3x1024 : Shape := ⟨3, ![1, 3, 1024]⟩
abbrev S3x1024 : Shape := ⟨2, ![3, 1024]⟩
abbrev S256 : Shape := ⟨1, ![256]⟩
abbrev S256x1 : Shape := ⟨2, ![256, 1]⟩

abbrev nBuf : Space → Nat
  | .hbm => 18
  | .vmem => 21
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x3072, .bf16⟩
  | .hbm, ⟨4, _⟩ => ⟨S16384x1024, .f32⟩
  | .hbm, ⟨5, _⟩ => ⟨S2x3x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1024, .f32⟩
  | .hbm, ⟨11, _⟩ => ⟨S512x1024, .bf16⟩
  | .hbm, ⟨12, _⟩ => ⟨S512x1024, .bf16⟩
  | .hbm, ⟨13, _⟩ => ⟨S512x1024, .bf16⟩
  | .hbm, ⟨14, _⟩ => ⟨S1024x1024, .bf16⟩
  | .hbm, ⟨15, _⟩ => ⟨S1x1024, .f32⟩
  | .hbm, ⟨16, _⟩ => ⟨S16384x1024, .f32⟩
  | .hbm, ⟨17, _⟩ => ⟨S16384x1024, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x3072, .bf16⟩
  | .local _ .vmem, ⟨7, _⟩ => ⟨S256x3072, .bf16⟩
  | .local _ .vmem, ⟨8, _⟩ => ⟨S256x1024, .f32⟩
  | .local _ .vmem, ⟨9, _⟩ => ⟨S256x1024, .f32⟩
  | .local _ .vmem, ⟨10, _⟩ => ⟨S1x3x1024, .f32⟩
  | .local _ .vmem, ⟨11, _⟩ => ⟨S1x3x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S1024x1024, .bf16⟩
  | .local _ .vmem, ⟨16, _⟩ => ⟨S1x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .bf16⟩
  | .local _ .vmem, ⟨20, _⟩ => ⟨S256x1024, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x3x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MergeRefIdeal.lean ====
abbrev S16384x512 : Shape := ⟨2, ![16384, 512]⟩
abbrev S16384x3072 : Shape := ⟨2, ![16384, 3072]⟩
abbrev S16384x1024 : Shape := ⟨2, ![16384, 1024]⟩
abbrev S2x3x1024 : Shape := ⟨3, ![2, 3, 1024]⟩
abbrev S512x1024 : Shape := ⟨2, ![512, 1024]⟩
abbrev S1024x1024 : Shape := ⟨2, ![1024, 1024]⟩
abbrev S1024 : Shape := ⟨1, ![1024]⟩
abbrev S2x8192x3x1024 : Shape := ⟨4, ![2, 8192, 3, 1024]⟩
abbrev S2x8192x512 : Shape := ⟨3, ![2, 8192, 512]⟩
abbrev S2x8192x1x1024 : Shape := ⟨4, ![2, 8192, 1, 1024]⟩
abbrev S2x8192x1024 : Shape := ⟨3, ![2, 8192, 1024]⟩
abbrev S2x1x1024 : Shape := ⟨3, ![2, 1, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 67
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x3072, .bf16⟩
  | .hbm, ⟨4, _⟩ => ⟨S16384x1024, .f32⟩
  | .hbm, ⟨5, _⟩ => ⟨S2x3x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1024, .f32⟩
  | .hbm, ⟨11, _⟩ => ⟨S16384x3072, .f32⟩
  | .hbm, ⟨12, _⟩ => ⟨S2x8192x3x1024, .f32⟩
  | .hbm, ⟨13, _⟩ => ⟨S16384x512, .f32⟩
  | .hbm, ⟨14, _⟩ => ⟨S2x8192x512, .f32⟩
  | .hbm, ⟨15, _⟩ => ⟨S16384x512, .f32⟩
  | .hbm, ⟨16, _⟩ => ⟨S2x8192x512, .f32⟩
  | .hbm, ⟨17, _⟩ => ⟨S16384x512, .f32⟩
  | .hbm, ⟨18, _⟩ => ⟨S2x8192x512, .f32⟩
  | .hbm, ⟨19, _⟩ => ⟨S2x8192x1x1024, .f32⟩
  | .hbm, ⟨20, _⟩ => ⟨S2x8192x1024, .f32⟩
  | .hbm, ⟨21, _⟩ => ⟨S2x8192x1024, .f32⟩
  | .hbm, ⟨22, _⟩ => ⟨S2x8192x1024, .f32⟩
  | .hbm, ⟨23, _⟩ => ⟨S2x8192x1x1024, .f32⟩
  | .hbm, ⟨24, _⟩ => ⟨S2x8192x1024, .f32⟩
  | .hbm, ⟨25, _⟩ => ⟨S2x8192x1024, .f32⟩
  | .hbm, ⟨26, _⟩ => ⟨S2x8192x1024, .f32⟩
  | .hbm, ⟨27, _⟩ => ⟨S2x8192x1024, .f32⟩
  | .hbm, ⟨28, _⟩ => ⟨S2x8192x1x1024, .f32⟩
  | .hbm, ⟨29, _⟩ => ⟨S2x8192x1024, .f32⟩
  | .hbm, ⟨30, _⟩ => ⟨S2x8192x1024, .f32⟩
  | .hbm, ⟨31, _⟩ => ⟨S2x8192x1024, .f32⟩
  | .hbm, ⟨32, _⟩ => ⟨S2x8192x1024, .f32⟩
  | .hbm, ⟨33, _⟩ => ⟨S2x1x1024, .f32⟩
  | .hbm, ⟨34, _⟩ => ⟨S2x1x1024, .f32⟩
  | .hbm, ⟨35, _⟩ => ⟨S2x1x1024, .f32⟩
  | .hbm, ⟨36, _⟩ => ⟨S2x8192x1024, .f32⟩
  | .hbm, ⟨37, _⟩ => ⟨S2x8192x1024, .f32⟩
  | .hbm, ⟨38, _⟩ => ⟨S2x8192x1024, .f32⟩
  | .hbm, ⟨39, _⟩ => ⟨S2x8192x1024, .f32⟩
  | .hbm, ⟨40, _⟩ => ⟨S2x8192x1024, .f32⟩
  | .hbm, ⟨41, _⟩ => ⟨S2x8192x1024, .f32⟩
  | .hbm, ⟨42, _⟩ => ⟨S_, .f32⟩
  | .hbm, ⟨43, _⟩ => ⟨S2x8192, .f32⟩
  | .hbm, ⟨44, _⟩ => ⟨S2x8192x1, .f32⟩
  | .hbm, ⟨45, _⟩ => ⟨S_, .f32⟩
  | .hbm, ⟨46, _⟩ => ⟨S2x8192x1, .f32⟩
  | .hbm, ⟨47, _⟩ => ⟨S2x8192x1, .f32⟩
  | .hbm, ⟨48, _⟩ => ⟨S_, .f32⟩
  | .hbm, ⟨49, _⟩ => ⟨S2x8192x1, .f32⟩
  | .hbm, ⟨50, _⟩ => ⟨S2x8192x1, .f32⟩
  | .hbm, ⟨51, _⟩ => ⟨S2x8192x1, .f32⟩
  | .hbm, ⟨52, _⟩ => ⟨S2x8192x1024, .f32⟩
  | .hbm, ⟨53, _⟩ => ⟨S2x8192x1024, .f32⟩
  | .hbm, ⟨54, _⟩ => ⟨S1x1x1024, .f32⟩
  | .hbm, ⟨55, _⟩ => ⟨S2x8192x1024, .f32⟩
  | .hbm, ⟨56, _⟩ => ⟨S2x8192x1024, .f32⟩
  | .hbm, ⟨57, _⟩ => ⟨S_, .f32⟩
  | .hbm, ⟨58, _⟩ => ⟨S2x1x1024, .f32⟩
  | .hbm, ⟨59, _⟩ => ⟨S2x1x1024, .f32⟩
  | .hbm, ⟨60, _⟩ => ⟨S2x8192x1024, .f32⟩
  | .hbm, ⟨61, _⟩ => ⟨S2x8192x1024, .f32⟩
  | .hbm, ⟨62, _⟩ => ⟨S2x8192x1024, .f32⟩
  | .hbm, ⟨63, _⟩ => ⟨S2x8192x1024, .f32⟩
  | .hbm, ⟨64, _⟩ => ⟨S16384x1024, .f32⟩
  | .hbm, ⟨65, _⟩ => ⟨S16384x1024, .f32⟩
  | .hbm, ⟨66, _⟩ => ⟨S16384x1024, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst : Ref sig .tc := ⟨.hbm, 42, rfl⟩
abbrev main_v31 : Ref sig .tc := ⟨.hbm, 43, rfl⟩
abbrev main_v32 : Ref sig .tc := ⟨.hbm, 44, rfl⟩
abbrev main_cst_0 : Ref sig .tc := ⟨.hbm, 45, rfl⟩
abbrev main_v33 : Ref sig .tc := ⟨.hbm, 46, rfl⟩
abbrev main_v34 : Ref sig .tc := ⟨.hbm, 47, rfl⟩
abbrev main_cst_1 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_2 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩

abbrev nD : Nat := 1
abbrev τ : Topo := Topo.v7x

variable {F : FTy → Type} [FloatOps F]
-- ==== Norm.lean ====
abbrev S16384x1024 : Shape := ⟨2, ![16384, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024, .f32⟩
  | .hbm, ⟨3, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x1024, .f32⟩
  | .hbm, ⟨14, _⟩ => ⟨S16384x1024, .f32⟩
  | .hbm, ⟨15, _⟩ => ⟨S1x1024, .f32⟩
  | .hbm, ⟨16, _⟩ => ⟨S16384x1024, .f32⟩
  | .hbm, ⟨17, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Mod.lean ====
abbrev S2x1024 : Shape := ⟨2, ![2, 1024]⟩
abbrev S1024 : Shape := ⟨1, ![1024]⟩
abbrev S2x1024x6144 : Shape := ⟨3, ![2, 1024, 6144]⟩
abbrev S2x6144 : Shape := ⟨2, ![2, 6144]⟩
abbrev S1x1024 : Shape := ⟨2, ![1, 1024]⟩
abbrev S_ : Shape := ⟨0, ![]⟩
abbrev S5x1024 : Shape := ⟨2, ![5, 1024]⟩
abbrev S8x1024 : Shape := ⟨2, ![8, 1024]⟩
abbrev S2x1x6144 : Shape := ⟨3, ![2, 1, 6144]⟩
abbrev S2x8x6144 : Shape := ⟨3, ![2, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 10
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S_, .f32⟩
  | .hbm, ⟨6, _⟩ => ⟨S5x1024, .f32⟩
  | .hbm, ⟨7, _⟩ => ⟨S8x1024, .f32⟩
  | .hbm, ⟨8, _⟩ => ⟨S2x1x6144, .f32⟩
  | .hbm, ⟨9, _⟩ => ⟨S2x8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModRefIdeal.lean ====
abbrev S2x1024 : Shape := ⟨2, ![2, 1024]⟩
abbrev S1024 : Shape := ⟨1, ![1024]⟩
abbrev S2x1024x6144 : Shape := ⟨3, ![2, 1024, 6144]⟩
abbrev S2x6144 : Shape := ⟨2, ![2, 6144]⟩
abbrev S1x1024 : Shape := ⟨2, ![1, 1024]⟩
abbrev S_ : Shape := ⟨0, ![]⟩
abbrev S5x1024 : Shape := ⟨2, ![5, 1024]⟩
abbrev S8x1024 : Shape := ⟨2, ![8, 1024]⟩
abbrev S2x6144x8 : Shape := ⟨3, ![2, 6144, 8]⟩
abbrev S2x8x6144 : Shape := ⟨3, ![2, 8, 6144]⟩
abbrev S2x1x6144 : Shape := ⟨3, ![2, 1, 6144]⟩

abbrev nBuf : Space → Nat
  | .hbm => 22
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S_, .f32⟩
  | .hbm, ⟨6, _⟩ => ⟨S5x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S2x6144x8, .f32⟩
  | .hbm, ⟨18, _⟩ => ⟨S2x8x6144, .f32⟩
  | .hbm, ⟨19, _⟩ => ⟨S2x1x6144, .f32⟩
  | .hbm, ⟨20, _⟩ => ⟨S2x8x6144, .f32⟩
  | .hbm, ⟨21, _⟩ => ⟨S2x8x6144, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩

abbrev nD : Nat := 1
abbrev τ : Topo := Topo.v7x

variable {F : FTy → Type} [FloatOps F]
-- ==== Proj.lean ====
abbrev S16384x1024 : Shape := ⟨2, ![16384, 1024]⟩
abbrev S2x2x1024 : Shape := ⟨3, ![2, 2, 1024]⟩
abbrev S1024 : Shape := ⟨1, ![1024]⟩
abbrev S8192x2x8 : Shape := ⟨3, ![8192, 2, 8]⟩
abbrev S1024x4768 : Shape := ⟨2, ![1024, 4768]⟩
abbrev S3072 : Shape := ⟨1, ![3072]⟩
abbrev S384 : Shape := ⟨1, ![384]⟩
abbrev S384x8x96 : Shape := ⟨3, ![384, 8, 96]⟩
abbrev S256 : Shape := ⟨1, ![256]⟩
abbrev S256x8x128 : Shape := ⟨3, ![256, 8, 128]⟩
abbrev S32 : Shape := ⟨1, ![32]⟩
abbrev S640x1 : Shape := ⟨2, ![640, 1]⟩
abbrev S8192x2x16 : Shape := ⟨3, ![8192, 2, 16]⟩
abbrev S8192x32 : Shape := ⟨2, ![8192, 32]⟩
abbrev S1x8192x1x32 : Shape := ⟨4, ![1, 8192, 1, 32]⟩
abbrev S1x8192x8x32 : Shape := ⟨4, ![1, 8192, 8, 32]⟩
abbrev S8192x256 : Shape := ⟨2, ![8192, 256]⟩
abbrev S8192x512 : Shape := ⟨2, ![8192, 512]⟩
abbrev S_ : Shape := ⟨0, ![]⟩
abbrev S8192x64 : Shape := ⟨2, ![8192, 64]⟩
abbrev S8192x128 : Shape := ⟨2, ![8192, 128]⟩
abbrev S1024x32 : Shape := ⟨2, ![1024, 32]⟩
abbrev S1024x640 : Shape := ⟨2, ![1024, 640]⟩
abbrev S32x1 : Shape := ⟨2, ![32, 1]⟩
abbrev S1024x64 : Shape := ⟨2, ![1024, 64]⟩
abbrev S1024x768 : Shape := ⟨2, ![1024, 768]⟩
abbrev S384x8x64 : Shape := ⟨3, ![384, 8, 64]⟩
abbrev S384x8x128 : Shape := ⟨3, ![384, 8, 128]⟩
abbrev S384x8x32 : Shape := ⟨3, ![384, 8, 32]⟩
abbrev S384x256 : Shape := ⟨2, ![384, 256]⟩
abbrev S384x512 : Shape := ⟨2, ![384, 512]⟩
abbrev S256x8x64 : Shape := ⟨3, ![256, 8, 64]⟩
abbrev S256x8x80 : Shape := ⟨3, ![256, 8, 80]⟩
abbrev S1024x512 : Shape := ⟨2, ![1024, 512]⟩
abbrev S1024x3072 : Shape := ⟨2, ![1024, 3072]⟩
abbrev S1x3072 : Shape := ⟨2, ![1, 3072]⟩
abbrev S1x384 : Shape := ⟨2, ![1, 384]⟩
abbrev S384x1024 : Shape := ⟨2, ![384, 1024]⟩
abbrev S256x256 : Shape := ⟨2, ![256, 256]⟩
abbrev S256x8x32 : Shape := ⟨3, ![256, 8, 32]⟩
abbrev S256x1024 : Shape := ⟨2, ![256, 1024]⟩
abbrev S512x1024 : Shape := ⟨2, ![512, 1024]⟩
abbrev S1x256 : Shape := ⟨2, ![1, 256]⟩
abbrev S32x32 : Shape := ⟨2, ![32, 32]⟩
abbrev S32x1x32 : Shape := ⟨3, ![32, 1, 32]⟩
abbrev S1x32x1x1x1x32 : Shape := ⟨6, ![1, 32, 1, 1, 1, 32]⟩
abbrev S1x32x8x1x1x32 : Shape := ⟨6, ![1, 32, 8, 1, 1, 32]⟩
abbrev S32x8x32 : Shape := ⟨3, ![32, 8, 32]⟩
abbrev S32x8x128 : Shape := ⟨3, ![32, 8, 128]⟩
abbrev S32x1024 : Shape := ⟨2, ![32, 1024]⟩
abbrev S64x1024 : Shape := ⟨2, ![64, 1024]⟩
abbrev S128x1024 : Shape := ⟨2, ![128, 1024]⟩
abbrev S256x640 : Shape := ⟨2, ![256, 640]⟩
abbrev S640x256 : Shape := ⟨2, ![640, 256]⟩
abbrev S1x1024 : Shape := ⟨2, ![1, 1024]⟩
abbrev S8x16384x128 : Shape := ⟨3, ![8, 16384, 128]⟩
abbrev S2x640x8192 : Shape := ⟨3, ![2, 640, 8192]⟩
abbrev S16384x512 : Shape := ⟨2, ![16384, 512]⟩
abbrev S16384x3072 : Shape := ⟨2, ![16384, 3072]⟩
abbrev S1x2x1024 : Shape := ⟨3, ![1, 2, 1024]⟩
abbrev S256x512 : Shape := ⟨2, ![256, 512]⟩
abbrev S256x128 : Shape := ⟨2, ![256, 128]⟩
abbrev S8x256x128 : Shape := ⟨3, ![8, 256, 128]⟩
abbrev S1x640x256 : Shape := ⟨3, ![1, 640, 256]⟩
abbrev S256x3072 : Shape := ⟨2, ![256, 3072]⟩
abbrev S2x1024 : Shape := ⟨2, ![2, 1024]⟩
abbrev S256x1 : Shape := ⟨2, ![256, 1]⟩
abbrev S256x768 : Shape := ⟨2, ![256, 768]⟩
abbrev S1x256x128 : Shape := ⟨3, ![1, 256, 128]⟩
abbrev S256x384 : Shape := ⟨2, ![256, 384]⟩

abbrev nBuf : Space → Nat
  | .hbm => 122
  | .vmem => 35
  | .smem => 0
  | _ => 0

abbrev bufTy : (tb : Table) → Fin (tcTables nBuf tb) → BufTy
  | .hbm, ⟨0, _⟩ => ⟨S16384x1024, .f32⟩
  | .hbm, ⟨1, _⟩ => ⟨S2x2x1024, .f32⟩
  | .hbm, ⟨2, _⟩ => ⟨S1024, .f32⟩
  | .hbm, ⟨3, _⟩ => ⟨S8192x2x8, .f32⟩
  | .hbm, ⟨4, _⟩ => ⟨S8192x2x8, .f32⟩
  | .hbm, ⟨5, _⟩ => ⟨S1024x4768, .f32⟩
  | .hbm, ⟨6, _⟩ => ⟨S3072, .f32⟩
  | .hbm, ⟨7, _⟩ => ⟨S384, .f32⟩
  | .hbm, ⟨8, _⟩ => ⟨S384x8x96, .f32⟩
  | .hbm, ⟨9, _⟩ => ⟨S256, .f32⟩
  | .hbm, ⟨10, _⟩ => ⟨S256x8x128, .f32⟩
  | .hbm, ⟨11, _⟩ => ⟨S32, .i32⟩
  | .hbm, ⟨12, _⟩ => ⟨S32, .i1⟩
  | .hbm, ⟨13, _⟩ => ⟨S32, .i1⟩
  | .hbm, ⟨14, _⟩ => ⟨S640x1, .f32⟩
  | .hbm, ⟨15, _⟩ => ⟨S8192x2x16, .f32⟩
  | .hbm, ⟨16, _⟩ => ⟨S8192x32, .f32⟩
  | .hbm, ⟨17, _⟩ => ⟨S8192x2x8, .f32⟩
  | .hbm, ⟨18, _⟩ => ⟨S8192x2x16, .f32⟩
  | .hbm, ⟨19, _⟩ => ⟨S8192x32, .f32⟩
  | .hbm, ⟨20, _⟩ => ⟨S1x8192x1x32, .f32⟩
  | .hbm, ⟨21, _⟩ => ⟨S1x8192x8x32, .f32⟩
  | .hbm, ⟨22, _⟩ => ⟨S8192x256, .f32⟩
  | .hbm, ⟨23, _⟩ => ⟨S1x8192x1x32, .f32⟩
  | .hbm, ⟨24, _⟩ => ⟨S1x8192x8x32, .f32⟩
  | .hbm, ⟨25, _⟩ => ⟨S8192x256, .f32⟩
  | .hbm, ⟨26, _⟩ => ⟨S8192x512, .f32⟩
  | .hbm, ⟨27, _⟩ => ⟨S_, .f32⟩
  | .hbm, ⟨28, _⟩ => ⟨S8192x64, .f32⟩
  | .hbm, ⟨29, _⟩ => ⟨S8192x128, .f32⟩
  | .hbm, ⟨30, _⟩ => ⟨S1024x32, .f32⟩
  | .hbm, ⟨31, _⟩ => ⟨S1024x640, .f32⟩
  | .hbm, ⟨32, _⟩ => ⟨S_, .i32⟩
  | .hbm, ⟨33, _⟩ => ⟨S32, .i32⟩
  | .hbm, ⟨34, _⟩ => ⟨S32, .i32⟩
  | .hbm, ⟨35, _⟩ => ⟨S32, .i32⟩
  | .hbm, ⟨36, _⟩ => ⟨S32x1, .i32⟩
  | .hbm, ⟨37, _⟩ => ⟨S1024x32, .f32⟩
  | .hbm, ⟨38, _⟩ => ⟨S_, .f32⟩
  | .hbm, ⟨39, _⟩ => ⟨S1024x64, .f32⟩
  | .hbm, ⟨40, _⟩ => ⟨S1024x768, .f32⟩
  | .hbm, ⟨41, _⟩ => ⟨S384x8x64, .f32⟩
  | .hbm, ⟨42, _⟩ => ⟨S_, .i32⟩
  | .hbm, ⟨43, _⟩ => ⟨S_, .f32⟩
  | .hbm, ⟨44, _⟩ => ⟨S384x8x128, .f32⟩
  | .hbm, ⟨45, _⟩ => ⟨S384x8x32, .f32⟩
  | .hbm, ⟨46, _⟩ => ⟨S384x256, .f32⟩
  | .hbm, ⟨47, _⟩ => ⟨S_, .i32⟩
  | .hbm, ⟨48, _⟩ => ⟨S32, .i32⟩
  | .hbm, ⟨49, _⟩ => ⟨S32, .i32⟩
  | .hbm, ⟨50, _⟩ => ⟨S32, .i32⟩
  | .hbm, ⟨51, _⟩ => ⟨S32x1, .i32⟩
  | .hbm, ⟨52, _⟩ => ⟨S384x8x32, .f32⟩
  | .hbm, ⟨53, _⟩ => ⟨S384x256, .f32⟩
  | .hbm, ⟨54, _⟩ => ⟨S384x512, .f32⟩
  | .hbm, ⟨55, _⟩ => ⟨S256x8x64, .f32⟩
  | .hbm, ⟨56, _⟩ => ⟨S_, .i32⟩
  | .hbm, ⟨57, _⟩ => ⟨S_, .f32⟩
  | .hbm, ⟨58, _⟩ => ⟨S256x8x128, .f32⟩
  | .hbm, ⟨59, _⟩ => ⟨S256x8x64, .f32⟩
  | .hbm, ⟨60, _⟩ => ⟨S_, .i32⟩
  | .hbm, ⟨61, _⟩ => ⟨S_, .f32⟩
  | .hbm, ⟨62, _⟩ => ⟨S256x8x80, .f32⟩
  | .hbm, ⟨63, _⟩ => ⟨S1024x768, .bf16⟩
  | .hbm, ⟨64, _⟩ => ⟨S1024x512, .f32⟩
  | .hbm, ⟨65, _⟩ => ⟨S1024x512, .bf16⟩
  | .hbm, ⟨66, _⟩ => ⟨S1024x512, .f32⟩
  | .hbm, ⟨67, _⟩ => ⟨S1024x512, .bf16⟩
  | .hbm, ⟨68, _⟩ => ⟨S1024x3072, .f32⟩
  | .hbm, ⟨69, _⟩ => ⟨S1024x3072, .bf16⟩
  | .hbm, ⟨70, _⟩ => ⟨S1x3072, .f32⟩
  | .hbm, ⟨71, _⟩ => ⟨S1x384, .f32⟩
  | .hbm, ⟨72, _⟩ => ⟨S384x1024, .f32⟩
  | .hbm, ⟨73, _⟩ => ⟨S384x1024, .bf16⟩
  | .hbm, ⟨74, _⟩ => ⟨S384x512, .bf16⟩
  | .hbm, ⟨75, _⟩ => ⟨S256x256, .i32⟩
  | .hbm, ⟨76, _⟩ => ⟨S256x256, .i32⟩
  | .hbm, ⟨77, _⟩ => ⟨S_, .i32⟩
  | .hbm, ⟨78, _⟩ => ⟨S256x256, .i32⟩
  | .hbm, ⟨79, _⟩ => ⟨S256x256, .i32⟩
  | .hbm, ⟨80, _⟩ => ⟨S256x256, .i1⟩
  | .hbm, ⟨81, _⟩ => ⟨S256x256, .f32⟩
  | .hbm, ⟨82, _⟩ => ⟨S256x8x32, .f32⟩
  | .hbm, ⟨83, _⟩ => ⟨S_, .i32⟩
  | .hbm, ⟨84, _⟩ => ⟨S_, .f32⟩
  | .hbm, ⟨85, _⟩ => ⟨S256x8x128, .f32⟩
  | .hbm, ⟨86, _⟩ => ⟨S256x1024, .f32⟩
  | .hbm, ⟨87, _⟩ => ⟨S512x1024, .f32⟩
  | .hbm, ⟨88, _⟩ => ⟨S512x1024, .bf16⟩
  | .hbm, ⟨89, _⟩ => ⟨S1x256, .f32⟩
  | .hbm, ⟨90, _⟩ => ⟨S256x1024, .f32⟩
  | .hbm, ⟨91, _⟩ => ⟨S256x1024, .bf16⟩
  | .hbm, ⟨92, _⟩ => ⟨S32x32, .i32⟩
  | .hbm, ⟨93, _⟩ => ⟨S32x32, .i32⟩
  | .hbm, ⟨94, _⟩ => ⟨S_, .i32⟩
  | .hbm, ⟨95, _⟩ => ⟨S32x32, .i32⟩
  | .hbm, ⟨96, _⟩ => ⟨S32x32, .i32⟩
  | .hbm, ⟨97, _⟩ => ⟨S32x32, .i1⟩
  | .hbm, ⟨98, _⟩ => ⟨S32x32, .f32⟩
  | .hbm, ⟨99, _⟩ => ⟨S32x1x32, .f32⟩
  | .hbm, ⟨100, _⟩ => ⟨S1x32x1x1x1x32, .f32⟩
  | .hbm, ⟨101, _⟩ => ⟨S1x32x8x1x1x32, .f32⟩
  | .hbm, ⟨102, _⟩ => ⟨S32x8x32, .f32⟩
  | .hbm, ⟨103, _⟩ => ⟨S_, .i32⟩
  | .hbm, ⟨104, _⟩ => ⟨S_, .f32⟩
  | .hbm, ⟨105, _⟩ => ⟨S32x8x128, .f32⟩
  | .hbm, ⟨106, _⟩ => ⟨S32x1024, .f32⟩
  | .hbm, ⟨107, _⟩ => ⟨S64x1024, .f32⟩
  | .hbm, ⟨108, _⟩ => ⟨S_, .i32⟩
  | .hbm, ⟨109, _⟩ => ⟨S_, .f32⟩
  | .hbm, ⟨110, _⟩ => ⟨S128x1024, .f32⟩
  | .hbm, ⟨111, _⟩ => ⟨S128x1024, .bf16⟩
  | .hbm, ⟨112, _⟩ => ⟨S256x640, .f32⟩
  | .hbm, ⟨113, _⟩ => ⟨S640x256, .f32⟩
  | .hbm, ⟨114, _⟩ => ⟨S640x256, .bf16⟩
  | .hbm, ⟨115, _⟩ => ⟨S1x1024, .f32⟩
  | .hbm, ⟨116, _⟩ => ⟨S8x16384x128, .bf16⟩
  | .hbm, ⟨117, _⟩ => ⟨S8x16384x128, .bf16⟩
  | .hbm, ⟨118, _⟩ => ⟨S2x640x8192, .bf16⟩
  | .hbm, ⟨119, _⟩ => ⟨S16384x512, .f32⟩
  | .hbm, ⟨120, _⟩ => ⟨S16384x512, .bf16⟩
  | .hbm, ⟨121, _⟩ => ⟨S16384x3072, .bf16⟩
  | .local _ .vmem, ⟨0, _⟩ => ⟨S256x1024, .f32⟩
  | .local _ .vmem, ⟨1, _⟩ => ⟨S256x1024, .f32⟩
  | .local _ .vmem, ⟨2, _⟩ => ⟨S1x2x1024, .f32⟩
  | .local _ .vmem, ⟨3, _⟩ => ⟨S1x2x1024, .f32⟩
  | .local _ .vmem, ⟨4, _⟩ => ⟨S1x1024, .f32⟩
  | .local _ .vmem, ⟨5, _⟩ => ⟨S256x512, .f32⟩
  | .local _ .vmem, ⟨6, _⟩ => ⟨S256x512, .f32⟩
  | .local _ .vmem, ⟨7, _⟩ => ⟨S256x128, .f32⟩
  | .local _ .vmem, ⟨8, _⟩ => ⟨S256x128, .f32⟩
  | .local _ .vmem, ⟨9, _⟩ => ⟨S1024x768, .bf16⟩
  | .local _ .vmem, ⟨10, _⟩ => ⟨S1024x512, .bf16⟩
  | .local _ .vmem, ⟨11, _⟩ => ⟨S1024x512, .bf16⟩
  | .local _ .vmem, ⟨12, _⟩ => ⟨S1024x3072, .bf16⟩
  | .local _ .vmem, ⟨13, _⟩ => ⟨S1x3072, .f32⟩
  | .local _ .vmem, ⟨14, _⟩ => ⟨S1x384, .f32⟩
  | .local _ .vmem, ⟨15, _⟩ => ⟨S384x1024, .bf16⟩
  | .local _ .vmem, ⟨16, _⟩ => ⟨S384x512, .bf16⟩
  | .local _ .vmem, ⟨17, _⟩ => ⟨S512x1024, .bf16⟩
  | .local _ .vmem, ⟨18, _⟩ => ⟨S1x256, .f32⟩
  | .local _ .vmem, ⟨19, _⟩ => ⟨S256x1024, .bf16⟩
  | .local _ .vmem, ⟨20, _⟩ => ⟨S128x1024, .bf16⟩
  | .local _ .vmem, ⟨21, _⟩ => ⟨S640x256, .bf16⟩
  | .local _ .vmem, ⟨22, _⟩ => ⟨S640x1, .f32⟩
  | .local _ .vmem, ⟨23, _⟩ => ⟨S8x256x128, .bf16⟩
  | .local _ .vmem, ⟨24, _⟩ => ⟨S8x256x128, .bf16⟩
  | .local _ .vmem, ⟨25, _⟩ => ⟨S8x256x128, .bf16⟩
  | .local _ .vmem, ⟨26, _⟩ => ⟨S8x256x128, .bf16⟩
  | .local _ .vmem, ⟨27, _⟩ => ⟨S1x640x256, .bf16⟩
  | .local _ .vmem, ⟨28, _⟩ => ⟨S1x640x256, .bf16⟩
  | .local _ .vmem, ⟨29, _⟩ => ⟨S256x512, .f32⟩
  | .local _ .vmem, ⟨30, _⟩ => ⟨S256x512, .f32⟩
  | .local _ .vmem, ⟨31, _⟩ => ⟨S256x512, .bf16⟩
  | .local _ .vmem, ⟨32, _⟩ => ⟨S256x512, .bf16⟩
  | .local _ .vmem, ⟨33, _⟩ => ⟨S256x3072, .bf16⟩
  | .local _ .vmem, ⟨34, _⟩ => ⟨S256x3072, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_c_0 : Ref sig .tc := ⟨.hbm, 12, rfl⟩
abbrev main_c_1 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c_3 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_call0_v0 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_7 : Ref sig .tc := ⟨.hbm, 56, rfl⟩
abbrev main_call1_v0 : Ref sig .tc := ⟨.hbm, 57, rfl⟩
abbrev main_v35 : Ref sig .tc := ⟨.hbm, 58, rfl⟩
abbrev main_v36 : Ref sig .tc := ⟨.hbm, 59, rfl⟩
abbrev main_c_8 : Ref sig .tc := ⟨.hbm, 60, rfl⟩
abbrev main_call2_v0 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_c_9 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_c_10 : Ref sig .tc := ⟨.hbm, 83, rfl⟩
abbrev main_call3_v0 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_c_11 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_c_12 : Ref sig .tc := ⟨.hbm, 103, rfl⟩
abbrev main_call4_v0 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_c_13 : Ref sig .tc := ⟨.hbm, 108, rfl⟩
abbrev main_call5_v0 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83_0 : Ref sig .tc := ⟨.hbm, 116, rfl⟩
abbrev main_v83_1 : Ref sig .tc := ⟨.hbm, 117, rfl⟩
abbrev main_v83_2 : Ref sig .tc := ⟨.hbm, 118, rfl⟩
abbrev main_v83_3 : Ref sig .tc := ⟨.hbm, 119, rfl⟩
abbrev main_v83_4 : Ref sig .tc := ⟨.hbm, 120, rfl⟩
abbrev main_v83_5 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg19_1 : Ref sig .tc := ⟨.vmem, 24, rfl⟩
abbrev cc0_stg20_0 : Ref sig .tc := ⟨.vmem, 25, rfl⟩
abbrev cc0_stg20_1 : Ref sig .tc := ⟨.vmem, 26, rfl⟩
abbrev cc0_stg21_0 : Ref sig .tc := ⟨.vmem, 27, rfl⟩
abbrev cc0_stg21_1 : Ref sig .tc := ⟨.vmem, 28, rfl⟩
abbrev cc0_stg22_0 : Ref sig .tc := ⟨.vmem, 29, rfl⟩
abbrev cc0_stg22_1 : Ref sig .tc := ⟨.vmem, 30, rfl⟩
abbrev cc0_stg23_0 : Ref sig .tc := ⟨.vmem, 31, rfl⟩
abbrev cc0_stg23_1 : Ref sig .tc := ⟨.vmem, 32, rfl⟩
abbrev cc0_stg24_0 : Ref sig .tc := ⟨.vmem, 33, rfl⟩
abbrev cc0_stg24_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem19_0 : DmaSem sig := 23
abbrev cc0_sem19_1 : DmaSem sig := 24
abbrev cc0_sem20_0 : DmaSem sig := 25
abbrev cc0_sem20_1 : DmaSem sig := 26
abbrev cc0_sem21_0 : DmaSem sig := 27
abbrev cc0_sem21_1 : DmaSem sig := 28
abbrev cc0_sem22_0 : DmaSem sig := 29
abbrev cc0_sem22_1 : DmaSem sig := 30
abbrev cc0_sem23_0 : DmaSem sig := 31
abbrev cc0_sem23_1 : DmaSem sig := 32
abbrev cc0_sem24_0 : DmaSem sig := 33
abbrev cc0_sem24_1 : DmaSem sig := 34

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_21 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x3072 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x3072 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S384x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S384x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S640x256 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S640x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S8x256x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S8x256x128 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x640x256 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x512 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x512 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x3072 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]
-- ==== ProjRefIdeal.lean ====
abbrev S16384x1024 : Shape := ⟨2, ![16384, 1024]⟩
abbrev S2x2x1024 : Shape := ⟨3, ![2, 2, 1024]⟩
abbrev S1024 : Shape := ⟨1, ![1024]⟩
abbrev S8192x2x8 : Shape := ⟨3, ![8192, 2, 8]⟩
abbrev S1024x4768 : Shape := ⟨2, ![1024, 4768]⟩
abbrev S3072 : Shape := ⟨1, ![3072]⟩
abbrev S384 : Shape := ⟨1, ![384]⟩
abbrev S384x8x96 : Shape := ⟨3, ![384, 8, 96]⟩
abbrev S256 : Shape := ⟨1, ![256]⟩
abbrev S256x8x128 : Shape := ⟨3, ![256, 8, 128]⟩
abbrev S2x8192x1024 : Shape := ⟨3, ![2, 8192, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x1x1024 : Shape := ⟨3, ![2, 1, 1024]⟩
abbrev S2x8192x4768 : Shape := ⟨3, ![2, 8192, 4768]⟩
abbrev S2x8192x384 : Shape := ⟨3, ![2, 8192, 384]⟩
abbrev S1x1x384 : Shape := ⟨3, ![1, 1, 384]⟩
abbrev S2x8192x8x96 : Shape := ⟨4, ![2, 8192, 8, 96]⟩
abbrev S2x8192x256 : Shape := ⟨3, ![2, 8192, 256]⟩
abbrev S1x1x256 : Shape := ⟨3, ![1, 1, 256]⟩
abbrev S2x8192x8x128 : Shape := ⟨4, ![2, 8192, 8, 128]⟩
abbrev S2x8192x32 : Shape := ⟨3, ![2, 8192, 32]⟩
abbrev S2x8192x2x2x8 : Shape := ⟨5, ![2, 8192, 2, 2, 8]⟩
abbrev S2x8192x2x1x8 : Shape := ⟨5, ![2, 8192, 2, 1, 8]⟩
abbrev S2x8192x2x8 : Shape := ⟨4, ![2, 8192, 2, 8]⟩
abbrev S1x8192x2x8 : Shape := ⟨4, ![1, 8192, 2, 8]⟩
abbrev S2x8192x1x32 : Shape := ⟨4, ![2, 8192, 1, 32]⟩
abbrev S2x8192x8x32 : Shape := ⟨4, ![2, 8192, 8, 32]⟩
abbrev S2x8192x8x64 : Shape := ⟨4, ![2, 8192, 8, 64]⟩
abbrev S2x8192x8x2x2x8 : Shape := ⟨6, ![2, 8192, 8, 2, 2, 8]⟩
abbrev S8192x1x2x8 : Shape := ⟨4, ![8192, 1, 2, 8]⟩
abbrev S2x8192x8x2x1x8 : Shape := ⟨6, ![2, 8192, 8, 2, 1, 8]⟩
abbrev S2x8192x8x2x8 : Shape := ⟨5, ![2, 8192, 8, 2, 8]⟩
abbrev S1x8192x1x2x8 : Shape := ⟨5, ![1, 8192, 1, 2, 8]⟩
abbrev S2x8192x8x1 : Shape := ⟨4, ![2, 8192, 8, 1]⟩
abbrev S2x8192x8x15 : Shape := ⟨4, ![2, 8192, 8, 15]⟩
abbrev S2x8192x8x80 : Shape := ⟨4, ![2, 8192, 8, 80]⟩
abbrev S8x2x8192x128 : Shape := ⟨4, ![8, 2, 8192, 128]⟩
abbrev S8x16384x128 : Shape := ⟨3, ![8, 16384, 128]⟩
abbrev S2x8x80x8192 : Shape := ⟨4, ![2, 8, 80, 8192]⟩
abbrev S2x640x8192 : Shape := ⟨3, ![2, 640, 8192]⟩
abbrev S2x8192x512 : Shape := ⟨3, ![2, 8192, 512]⟩
abbrev S16384x512 : Shape := ⟨2, ![16384, 512]⟩
abbrev S2x8192x3072 : Shape := ⟨3, ![2, 8192, 3072]⟩
abbrev S1x1x3072 : Shape := ⟨3, ![1, 1, 3072]⟩
abbrev S16384x3072 : Shape := ⟨2, ![16384, 3072]⟩

abbrev nBuf : Space → Nat
  | .hbm => 166
  | .vmem => 0
  | .smem => 0
  | _ => 0

abbrev hbmTy0_0 (i : Nat) : BufTy := match i % 128 with
  | 0 => ⟨S16384x1024, .f32⟩
  | 1 => ⟨S2x2x1024, .f32⟩
  | 2 => ⟨S1024, .f32⟩
  | 3 => ⟨S8192x2x8, .f32⟩
  | 4 => ⟨S8192x2x8, .f32⟩
  | 5 => ⟨S1024x4768, .f32⟩
  | 6 => ⟨S3072, .f32⟩
  | 7 => ⟨S384, .f32⟩
  | 8 => ⟨S384x8x96, .f32⟩
  | 9 => ⟨S256, .f32⟩
  | 10 => ⟨S256x8x128, .f32⟩
  | 11 => ⟨S2x8192x1024, .f32⟩
  | 12 => ⟨S2x8192x1024, .f32⟩
  | 13 => ⟨S_, .f32⟩
  | 14 => ⟨S2x8192, .f32⟩
  | 15 => ⟨S2x8192x1, .f32⟩
  | 16 => ⟨S_, .f32⟩
  | 17 => ⟨S2x8192x1, .f32⟩
  | 18 => ⟨S2x8192x1, .f32⟩
  | 19 => ⟨S_, .f32⟩
  | 20 => ⟨S2x8192x1, .f32⟩
  | 21 => ⟨S2x8192x1, .f32⟩
  | 22 => ⟨S2x8192x1, .f32⟩
  | 23 => ⟨S2x8192x1024, .f32⟩
  | 24 => ⟨S2x8192x1024, .f32⟩
  | 25 => ⟨S1x1x1024, .f32⟩
  | 26 => ⟨S2x8192x1024, .f32⟩
  | 27 => ⟨S2x8192x1024, .f32⟩
  | 28 => ⟨S2x1x1024, .f32⟩
  | 29 => ⟨S_, .f32⟩
  | 30 => ⟨S2x1x1024, .f32⟩
  | 31 => ⟨S2x1x1024, .f32⟩
  | 32 => ⟨S2x8192x1024, .f32⟩
  | 33 => ⟨S2x8192x1024, .f32⟩
  | 34 => ⟨S2x1x1024, .f32⟩
  | 35 => ⟨S2x8192x1024, .f32⟩
  | 36 => ⟨S2x8192x1024, .f32⟩
  | 37 => ⟨S2x8192x4768, .f32⟩
  | 38 => ⟨S2x8192x384, .f32⟩
  | 39 => ⟨S2x8192x384, .f32⟩
  | 40 => ⟨S_, .f32⟩
  | 41 => ⟨S2x8192, .f32⟩
  | 42 => ⟨S2x8192x1, .f32⟩
  | 43 => ⟨S_, .f32⟩
  | 44 => ⟨S2x8192x1, .f32⟩
  | 45 => ⟨S2x8192x1, .f32⟩
  | 46 => ⟨S_, .f32⟩
  | 47 => ⟨S2x8192x1, .f32⟩
  | 48 => ⟨S2x8192x1, .f32⟩
  | 49 => ⟨S2x8192x1, .f32⟩
  | 50 => ⟨S2x8192x384, .f32⟩
  | 51 => ⟨S2x8192x384, .f32⟩
  | 52 => ⟨S1x1x384, .f32⟩
  | 53 => ⟨S2x8192x384, .f32⟩
  | 54 => ⟨S2x8192x384, .f32⟩
  | 55 => ⟨S2x8192x8x96, .f32⟩
  | 56 => ⟨S2x8192x256, .f32⟩
  | 57 => ⟨S2x8192x256, .f32⟩
  | 58 => ⟨S_, .f32⟩
  | 59 => ⟨S2x8192, .f32⟩
  | 60 => ⟨S2x8192x1, .f32⟩
  | 61 => ⟨S_, .f32⟩
  | 62 => ⟨S2x8192x1, .f32⟩
  | 63 => ⟨S2x8192x1, .f32⟩
  | 64 => ⟨S_, .f32⟩
  | 65 => ⟨S2x8192x1, .f32⟩
  | 66 => ⟨S2x8192x1, .f32⟩
  | 67 => ⟨S2x8192x1, .f32⟩
  | 68 => ⟨S2x8192x256, .f32⟩
  | 69 => ⟨S2x8192x256, .f32⟩
  | 70 => ⟨S1x1x256, .f32⟩
  | 71 => ⟨S2x8192x256, .f32⟩
  | 72 => ⟨S2x8192x256, .f32⟩
  | 73 => ⟨S2x8192x8x128, .f32⟩
  | 74 => ⟨S2x8192x32, .f32⟩
  | 75 => ⟨S2x8192x2x2x8, .f32⟩
  | 76 => ⟨S2x8192x2x1x8, .f32⟩
  | 77 => ⟨S2x8192x2x8, .f32⟩
  | 78 => ⟨S2x8192x2x1x8, .f32⟩
  | 79 => ⟨S2x8192x2x8, .f32⟩
  | 80 => ⟨S1x8192x2x8, .f32⟩
  | 81 => ⟨S2x8192x2x8, .f32⟩
  | 82 => ⟨S2x8192x2x8, .f32⟩
  | 83 => ⟨S1x8192x2x8, .f32⟩
  | 84 => ⟨S2x8192x2x8, .f32⟩
  | 85 => ⟨S2x8192x2x8, .f32⟩
  | 86 => ⟨S2x8192x2x8, .f32⟩
  | 87 => ⟨S1x8192x2x8, .f32⟩
  | 88 => ⟨S2x8192x2x8, .f32⟩
  | 89 => ⟨S2x8192x2x8, .f32⟩
  | 90 => ⟨S1x8192x2x8, .f32⟩
  | 91 => ⟨S2x8192x2x8, .f32⟩
  | 92 => ⟨S2x8192x2x8, .f32⟩
  | 93 => ⟨S2x8192x2x8, .f32⟩
  | 94 => ⟨S2x8192x2x1x8, .f32⟩
  | 95 => ⟨S2x8192x2x1x8, .f32⟩
  | 96 => ⟨S2x8192x2x2x8, .f32⟩
  | 97 => ⟨S2x8192x32, .f32⟩
  | 98 => ⟨S2x8192x1x32, .f32⟩
  | 99 => ⟨S2x8192x8x32, .f32⟩
  | 100 => ⟨S_, .f32⟩
  | 101 => ⟨S2x8192x8x32, .f32⟩
  | 102 => ⟨S2x8192x8x64, .f32⟩
  | 103 => ⟨S2x8192x8x32, .f32⟩
  | 104 => ⟨S2x8192x8x2x2x8, .f32⟩
  | 105 => ⟨S8192x1x2x8, .f32⟩
  | 106 => ⟨S8192x1x2x8, .f32⟩
  | 107 => ⟨S2x8192x8x2x1x8, .f32⟩
  | 108 => ⟨S2x8192x8x2x8, .f32⟩
  | 109 => ⟨S2x8192x8x2x1x8, .f32⟩
  | 110 => ⟨S2x8192x8x2x8, .f32⟩
  | 111 => ⟨S1x8192x1x2x8, .f32⟩
  | 112 => ⟨S2x8192x8x2x8, .f32⟩
  | 113 => ⟨S2x8192x8x2x8, .f32⟩
  | 114 => ⟨S1x8192x1x2x8, .f32⟩
  | 115 => ⟨S2x8192x8x2x8, .f32⟩
  | 116 => ⟨S2x8192x8x2x8, .f32⟩
  | 117 => ⟨S2x8192x8x2x8, .f32⟩
  | 118 => ⟨S1x8192x1x2x8, .f32⟩
  | 119 => ⟨S2x8192x8x2x8, .f32⟩
  | 120 => ⟨S2x8192x8x2x8, .f32⟩
  | 121 => ⟨S1x8192x1x2x8, .f32⟩
  | 122 => ⟨S2x8192x8x2x8, .f32⟩
  | 123 => ⟨S2x8192x8x2x8, .f32⟩
  | 124 => ⟨S2x8192x8x2x8, .f32⟩
  | 125 => ⟨S2x8192x8x2x1x8, .f32⟩
  | 126 => ⟨S2x8192x8x2x1x8, .f32⟩
  | 127 => ⟨S2x8192x8x2x2x8, .f32⟩
  | _ => ⟨S16384x1024, .f32⟩

abbrev hbmTy0_1 (i : Nat) : BufTy := match i % 128 with
  | 0 => ⟨S2x8192x8x32, .f32⟩
  | 1 => ⟨S2x8192x8x128, .f32⟩
  | 2 => ⟨S2x8192x8x64, .f32⟩
  | 3 => ⟨S2x8192x8x128, .f32⟩
  | 4 => ⟨S2x8192x8x64, .f32⟩
  | 5 => ⟨S_, .f32⟩
  | 6 => ⟨S2x8192x8x1, .f32⟩
  | 7 => ⟨S_, .f32⟩
  | 8 => ⟨S2x8192x8x15, .f32⟩
  | 9 => ⟨S2x8192x8x80, .f32⟩
  | 10 => ⟨S8x2x8192x128, .f32⟩
  | 11 => ⟨S8x16384x128, .f32⟩
  | 12 => ⟨S8x16384x128, .bf16⟩
  | 13 => ⟨S8x2x8192x128, .f32⟩
  | 14 => ⟨S8x16384x128, .f32⟩
  | 15 => ⟨S8x16384x128, .bf16⟩
  | 16 => ⟨S2x8x80x8192, .f32⟩
  | 17 => ⟨S2x640x8192, .f32⟩
  | 18 => ⟨S2x640x8192, .bf16⟩
  | 19 => ⟨S2x8192x512, .f32⟩
  | 20 => ⟨S16384x512, .f32⟩
  | 21 => ⟨S2x8192x512, .f32⟩
  | 22 => ⟨S16384x512, .f32⟩
  | 23 => ⟨S16384x512, .bf16⟩
  | 24 => ⟨S2x8192x3072, .f32⟩
  | 25 => ⟨S1x1x3072, .f32⟩
  | 26 => ⟨S2x8192x3072, .f32⟩
  | 27 => ⟨S2x8192x3072, .f32⟩
  | 28 => ⟨S2x8192x3072, .f32⟩
  | 29 => ⟨S2x8192x3072, .f32⟩
  | 30 => ⟨S_, .f32⟩
  | 31 => ⟨S2x8192x3072, .f32⟩
  | 32 => ⟨S2x8192x3072, .f32⟩
  | 33 => ⟨S_, .f32⟩
  | 34 => ⟨S2x8192x3072, .f32⟩
  | 35 => ⟨S2x8192x3072, .f32⟩
  | 36 => ⟨S16384x3072, .f32⟩
  | 37 => ⟨S16384x3072, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_6 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_cst_9 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_cst_10 : Ref sig .tc := ⟨.hbm, 133, rfl⟩
abbrev main_v111 : Ref sig .tc := ⟨.hbm, 134, rfl⟩
abbrev main_cst_11 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_cst_12 : Ref sig .tc := ⟨.hbm, 158, rfl⟩
abbrev main_v134 : Ref sig .tc := ⟨.hbm, 159, rfl⟩
abbrev main_v135 : Ref sig .tc := ⟨.hbm, 160, rfl⟩
abbrev main_cst_13 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩

abbrev nD : Nat := 1
abbrev τ : Topo := Topo.v7x

variable {F : FTy → Type} [FloatOps F]
-- ==== Pool.lean ====
abbrev S16384x512 : Shape := ⟨2, ![16384, 512]⟩
abbrev S4x128x128 : Shape := ⟨3, ![4, 128, 128]⟩
abbrev S512 : Shape := ⟨1, ![512]⟩
abbrev S1x512 : Shape := ⟨2, ![1, 512]⟩
abbrev S256 : Shape := ⟨1, ![256]⟩
abbrev S256x1 : Shape := ⟨2, ![256, 1]⟩
abbrev S288 : Shape := ⟨1, ![288]⟩
abbrev S1x288 : Shape := ⟨2, ![1, 288]⟩
abbrev S_ : Shape := ⟨0, ![]⟩
abbrev S256x288 : Shape := ⟨2, ![256, 288]⟩
abbrev S1x256x288 : Shape := ⟨3, ![1, 256, 288]⟩
abbrev S4x256x288 : Shape := ⟨3, ![4, 256, 288]⟩
abbrev S256x512 : Shape := ⟨2, ![256, 512]⟩
abbrev S16x512 : Shape := ⟨2, ![16, 512]⟩
abbrev S288x512 : Shape := ⟨2, ![288, 512]⟩
abbrev S256x128 : Shape := ⟨2, ![256, 128]⟩
abbrev S288x128 : Shape := ⟨2, ![288, 128]⟩
abbrev S1x128x128 : Shape := ⟨3, ![1, 128, 128]⟩
abbrev S128x128 : Shape := ⟨2, ![128, 128]⟩

abbrev nBuf : Space → Nat
  | .hbm => 51
  | .vmem => 11
  | .smem => 0
  | _ => 0

abbrev bufTy : (tb : Table) → Fin (tcTables nBuf tb) → BufTy
  | .hbm, ⟨0, _⟩ => ⟨S16384x512, .f32⟩
  | .hbm, ⟨1, _⟩ => ⟨S4x128x128, .f32⟩
  | .hbm, ⟨2, _⟩ => ⟨S512, .f32⟩
  | .hbm, ⟨3, _⟩ => ⟨S4x128x128, .bf16⟩
  | .hbm, ⟨4, _⟩ => ⟨S1x512, .f32⟩
  | .hbm, ⟨5, _⟩ => ⟨S256, .i32⟩
  | .hbm, ⟨6, _⟩ => ⟨S256x1, .i32⟩
  | .hbm, ⟨7, _⟩ => ⟨S288, .i32⟩
  | .hbm, ⟨8, _⟩ => ⟨S1x288, .i32⟩
  | .hbm, ⟨9, _⟩ => ⟨S_, .i32⟩
  | .hbm, ⟨10, _⟩ => ⟨S1x288, .i32⟩
  | .hbm, ⟨11, _⟩ => ⟨S1x288, .i32⟩
  | .hbm, ⟨12, _⟩ => ⟨S256x288, .i32⟩
  | .hbm, ⟨13, _⟩ => ⟨S256x288, .i32⟩
  | .hbm, ⟨14, _⟩ => ⟨S256x288, .i32⟩
  | .hbm, ⟨15, _⟩ => ⟨S_, .i32⟩
  | .hbm, ⟨16, _⟩ => ⟨S256x288, .i32⟩
  | .hbm, ⟨17, _⟩ => ⟨S256x288, .i1⟩
  | .hbm, ⟨18, _⟩ => ⟨S_, .i32⟩
  | .hbm, ⟨19, _⟩ => ⟨S256x288, .i32⟩
  | .hbm, ⟨20, _⟩ => ⟨S256x288, .i1⟩
  | .hbm, ⟨21, _⟩ => ⟨S256x288, .i1⟩
  | .hbm, ⟨22, _⟩ => ⟨S_, .i32⟩
  | .hbm, ⟨23, _⟩ => ⟨S256x288, .i32⟩
  | .hbm, ⟨24, _⟩ => ⟨S256x288, .i1⟩
  | .hbm, ⟨25, _⟩ => ⟨S_, .i32⟩
  | .hbm, ⟨26, _⟩ => ⟨S256x288, .i32⟩
  | .hbm, ⟨27, _⟩ => ⟨S256x288, .i1⟩
  | .hbm, ⟨28, _⟩ => ⟨S256x288, .i1⟩
  | .hbm, ⟨29, _⟩ => ⟨S_, .i32⟩
  | .hbm, ⟨30, _⟩ => ⟨S256x288, .i32⟩
  | .hbm, ⟨31, _⟩ => ⟨S256x288, .i1⟩
  | .hbm, ⟨32, _⟩ => ⟨S_, .i32⟩
  | .hbm, ⟨33, _⟩ => ⟨S256x288, .i32⟩
  | .hbm, ⟨34, _⟩ => ⟨S256x288, .i1⟩
  | .hbm, ⟨35, _⟩ => ⟨S256x288, .i1⟩
  | .hbm, ⟨36, _⟩ => ⟨S_, .i32⟩
  | .hbm, ⟨37, _⟩ => ⟨S256x288, .i32⟩
  | .hbm, ⟨38, _⟩ => ⟨S256x288, .i1⟩
  | .hbm, ⟨39, _⟩ => ⟨S_, .i32⟩
  | .hbm, ⟨40, _⟩ => ⟨S256x288, .i32⟩
  | .hbm, ⟨41, _⟩ => ⟨S256x288, .i1⟩
  | .hbm, ⟨42, _⟩ => ⟨S256x288, .i1⟩
  | .hbm, ⟨43, _⟩ => ⟨S1x256x288, .i1⟩
  | .hbm, ⟨44, _⟩ => ⟨S1x256x288, .i1⟩
  | .hbm, ⟨45, _⟩ => ⟨S1x256x288, .i1⟩
  | .hbm, ⟨46, _⟩ => ⟨S1x256x288, .i1⟩
  | .hbm, ⟨47, _⟩ => ⟨S4x256x288, .i1⟩
  | .hbm, ⟨48, _⟩ => ⟨S4x256x288, .f32⟩
  | .hbm, ⟨49, _⟩ => ⟨S4x256x288, .bf16⟩
  | .hbm, ⟨50, _⟩ => ⟨S16384x512, .bf16⟩
  | .local _ .vmem, ⟨0, _⟩ => ⟨S256x512, .f32⟩
  | .local _ .vmem, ⟨1, _⟩ => ⟨S256x512, .f32⟩
  | .local _ .vmem, ⟨2, _⟩ => ⟨S16x512, .f32⟩
  | .local _ .vmem, ⟨3, _⟩ => ⟨S16x512, .f32⟩
  | .local _ .vmem, ⟨4, _⟩ => ⟨S16x512, .f32⟩
  | .local _ .vmem, ⟨5, _⟩ => ⟨S16x512, .f32⟩
  | .local _ .vmem, ⟨6, _⟩ => ⟨S4x256x288, .bf16⟩
  | .local _ .vmem, ⟨7, _⟩ => ⟨S4x128x128, .bf16⟩
  | .local _ .vmem, ⟨8, _⟩ => ⟨S1x512, .f32⟩
  | .local _ .vmem, ⟨9, _⟩ => ⟨S256x512, .bf16⟩
  | .local _ .vmem, ⟨10, _⟩ => ⟨S256x512, .bf16⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c_0 : Ref sig .tc := ⟨.hbm, 15, rfl⟩
abbrev main_v11 : Ref sig .tc := ⟨.hbm, 16, rfl⟩
abbrev main_v12 : Ref sig .tc := ⟨.hbm, 17, rfl⟩
abbrev main_c_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_2 : Ref sig .tc := ⟨.hbm, 22, rfl⟩
abbrev main_v16 : Ref sig .tc := ⟨.hbm, 23, rfl⟩
abbrev main_v17 : Ref sig .tc := ⟨.hbm, 24, rfl⟩
abbrev main_c_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_4 : Ref sig .tc := ⟨.hbm, 29, rfl⟩
abbrev main_v21 : Ref sig .tc := ⟨.hbm, 30, rfl⟩
abbrev main_v22 : Ref sig .tc := ⟨.hbm, 31, rfl⟩
abbrev main_c_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_6 : Ref sig .tc := ⟨.hbm, 36, rfl⟩
abbrev main_v26 : Ref sig .tc := ⟨.hbm, 37, rfl⟩
abbrev main_v27 : Ref sig .tc := ⟨.hbm, 38, rfl⟩
abbrev main_c_7 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x256x288 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PoolRefIdeal.lean ====
abbrev S16384x512 : Shape := ⟨2, ![16384, 512]⟩
abbrev S4x128x128 : Shape := ⟨3, ![4, 128, 128]⟩
abbrev S512 : Shape := ⟨1, ![512]⟩
abbrev S2x8192x4x128 : Shape := ⟨4, ![2, 8192, 4, 128]⟩
abbrev S4 : Shape := ⟨1, ![4]⟩
abbrev S_ : Shape := ⟨0, ![]⟩
abbrev S8192 : Shape := ⟨1, ![8192]⟩
abbrev S8192x1 : Shape := ⟨2, ![8192, 1]⟩
abbrev S1x4 : Shape := ⟨2, ![1, 4]⟩
abbrev S8192x4 : Shape := ⟨2, ![8192, 4]⟩
abbrev S8192x1x4 : Shape := ⟨3, ![8192, 1, 4]⟩
abbrev S1x8192x1 : Shape := ⟨3, ![1, 8192, 1]⟩
abbrev S8192x8192x4 : Shape := ⟨3, ![8192, 8192, 4]⟩
abbrev S1x8192x8192x4x1 : Shape := ⟨5, ![1, 8192, 8192, 4, 1]⟩
abbrev S2x1x8192x4x128 : Shape := ⟨5, ![2, 1, 8192, 4, 128]⟩
abbrev S2x8192x8192x4x128 : Shape := ⟨5, ![2, 8192, 8192, 4, 128]⟩
abbrev S1x8192x4x1 : Shape := ⟨4, ![1, 8192, 4, 1]⟩
abbrev S4x128x2x8192 : Shape := ⟨4, ![4, 128, 2, 8192]⟩
abbrev S1x512 : Shape := ⟨2, ![1, 512]⟩

abbrev nBuf : Space → Nat
  | .hbm => 65
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S4x128x128, .f32⟩
  | .hbm, ⟨2, _⟩ => ⟨S512, .f32⟩
  | .hbm, ⟨3, _⟩ => ⟨S2x8192x4x128, .f32⟩
  | .hbm, ⟨4, _⟩ => ⟨S4, .i32⟩
  | .hbm, ⟨5, _⟩ => ⟨S_, .i32⟩
  | .hbm, ⟨6, _⟩ => ⟨S4, .i32⟩
  | .hbm, ⟨7, _⟩ => ⟨S4, .i32⟩
  | .hbm, ⟨8, _⟩ => ⟨S_, .i32⟩
  | .hbm, ⟨9, _⟩ => ⟨S4, .i32⟩
  | .hbm, ⟨10, _⟩ => ⟨S4, .i32⟩
  | .hbm, ⟨11, _⟩ => ⟨S8192, .i32⟩
  | .hbm, ⟨12, _⟩ => ⟨S8192x1, .i32⟩
  | .hbm, ⟨13, _⟩ => ⟨S1x4, .i32⟩
  | .hbm, ⟨14, _⟩ => ⟨S8192x4, .i32⟩
  | .hbm, ⟨15, _⟩ => ⟨S8192x4, .i32⟩
  | .hbm, ⟨16, _⟩ => ⟨S8192x4, .i32⟩
  | .hbm, ⟨17, _⟩ => ⟨S8192x1, .i32⟩
  | .hbm, ⟨18, _⟩ => ⟨S1x4, .i32⟩
  | .hbm, ⟨19, _⟩ => ⟨S8192x4, .i32⟩
  | .hbm, ⟨20, _⟩ => ⟨S8192x4, .i32⟩
  | .hbm, ⟨21, _⟩ => ⟨S8192x4, .i32⟩
  | .hbm, ⟨22, _⟩ => ⟨S8192x1x4, .i32⟩
  | .hbm, ⟨23, _⟩ => ⟨S1x8192x1, .i32⟩
  | .hbm, ⟨24, _⟩ => ⟨S8192x8192x4, .i32⟩
  | .hbm, ⟨25, _⟩ => ⟨S8192x8192x4, .i32⟩
  | .hbm, ⟨26, _⟩ => ⟨S8192x8192x4, .i1⟩
  | .hbm, ⟨27, _⟩ => ⟨S1x8192x1, .i32⟩
  | .hbm, ⟨28, _⟩ => ⟨S8192x1x4, .i32⟩
  | .hbm, ⟨29, _⟩ => ⟨S8192x8192x4, .i32⟩
  | .hbm, ⟨30, _⟩ => ⟨S8192x8192x4, .i32⟩
  | .hbm, ⟨31, _⟩ => ⟨S8192x8192x4, .i1⟩
  | .hbm, ⟨32, _⟩ => ⟨S8192x8192x4, .i1⟩
  | .hbm, ⟨33, _⟩ => ⟨S1x8192x8192x4x1, .i1⟩
  | .hbm, ⟨34, _⟩ => ⟨S2x1x8192x4x128, .f32⟩
  | .hbm, ⟨35, _⟩ => ⟨S_, .f32⟩
  | .hbm, ⟨36, _⟩ => ⟨S_, .f32⟩
  | .hbm, ⟨37, _⟩ => ⟨S2x8192x8192x4x128, .i1⟩
  | .hbm, ⟨38, _⟩ => ⟨S2x8192x8192x4x128, .f32⟩
  | .hbm, ⟨39, _⟩ => ⟨S2x8192x8192x4x128, .f32⟩
  | .hbm, ⟨40, _⟩ => ⟨S2x8192x8192x4x128, .f32⟩
  | .hbm, ⟨41, _⟩ => ⟨S_, .f32⟩
  | .hbm, ⟨42, _⟩ => ⟨S2x8192x4x128, .f32⟩
  | .hbm, ⟨43, _⟩ => ⟨S_, .i32⟩
  | .hbm, ⟨44, _⟩ => ⟨S8192x4, .i32⟩
  | .hbm, ⟨45, _⟩ => ⟨S8192x4, .i32⟩
  | .hbm, ⟨46, _⟩ => ⟨S_, .i32⟩
  | .hbm, ⟨47, _⟩ => ⟨S8192x4, .i32⟩
  | .hbm, ⟨48, _⟩ => ⟨S8192x4, .i32⟩
  | .hbm, ⟨49, _⟩ => ⟨S_, .i32⟩
  | .hbm, ⟨50, _⟩ => ⟨S8192x4, .i32⟩
  | .hbm, ⟨51, _⟩ => ⟨S8192x4, .i32⟩
  | .hbm, ⟨52, _⟩ => ⟨S8192x4, .i32⟩
  | .hbm, ⟨53, _⟩ => ⟨S8192x4, .f32⟩
  | .hbm, ⟨54, _⟩ => ⟨S1x8192x4x1, .f32⟩
  | .hbm, ⟨55, _⟩ => ⟨S2x8192x4x128, .f32⟩
  | .hbm, ⟨56, _⟩ => ⟨S2x8192x4x128, .f32⟩
  | .hbm, ⟨57, _⟩ => ⟨S2x8192x4x128, .f32⟩
  | .hbm, ⟨58, _⟩ => ⟨S4x128x2x8192, .f32⟩
  | .hbm, ⟨59, _⟩ => ⟨S2x8192x4x128, .f32⟩
  | .hbm, ⟨60, _⟩ => ⟨S16384x512, .f32⟩
  | .hbm, ⟨61, _⟩ => ⟨S1x512, .f32⟩
  | .hbm, ⟨62, _⟩ => ⟨S16384x512, .f32⟩
  | .hbm, ⟨63, _⟩ => ⟨S16384x512, .f32⟩
  | .hbm, ⟨64, _⟩ => ⟨S16384x512, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_cst : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_v30 : Ref sig .tc := ⟨.hbm, 40, rfl⟩
abbrev main_cst_1 : Ref sig .tc := ⟨.hbm, 41, rfl⟩
abbrev main_v31 : Ref sig .tc := ⟨.hbm, 42, rfl⟩
abbrev main_c_2 : Ref sig .tc := ⟨.hbm, 43, rfl⟩
abbrev main_v32 : Ref sig .tc := ⟨.hbm, 44, rfl⟩
abbrev main_v33 : Ref sig .tc := ⟨.hbm, 45, rfl⟩
abbrev main_c_3 : Ref sig .tc := ⟨.hbm, 46, rfl⟩
abbrev main_v34 : Ref sig .tc := ⟨.hbm, 47, rfl⟩
abbrev main_v35 : Ref sig .tc := ⟨.hbm, 48, rfl⟩
abbrev main_c_4 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩

abbrev nD : Nat := 1
abbrev τ : Topo := Topo.v7x

variable {F : FTy → Type} [FloatOps F]
-- ==== Proof.ProjIdealFrame.lean ====
/-
The frame of the program `ProjIdeal`: @main up to its one region, each window's block at a point, the body's
triple, the proof data, and the run. Its set-up is that of a generated frame; two of its steps, over twenty-five windows, are
given more room.
-/
module

public import proofs.«01_k».proof.Proof.Gen.ProjIdeal.Launch
public import proofs.«01_k».proof.Proof.Gen.ProjIdeal.Skeleton
public import proofs.«01_k».proof.Proof.Gen.ProjIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.ProjIdeal.Body

open Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`, `hostOps0_5`, `hostOps0_6`, `hostOps0_7`, `hostOps0_8`, `hostOps0_9`, `hostOps0_10`, `hostOps0_11`, `hostOps0_12`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11, hostOps0_12] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
/-- Input window 18's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1500000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_ProjIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-! ## The body's accesses -/

abbrev r0_0 : Rect S256x1024 := Rect.unit (s := S256x1024) ![0, 0] S256x1024.size inb_S256x1024_S256x1024_0_0
abbrev r0_1 : Rect S1x2x1024 := Rect.unit (s := S1x2x1024) ![0, 0, 0] S1x2x1024.size inb_S1x2x1024_S1x2x1024_0_0_0
abbrev r0_2 : Rect S1x1024 := Rect.unit (s := S1x1024) ![0, 0] S1x1024.size inb_S1x1024_S1x1024_0_0
abbrev r0_3 : Rect S1024x768 := Rect.unit (s := S1024x768) ![0, 0] S1024x768.size inb_S1024x768_S1024x768_0_0
abbrev r0_4 : Rect S1x256 := Rect.unit (s := S1x256) ![0, 0] S1x256.size inb_S1x256_S1x256_0_0
abbrev r0_5 : Rect S256x128 := Rect.unit (s := S256x128) ![0, 0] S256x128.size inb_S256x128_S256x128_0_0
abbrev r0_6 : Rect S128x1024 := Rect.unit (s := S128x1024) ![0, 0] S128x1024.size inb_S128x1024_S128x1024_0_0
abbrev r0_7 : Rect S8x256x128 := Rect.unit (s := S8x256x128) ![0, 0, 0] S1x256x128.size inb_S8x256x128_S1x256x128_0_0_0
abbrev r0_8 : Rect S8x256x128 := Rect.unit (s := S8x256x128) ![1, 0, 0] S1x256x128.size inb_S8x256x128_S1x256x128_1_0_0
abbrev r0_9 : Rect S8x256x128 := Rect.unit (s := S8x256x128) ![2, 0, 0] S1x256x128.size inb_S8x256x128_S1x256x128_2_0_0
abbrev r0_10 : Rect S8x256x128 := Rect.unit (s := S8x256x128) ![3, 0, 0] S1x256x128.size inb_S8x256x128_S1x256x128_3_0_0
abbrev r0_11 : Rect S8x256x128 := Rect.unit (s := S8x256x128) ![4, 0, 0] S1x256x128.size inb_S8x256x128_S1x256x128_4_0_0
abbrev r0_12 : Rect S8x256x128 := Rect.unit (s := S8x256x128) ![5, 0, 0] S1x256x128.size inb_S8x256x128_S1x256x128_5_0_0
abbrev r0_13 : Rect S8x256x128 := Rect.unit (s := S8x256x128) ![6, 0, 0] S1x256x128.size inb_S8x256x128_S1x256x128_6_0_0
abbrev r0_14 : Rect S8x256x128 := Rect.unit (s := S8x256x128) ![7, 0, 0] S1x256x128.size inb_S8x256x128_S1x256x128_7_0_0
abbrev r0_15 : Rect S640x256 := Rect.unit (s := S640x256) ![0, 0] S640x256.size inb_S640x256_S640x256_0_0
abbrev r0_16 : Rect S640x1 := Rect.unit (s := S640x1) ![0, 0] S640x1.size inb_S640x1_S640x1_0_0
abbrev r0_17 : Rect S1x640x256 := Rect.unit (s := S1x640x256) ![0, 0, 0] S1x640x256.size inb_S1x640x256_S1x640x256_0_0_0
abbrev r0_18 : Rect S1x384 := Rect.unit (s := S1x384) ![0, 0] S1x384.size inb_S1x384_S1x384_0_0
abbrev r0_19 : Rect S384x512 := Rect.unit (s := S384x512) ![0, 0] S384x512.size inb_S384x512_S384x512_0_0
abbrev r0_20 : Rect S256x512 := Rect.unit (s := S256x512) ![0, 0] S256x512.size inb_S256x512_S256x512_0_0
abbrev r0_21 : Rect S384x1024 := Rect.unit (s := S384x1024) ![0, 0] S384x1024.size inb_S384x1024_S384x1024_0_0
abbrev r0_22 : Rect S512x1024 := Rect.unit (s := S512x1024) ![0, 0] S512x1024.size inb_S512x1024_S512x1024_0_0
abbrev r0_23 : Rect S1024x512 := Rect.unit (s := S1024x512) ![0, 0] S1024x512.size inb_S1024x512_S1024x512_0_0
abbrev r0_24 : Rect S1024x3072 := Rect.unit (s := S1024x3072) ![0, 0] S1024x3072.size inb_S1024x3072_S1024x3072_0_0
abbrev r0_25 : Rect S1x3072 := Rect.unit (s := S1x3072) ![0, 0] S1x3072.size inb_S1x3072_S1x3072_0_0
abbrev r0_26 : Rect S256x3072 := Rect.unit (s := S256x3072) ![0, 0] S256x3072.size inb_S256x3072_S256x3072_0_0

/-! ## What the body leaves in each output window's buffer -/

/-! ### Values of the body that the stores' payloads, spelt out, would write more than once

    Each is a vector the body binds (often a part call's result), stated over the input windows' blocks and
    numbered on from the skeleton's payload functions (`k0_pay34` …, after `k0_pay33`), so that
    `out0_W` and the values after it name it instead of spelling it out; the comment after each is the printed function's
    name for the value (a count appended where that name is bound again). -/

def k0_pay34 (x0 : Vec F S256x1024 .f32) (x1 : Vec F S1x2x1024 .f32) (x2 : Vec F S1x1024 .f32) (x3 : Vec F S256x512 .f32) (x4 : Vec F S256x128 .f32) (x5 : Vec F S1024x768 .bf16) (x6 : Vec F S1024x512 .bf16) (x7 : Vec F S1024x512 .bf16) (x8 : Vec F S1024x3072 .bf16) (x9 : Vec F S1x3072 .f32) (x10 : Vec F S1x384 .f32) (x11 : Vec F S384x1024 .bf16) (x12 : Vec F S384x512 .bf16) (x13 : Vec F S512x1024 .bf16) (x14 : Vec F S1x256 .f32) (x15 : Vec F S256x1024 .bf16) (x16 : Vec F S128x1024 .bf16) (x17 : Vec F S640x256 .bf16) (x18 : Vec F S640x1 .f32) : FVec F S256x1024 .bf16 :=
  k0_pay2 (View.ld x0 r0_0) (View.ld x1 r0_1) (View.ld x2 r0_2) -- `v25`
def k0_pay35 (x0 : Vec F S256x1024 .f32) (x1 : Vec F S1x2x1024 .f32) (x2 : Vec F S1x1024 .f32) (x3 : Vec F S256x512 .f32) (x4 : Vec F S256x128 .f32) (x5 : Vec F S1024x768 .bf16) (x6 : Vec F S1024x512 .bf16) (x7 : Vec F S1024x512 .bf16) (x8 : Vec F S1024x3072 .bf16) (x9 : Vec F S1x3072 .f32) (x10 : Vec F S1x384 .f32) (x11 : Vec F S384x1024 .bf16) (x12 : Vec F S384x512 .bf16) (x13 : Vec F S512x1024 .bf16) (x14 : Vec F S1x256 .f32) (x15 : Vec F S256x1024 .bf16) (x16 : Vec F S128x1024 .bf16) (x17 : Vec F S640x256 .bf16) (x18 : Vec F S640x1 .f32) : FVec F S256x768 .f32 :=
  k0_pay3 (View.ld x0 r0_0) (View.ld x1 r0_1) (View.ld x2 r0_2) (View.ld x5 r0_3) -- `v28`
def k0_pay36 (x0 : Vec F S256x1024 .f32) (x1 : Vec F S1x2x1024 .f32) (x2 : Vec F S1x1024 .f32) (x3 : Vec F S256x512 .f32) (x4 : Vec F S256x128 .f32) (x5 : Vec F S1024x768 .bf16) (x6 : Vec F S1024x512 .bf16) (x7 : Vec F S1024x512 .bf16) (x8 : Vec F S1024x3072 .bf16) (x9 : Vec F S1x3072 .f32) (x10 : Vec F S1x384 .f32) (x11 : Vec F S384x1024 .bf16) (x12 : Vec F S384x512 .bf16) (x13 : Vec F S512x1024 .bf16) (x14 : Vec F S1x256 .f32) (x15 : Vec F S256x1024 .bf16) (x16 : Vec F S128x1024 .bf16) (x17 : Vec F S640x256 .bf16) (x18 : Vec F S640x1 .f32) : FVec F S256x256 .f32 :=
  k0_pay4 (View.ld x0 r0_0) (View.ld x1 r0_1) (View.ld x2 r0_2) (View.ld x5 r0_3) -- `v29`
def k0_pay37 (x0 : Vec F S256x1024 .f32) (x1 : Vec F S1x2x1024 .f32) (x2 : Vec F S1x1024 .f32) (x3 : Vec F S256x512 .f32) (x4 : Vec F S256x128 .f32) (x5 : Vec F S1024x768 .bf16) (x6 : Vec F S1024x512 .bf16) (x7 : Vec F S1024x512 .bf16) (x8 : Vec F S1024x3072 .bf16) (x9 : Vec F S1x3072 .f32) (x10 : Vec F S1x384 .f32) (x11 : Vec F S384x1024 .bf16) (x12 : Vec F S384x512 .bf16) (x13 : Vec F S512x1024 .bf16) (x14 : Vec F S1x256 .f32) (x15 : Vec F S256x1024 .bf16) (x16 : Vec F S128x1024 .bf16) (x17 : Vec F S640x256 .bf16) (x18 : Vec F S640x1 .f32) : FVec F S1x256 .f32 :=
  k0_pay5 (View.ld x14 r0_4) -- `v31`
def k0_pay38 (x0 : Vec F S256x1024 .f32) (x1 : Vec F S1x2x1024 .f32) (x2 : Vec F S1x1024 .f32) (x3 : Vec F S256x512 .f32) (x4 : Vec F S256x128 .f32) (x5 : Vec F S1024x768 .bf16) (x6 : Vec F S1024x512 .bf16) (x7 : Vec F S1024x512 .bf16) (x8 : Vec F S1024x3072 .bf16) (x9 : Vec F S1x3072 .f32) (x10 : Vec F S1x384 .f32) (x11 : Vec F S384x1024 .bf16) (x12 : Vec F S384x512 .bf16) (x13 : Vec F S512x1024 .bf16) (x14 : Vec F S1x256 .f32) (x15 : Vec F S256x1024 .bf16) (x16 : Vec F S128x1024 .bf16) (x17 : Vec F S640x256 .bf16) (x18 : Vec F S640x1 .f32) : FVec F S256x1 .f32 :=
  k0_pay6 (View.ld x0 r0_0) (View.ld x1 r0_1) (View.ld x2 r0_2) (View.ld x5 r0_3) -- `v39`
def k0_pay39 (x0 : Vec F S256x1024 .f32) (x1 : Vec F S1x2x1024 .f32) (x2 : Vec F S1x1024 .f32) (x3 : Vec F S256x512 .f32) (x4 : Vec F S256x128 .f32) (x5 : Vec F S1024x768 .bf16) (x6 : Vec F S1024x512 .bf16) (x7 : Vec F S1024x512 .bf16) (x8 : Vec F S1024x3072 .bf16) (x9 : Vec F S1x3072 .f32) (x10 : Vec F S1x384 .f32) (x11 : Vec F S384x1024 .bf16) (x12 : Vec F S384x512 .bf16) (x13 : Vec F S512x1024 .bf16) (x14 : Vec F S1x256 .f32) (x15 : Vec F S256x1024 .bf16) (x16 : Vec F S128x1024 .bf16) (x17 : Vec F S640x256 .bf16) (x18 : Vec F S640x1 .f32) : FVec F S256x1024 .bf16 :=
  k0_pay8 (k0_pay35 x0 x1 x2 x3 x4 x5 x6 x7 x8 x9 x10 x11 x12 x13 x14 x15 x16 x17 x18) (k0_pay36 x0 x1 x2 x3 x4 x5 x6 x7 x8 x9 x10 x11 x12 x13 x14 x15 x16 x17 x18) (k0_pay37 x0 x1 x2 x3 x4 x5 x6 x7 x8 x9 x10 x11 x12 x13 x14 x15 x16 x17 x18) (k0_pay38 x0 x1 x2 x3 x4 x5 x6 x7 x8 x9 x10 x11 x12 x13 x14 x15 x16 x17 x18) (View.ld x4 r0_5) (View.ld x15 r0_0) (View.ld x16 r0_6) -- `v57`
def k0_pay40 (x0 : Vec F S256x1024 .f32) (x1 : Vec F S1x2x1024 .f32) (x2 : Vec F S1x1024 .f32) (x3 : Vec F S256x512 .f32) (x4 : Vec F S256x128 .f32) (x5 : Vec F S1024x768 .bf16) (x6 : Vec F S1024x512 .bf16) (x7 : Vec F S1024x512 .bf16) (x8 : Vec F S1024x3072 .bf16) (x9 : Vec F S1x3072 .f32) (x10 : Vec F S1x384 .f32) (x11 : Vec F S384x1024 .bf16) (x12 : Vec F S384x512 .bf16) (x13 : Vec F S512x1024 .bf16) (x14 : Vec F S1x256 .f32) (x15 : Vec F S256x1024 .bf16) (x16 : Vec F S128x1024 .bf16) (x17 : Vec F S640x256 .bf16) (x18 : Vec F S640x1 .f32) : FVec F S256x384 .f32 :=
  k0_pay19 (k0_pay35 x0 x1 x2 x3 x4 x5 x6 x7 x8 x9 x10 x11 x12 x13 x14 x15 x16 x17 x18) -- `v100`
def k0_pay41 (x0 : Vec F S256x1024 .f32) (x1 : Vec F S1x2x1024 .f32) (x2 : Vec F S1x1024 .f32) (x3 : Vec F S256x512 .f32) (x4 : Vec F S256x128 .f32) (x5 : Vec F S1024x768 .bf16) (x6 : Vec F S1024x512 .bf16) (x7 : Vec F S1024x512 .bf16) (x8 : Vec F S1024x3072 .bf16) (x9 : Vec F S1x3072 .f32) (x10 : Vec F S1x384 .f32) (x11 : Vec F S384x1024 .bf16) (x12 : Vec F S384x512 .bf16) (x13 : Vec F S512x1024 .bf16) (x14 : Vec F S1x256 .f32) (x15 : Vec F S256x1024 .bf16) (x16 : Vec F S128x1024 .bf16) (x17 : Vec F S640x256 .bf16) (x18 : Vec F S640x1 .f32) : FVec F S1x384 .f32 :=
  k0_pay20 (View.ld x10 r0_18) -- `v102`
def k0_pay42 (x0 : Vec F S256x1024 .f32) (x1 : Vec F S1x2x1024 .f32) (x2 : Vec F S1x1024 .f32) (x3 : Vec F S256x512 .f32) (x4 : Vec F S256x128 .f32) (x5 : Vec F S1024x768 .bf16) (x6 : Vec F S1024x512 .bf16) (x7 : Vec F S1024x512 .bf16) (x8 : Vec F S1024x3072 .bf16) (x9 : Vec F S1x3072 .f32) (x10 : Vec F S1x384 .f32) (x11 : Vec F S384x1024 .bf16) (x12 : Vec F S384x512 .bf16) (x13 : Vec F S512x1024 .bf16) (x14 : Vec F S1x256 .f32) (x15 : Vec F S256x1024 .bf16) (x16 : Vec F S128x1024 .bf16) (x17 : Vec F S640x256 .bf16) (x18 : Vec F S640x1 .f32) : FVec F S256x1 .f32 :=
  k0_pay21 (k0_pay35 x0 x1 x2 x3 x4 x5 x6 x7 x8 x9 x10 x11 x12 x13 x14 x15 x16 x17 x18) -- `v105`
def k0_pay43 (x0 : Vec F S256x1024 .f32) (x1 : Vec F S1x2x1024 .f32) (x2 : Vec F S1x1024 .f32) (x3 : Vec F S256x512 .f32) (x4 : Vec F S256x128 .f32) (x5 : Vec F S1024x768 .bf16) (x6 : Vec F S1024x512 .bf16) (x7 : Vec F S1024x512 .bf16) (x8 : Vec F S1024x3072 .bf16) (x9 : Vec F S1x3072 .f32) (x10 : Vec F S1x384 .f32) (x11 : Vec F S384x1024 .bf16) (x12 : Vec F S384x512 .bf16) (x13 : Vec F S512x1024 .bf16) (x14 : Vec F S1x256 .f32) (x15 : Vec F S256x1024 .bf16) (x16 : Vec F S128x1024 .bf16) (x17 : Vec F S640x256 .bf16) (x18 : Vec F S640x1 .f32) : FVec F S256x1 .f32 :=
  k0_pay22 (F := F) -- `v106`
def k0_pay44 (x0 : Vec F S256x1024 .f32) (x1 : Vec F S1x2x1024 .f32) (x2 : Vec F S1x1024 .f32) (x3 : Vec F S256x512 .f32) (x4 : Vec F S256x128 .f32) (x5 : Vec F S1024x768 .bf16) (x6 : Vec F S1024x512 .bf16) (x7 : Vec F S1024x512 .bf16) (x8 : Vec F S1024x3072 .bf16) (x9 : Vec F S1x3072 .f32) (x10 : Vec F S1x384 .f32) (x11 : Vec F S384x1024 .bf16) (x12 : Vec F S384x512 .bf16) (x13 : Vec F S512x1024 .bf16) (x14 : Vec F S1x256 .f32) (x15 : Vec F S256x1024 .bf16) (x16 : Vec F S128x1024 .bf16) (x17 : Vec F S640x256 .bf16) (x18 : Vec F S640x1 .f32) : FVec F S256x1024 .bf16 :=
  k0_pay23 (k0_pay40 x0 x1 x2 x3 x4 x5 x6 x7 x8 x9 x10 x11 x12 x13 x14 x15 x16 x17 x18) (k0_pay41 x0 x1 x2 x3 x4 x5 x6 x7 x8 x9 x10 x11 x12 x13 x14 x15 x16 x17 x18) (k0_pay42 x0 x1 x2 x3 x4 x5 x6 x7 x8 x9 x10 x11 x12 x13 x14 x15 x16 x17 x18) (k0_pay43 x0 x1 x2 x3 x4 x5 x6 x7 x8 x9 x10 x11 x12 x13 x14 x15 x16 x17 x18) (View.ld x12 r0_19) (View.ld x3 r0_20) (View.ld x11 r0_21) (View.ld x13 r0_22) -- `v130`

/-- Window 19's staging buffer after the body, from the input windows' blocks: its 8 stores as pieces, LAST
    FIRST (Lib/Pipeline/FrameBody.lean `View.canon`; the payloads are the skeleton's and the values stated above). -/
def out0_19 (x0 : Vec F S256x1024 .f32) (x1 : Vec F S1x2x1024 .f32) (x2 : Vec F S1x1024 .f32) (x3 : Vec F S256x512 .f32) (x4 : Vec F S256x128 .f32) (x5 : Vec F S1024x768 .bf16) (x6 : Vec F S1024x512 .bf16) (x7 : Vec F S1024x512 .bf16) (x8 : Vec F S1024x3072 .bf16) (x9 : Vec F S1x3072 .f32) (x10 : Vec F S1x384 .f32) (x11 : Vec F S384x1024 .bf16) (x12 : Vec F S384x512 .bf16) (x13 : Vec F S512x1024 .bf16) (x14 : Vec F S1x256 .f32) (x15 : Vec F S256x1024 .bf16) (x16 : Vec F S128x1024 .bf16) (x17 : Vec F S640x256 .bf16) (x18 : Vec F S640x1 .f32) : Vec F S8x256x128 .bf16 :=
  View.canon [⟨r0_14, k0_pay31 (k0_pay44 x0 x1 x2 x3 x4 x5 x6 x7 x8 x9 x10 x11 x12 x13 x14 x15 x16 x17 x18)⟩,
    ⟨r0_13, k0_pay30 (k0_pay44 x0 x1 x2 x3 x4 x5 x6 x7 x8 x9 x10 x11 x12 x13 x14 x15 x16 x17 x18)⟩,
    ⟨r0_12, k0_pay29 (k0_pay44 x0 x1 x2 x3 x4 x5 x6 x7 x8 x9 x10 x11 x12 x13 x14 x15 x16 x17 x18)⟩,
    ⟨r0_11, k0_pay28 (k0_pay44 x0 x1 x2 x3 x4 x5 x6 x7 x8 x9 x10 x11 x12 x13 x14 x15 x16 x17 x18)⟩,
    ⟨r0_10, k0_pay27 (k0_pay44 x0 x1 x2 x3 x4 x5 x6 x7 x8 x9 x10 x11 x12 x13 x14 x15 x16 x17 x18)⟩,
    ⟨r0_9, k0_pay26 (k0_pay40 x0 x1 x2 x3 x4 x5 x6 x7 x8 x9 x10 x11 x12 x13 x14 x15 x16 x17 x18) (k0_pay41 x0 x1 x2 x3 x4 x5 x6 x7 x8 x9 x10 x11 x12 x13 x14 x15 x16 x17 x18) (k0_pay42 x0 x1 x2 x3 x4 x5 x6 x7 x8 x9 x10 x11 x12 x13 x14 x15 x16 x17 x18) (k0_pay43 x0 x1 x2 x3 x4 x5 x6 x7 x8 x9 x10 x11 x12 x13 x14 x15 x16 x17 x18) (View.ld x12 r0_19) (View.ld x3 r0_20) (View.ld x11 r0_21) (View.ld x13 r0_22)⟩,
    ⟨r0_8, k0_pay25 (k0_pay40 x0 x1 x2 x3 x4 x5 x6 x7 x8 x9 x10 x11 x12 x13 x14 x15 x16 x17 x18) (k0_pay41 x0 x1 x2 x3 x4 x5 x6 x7 x8 x9 x10 x11 x12 x13 x14 x15 x16 x17 x18) (k0_pay42 x0 x1 x2 x3 x4 x5 x6 x7 x8 x9 x10 x11 x12 x13 x14 x15 x16 x17 x18) (k0_pay43 x0 x1 x2 x3 x4 x5 x6 x7 x8 x9 x10 x11 x12 x13 x14 x15 x16 x17 x18) (View.ld x12 r0_19) (View.ld x3 r0_20) (View.ld x11 r0_21) (View.ld x13 r0_22)⟩,
    ⟨r0_7, k0_pay24 (k0_pay40 x0 x1 x2 x3 x4 x5 x6 x7 x8 x9 x10 x11 x12 x13 x14 x15 x16 x17 x18) (k0_pay41 x0 x1 x2 x3 x4 x5 x6 x7 x8 x9 x10 x11 x12 x13 x14 x15 x16 x17 x18) (k0_pay42 x0 x1 x2 x3 x4 x5 x6 x7 x8 x9 x10 x11 x12 x13 x14 x15 x16 x17 x18) (k0_pay43 x0 x1 x2 x3 x4 x5 x6 x7 x8 x9 x10 x11 x12 x13 x14 x15 x16 x17 x18) (View.ld x12 r0_19) (View.ld x3 r0_20) (View.ld x11 r0_21) (View.ld x13 r0_22)⟩]

/-- Its stores tile the buffer (checked by evaluation), so they cover it. -/
theorem cover0_19 (p0 : Vec F S1x256x128 .bf16) (p1 : Vec F S1x256x128 .bf16) (p2 : Vec F S1x256x128 .bf16) (p3 : Vec F S1x256x128 .bf16) (p4 : Vec F S1x256x128 .bf16) (p5 : Vec F S1x256x128 .bf16) (p6 : Vec F S1x256x128 .bf16) (p7 : Vec F S1x256x128 .bf16) (y : S8x256x128.Idx) :
    ∃ pc ∈ ([⟨r0_14, p0⟩, ⟨r0_13, p1⟩, ⟨r0_12, p2⟩, ⟨r0_11, p3⟩, ⟨r0_10, p4⟩, ⟨r0_9, p5⟩, ⟨r0_8, p6⟩, ⟨r0_7, p7⟩] : List (View.Piece (Elt F) S8x256x128 .bf16)), y ∈ pc.1.set :=
  View.cover_of_tiled [⟨r0_14, p0⟩, ⟨r0_13, p1⟩, ⟨r0_12, p2⟩, ⟨r0_11, p3⟩, ⟨r0_10, p4⟩, ⟨r0_9, p5⟩, ⟨r0_8, p6⟩, ⟨r0_7, p7⟩] S1x256x128.size (by rfl) y

/-- Window 20's staging buffer after the body, from the input windows' blocks: its 8 stores as pieces, LAST
    FIRST (Lib/Pipeline/FrameBody.lean `View.canon`; the payloads are the skeleton's and the values stated above). -/
def out0_20 (x0 : Vec F S256x1024 .f32) (x1 : Vec F S1x2x1024 .f32) (x2 : Vec F S1x1024 .f32) (x3 : Vec F S256x512 .f32) (x4 : Vec F S256x128 .f32) (x5 : Vec F S1024x768 .bf16) (x6 : Vec F S1024x512 .bf16) (x7 : Vec F S1024x512 .bf16) (x8 : Vec F S1024x3072 .bf16) (x9 : Vec F S1x3072 .f32) (x10 : Vec F S1x384 .f32) (x11 : Vec F S384x1024 .bf16) (x12 : Vec F S384x512 .bf16) (x13 : Vec F S512x1024 .bf16) (x14 : Vec F S1x256 .f32) (x15 : Vec F S256x1024 .bf16) (x16 : Vec F S128x1024 .bf16) (x17 : Vec F S640x256 .bf16) (x18 : Vec F S640x1 .f32) : Vec F S8x256x128 .bf16 :=
  View.canon [⟨r0_14, k0_pay17 (k0_pay39 x0 x1 x2 x3 x4 x5 x6 x7 x8 x9 x10 x11 x12 x13 x14 x15 x16 x17 x18)⟩,
    ⟨r0_13, k0_pay16 (k0_pay39 x0 x1 x2 x3 x4 x5 x6 x7 x8 x9 x10 x11 x12 x13 x14 x15 x16 x17 x18)⟩,
    ⟨r0_12, k0_pay15 (k0_pay39 x0 x1 x2 x3 x4 x5 x6 x7 x8 x9 x10 x11 x12 x13 x14 x15 x16 x17 x18)⟩,
    ⟨r0_11, k0_pay14 (k0_pay13 (k0_pay35 x0 x1 x2 x3 x4 x5 x6 x7 x8 x9 x10 x11 x12 x13 x14 x15 x16 x17 x18) (k0_pay36 x0 x1 x2 x3 x4 x5 x6 x7 x8 x9 x10 x11 x12 x13 x14 x15 x16 x17 x18) (k0_pay37 x0 x1 x2 x3 x4 x5 x6 x7 x8 x9 x10 x11 x12 x13 x14 x15 x16 x17 x18) (k0_pay38 x0 x1 x2 x3 x4 x5 x6 x7 x8 x9 x10 x11 x12 x13 x14 x15 x16 x17 x18) (View.ld x4 r0_5) (View.ld x15 r0_0) (View.ld x16 r0_6))⟩,
    ⟨r0_10, k0_pay12 (k0_pay35 x0 x1 x2 x3 x4 x5 x6 x7 x8 x9 x10 x11 x12 x13 x14 x15 x16 x17 x18) (k0_pay36 x0 x1 x2 x3 x4 x5 x6 x7 x8 x9 x10 x11 x12 x13 x14 x15 x16 x17 x18) (k0_pay37 x0 x1 x2 x3 x4 x5 x6 x7 x8 x9 x10 x11 x12 x13 x14 x15 x16 x17 x18) (k0_pay38 x0 x1 x2 x3 x4 x5 x6 x7 x8 x9 x10 x11 x12 x13 x14 x15 x16 x17 x18) (View.ld x4 r0_5) (View.ld x15 r0_0) (View.ld x16 r0_6)⟩,
    ⟨r0_9, k0_pay11 (k0_pay35 x0 x1 x2 x3 x4 x5 x6 x7 x8 x9 x10 x11 x12 x13 x14 x15 x16 x17 x18) (k0_pay36 x0 x1 x2 x3 x4 x5 x6 x7 x8 x9 x10 x11 x12 x13 x14 x15 x16 x17 x18) (k0_pay37 x0 x1 x2 x3 x4 x5 x6 x7 x8 x9 x10 x11 x12 x13 x14 x15 x16 x17 x18) (k0_pay38 x0 x1 x2 x3 x4 x5 x6 x7 x8 x9 x10 x11 x12 x13 x14 x15 x16 x17 x18) (View.ld x4 r0_5) (View.ld x15 r0_0) (View.ld x16 r0_6)⟩,
    ⟨r0_8, k0_pay10 (k0_pay35 x0 x1 x2 x3 x4 x5 x6 x7 x8 x9 x10 x11 x12 x13 x14 x15 x16 x17 x18) (k0_pay36 x0 x1 x2 x3 x4 x5 x6 x7 x8 x9 x10 x11 x12 x13 x14 x15 x16 x17 x18) (k0_pay37 x0 x1 x2 x3 x4 x5 x6 x7 x8 x9 x10 x11 x12 x13 x14 x15 x16 x17 x18) (k0_pay38 x0 x1 x2 x3 x4 x5 x6 x7 x8 x9 x10 x11 x12 x13 x14 x15 x16 x17 x18) (View.ld x4 r0_5) (View.ld x15 r0_0) (View.ld x16 r0_6)⟩,
    ⟨r0_7, k0_pay9 (k0_pay35 x0 x1 x2 x3 x4 x5 x6 x7 x8 x9 x10 x11 x12 x13 x14 x15 x16 x17 x18) (k0_pay36 x0 x1 x2 x3 x4 x5 x6 x7 x8 x9 x10 x11 x12 x13 x14 x15 x16 x17 x18) (k0_pay37 x0 x1 x2 x3 x4 x5 x6 x7 x8 x9 x10 x11 x12 x13 x14 x15 x16 x17 x18) (k0_pay38 x0 x1 x2 x3 x4 x5 x6 x7 x8 x9 x10 x11 x12 x13 x14 x15 x16 x17 x18) (View.ld x4 r0_5) (View.ld x15 r0_0) (View.ld x16 r0_6)⟩]

/-- Its stores tile the buffer (checked by evaluation), so they cover it. -/
theorem cover0_20 (p0 : Vec F S1x256x128 .bf16) (p1 : Vec F S1x256x128 .bf16) (p2 : Vec F S1x256x128 .bf16) (p3 : Vec F S1x256x128 .bf16) (p4 : Vec F S1x256x128 .bf16) (p5 : Vec F S1x256x128 .bf16) (p6 : Vec F S1x256x128 .bf16) (p7 : Vec F S1x256x128 .bf16) (y : S8x256x128.Idx) :
    ∃ pc ∈ ([⟨r0_14, p0⟩, ⟨r0_13, p1⟩, ⟨r0_12, p2⟩, ⟨r0_11, p3⟩, ⟨r0_10, p4⟩, ⟨r0_9, p5⟩, ⟨r0_8, p6⟩, ⟨r0_7, p7⟩] : List (View.Piece (Elt F) S8x256x128 .bf16)), y ∈ pc.1.set :=
  View.cover_of_tiled [⟨r0_14, p0⟩, ⟨r0_13, p1⟩, ⟨r0_12, p2⟩, ⟨r0_11, p3⟩, ⟨r0_10, p4⟩, ⟨r0_9, p5⟩, ⟨r0_8, p6⟩, ⟨r0_7, p7⟩] S1x256x128.size (by rfl) y

/-- Window 21's staging buffer after the body, from the input windows' blocks: its 1 store as pieces, LAST
    FIRST (Lib/Pipeline/FrameBody.lean `View.canon`; the payloads are the skeleton's and the values stated above). -/
def out0_21 (x0 : Vec F S256x1024 .f32) (x1 : Vec F S1x2x1024 .f32) (x2 : Vec F S1x1024 .f32) (x3 : Vec F S256x512 .f32) (x4 : Vec F S256x128 .f32) (x5 : Vec F S1024x768 .bf16) (x6 : Vec F S1024x512 .bf16) (x7 : Vec F S1024x512 .bf16) (x8 : Vec F S1024x3072 .bf16) (x9 : Vec F S1x3072 .f32) (x10 : Vec F S1x384 .f32) (x11 : Vec F S384x1024 .bf16) (x12 : Vec F S384x512 .bf16) (x13 : Vec F S512x1024 .bf16) (x14 : Vec F S1x256 .f32) (x15 : Vec F S256x1024 .bf16) (x16 : Vec F S128x1024 .bf16) (x17 : Vec F S640x256 .bf16) (x18 : Vec F S640x1 .f32) : Vec F S1x640x256 .bf16 :=
  View.canon [⟨r0_17, k0_pay18 (k0_pay7 (k0_pay36 x0 x1 x2 x3 x4 x5 x6 x7 x8 x9 x10 x11 x12 x13 x14 x15 x16 x17 x18) (k0_pay37 x0 x1 x2 x3 x4 x5 x6 x7 x8 x9 x10 x11 x12 x13 x14 x15 x16 x17 x18) (k0_pay38 x0 x1 x2 x3 x4 x5 x6 x7 x8 x9 x10 x11 x12 x13 x14 x15 x16 x17 x18)) (View.ld x17 r0_15) (View.ld x18 r0_16)⟩]

/-- Its stores tile the buffer (checked by evaluation), so they cover it. -/
theorem cover0_21 (p0 : Vec F S1x640x256 .bf16) (y : S1x640x256.Idx) :
    ∃ pc ∈ ([⟨r0_17, p0⟩] : List (View.Piece (Elt F) S1x640x256 .bf16)), y ∈ pc.1.set :=
  View.cover_of_tiled [⟨r0_17, p0⟩] S1x640x256.size (by rfl) y

/-- Window 22's staging buffer after the body, from the input windows' blocks: its 1 store as pieces, LAST
    FIRST (Lib/Pipeline/FrameBody.lean `View.canon`; the payloads are the skeleton's and the values stated above). -/
def out0_22 (x0 : Vec F S256x1024 .f32) (x1 : Vec F S1x2x1024 .f32) (x2 : Vec F S1x1024 .f32) (x3 : Vec F S256x512 .f32) (x4 : Vec F S256x128 .f32) (x5 : Vec F S1024x768 .bf16) (x6 : Vec F S1024x512 .bf16) (x7 : Vec F S1024x512 .bf16) (x8 : Vec F S1024x3072 .bf16) (x9 : Vec F S1x3072 .f32) (x10 : Vec F S1x384 .f32) (x11 : Vec F S384x1024 .bf16) (x12 : Vec F S384x512 .bf16) (x13 : Vec F S512x1024 .bf16) (x14 : Vec F S1x256 .f32) (x15 : Vec F S256x1024 .bf16) (x16 : Vec F S128x1024 .bf16) (x17 : Vec F S640x256 .bf16) (x18 : Vec F S640x1 .f32) : Vec F S256x512 .f32 :=
  View.canon [⟨r0_20, k0_pay32 (k0_pay34 x0 x1 x2 x3 x4 x5 x6 x7 x8 x9 x10 x11 x12 x13 x14 x15 x16 x17 x18) (View.ld x6 r0_23)⟩]

/-- Its stores tile the buffer (checked by evaluation), so they cover it. -/
theorem cover0_22 (p0 : Vec F S256x512 .f32) (y : S256x512.Idx) :
    ∃ pc ∈ ([⟨r0_20, p0⟩] : List (View.Piece (Elt F) S256x512 .f32)), y ∈ pc.1.set :=
  View.cover_of_tiled [⟨r0_20, p0⟩] S256x512.size (by rfl) y

/-- Window 23's staging buffer after the body, from the input windows' blocks: its 1 store as pieces, LAST
    FIRST (Lib/Pipeline/FrameBody.lean `View.canon`; the payloads are the skeleton's and the values stated above). -/
def out0_23 (x0 : Vec F S256x1024 .f32) (x1 : Vec F S1x2x1024 .f32) (x2 : Vec F S1x1024 .f32) (x3 : Vec F S256x512 .f32) (x4 : Vec F S256x128 .f32) (x5 : Vec F S1024x768 .bf16) (x6 : Vec F S1024x512 .bf16) (x7 : Vec F S1024x512 .bf16) (x8 : Vec F S1024x3072 .bf16) (x9 : Vec F S1x3072 .f32) (x10 : Vec F S1x384 .f32) (x11 : Vec F S384x1024 .bf16) (x12 : Vec F S384x512 .bf16) (x13 : Vec F S512x1024 .bf16) (x14 : Vec F S1x256 .f32) (x15 : Vec F S256x1024 .bf16) (x16 : Vec F S128x1024 .bf16) (x17 : Vec F S640x256 .bf16) (x18 : Vec F S640x1 .f32) : Vec F S256x512 .bf16 :=
  View.canon [⟨r0_20, k0_pay33 (k0_pay34 x0 x1 x2 x3 x4 x5 x6 x7 x8 x9 x10 x11 x12 x13 x14 x15 x16 x17 x18) (View.ld x7 r0_23)⟩]

/-- Its stores tile the buffer (checked by evaluation), so they cover it. -/
theorem cover0_23 (p0 : Vec F S256x512 .bf16) (y : S256x512.Idx) :
    ∃ pc ∈ ([⟨r0_20, p0⟩] : List (View.Piece (Elt F) S256x512 .bf16)), y ∈ pc.1.set :=
  View.cover_of_tiled [⟨r0_20, p0⟩] S256x512.size (by rfl) y

/-- Window 24's staging buffer after the body, from the input windows' blocks: its 1 store as pieces, LAST
    FIRST (Lib/Pipeline/FrameBody.lean `View.canon`; the payloads are the skeleton's and the values stated above). -/
def out0_24 (x0 : Vec F S256x1024 .f32) (x1 : Vec F S1x2x1024 .f32) (x2 : Vec F S1x1024 .f32) (x3 : Vec F S256x512 .f32) (x4 : Vec F S256x128 .f32) (x5 : Vec F S1024x768 .bf16) (x6 : Vec F S1024x512 .bf16) (x7 : Vec F S1024x512 .bf16) (x8 : Vec F S1024x3072 .bf16) (x9 : Vec F S1x3072 .f32) (x10 : Vec F S1x384 .f32) (x11 : Vec F S384x1024 .bf16) (x12 : Vec F S384x512 .bf16) (x13 : Vec F S512x1024 .bf16) (x14 : Vec F S1x256 .f32) (x15 : Vec F S256x1024 .bf16) (x16 : Vec F S128x1024 .bf16) (x17 : Vec F S640x256 .bf16) (x18 : Vec F S640x1 .f32) : Vec F S256x3072 .bf16 :=
  View.canon [⟨r0_26, k0_pay1 (k0_pay34 x0 x1 x2 x3 x4 x5 x6 x7 x8 x9 x10 x11 x12 x13 x14 x15 x16 x17 x18) (View.ld x8 r0_24) (View.ld x9 r0_25)⟩]

/-- Its stores tile the buffer (checked by evaluation), so they cover it. -/
theorem cover0_24 (p0 : Vec F S256x3072 .bf16) (y : S256x3072.Idx) :
    ∃ pc ∈ ([⟨r0_26, p0⟩] : List (View.Piece (Elt F) S256x3072 .bf16)), y ∈ pc.1.set :=
  View.cover_of_tiled [⟨r0_26, p0⟩] S256x3072.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S256x1024 .f32) (harg1 : arg1.IsWhole) (arg2 : Memref sig .tc .vmem S1x2x1024 .f32) (harg2 : arg2.IsWhole) (arg3 : Memref sig .tc .vmem S1x1024 .f32) (harg3 : arg3.IsWhole) (arg4 : Memref sig .tc .vmem S256x512 .f32) (harg4 : arg4.IsWhole) (arg5 : Memref sig .tc .vmem S256x128 .f32) (harg5 : arg5.IsWhole) (arg6 : Memref sig .tc .vmem S1024x768 .bf16) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S1024x3072 .bf16) (harg9 : arg9.IsWhole) (arg10 : Memref sig .tc .vmem S1x3072 .f32) (harg10 : arg10.IsWhole) (arg11 : Memref sig .tc .vmem S1x384 .f32) (harg11 : arg11.IsWhole) (arg12 : Memref sig .tc .vmem S384x1024 .bf16) (harg12 : arg12.IsWhole) (arg13 : Memref sig .tc .vmem S384x512 .bf16) (harg13 : arg13.IsWhole) (arg14 : Memref sig .tc .vmem S512x1024 .bf16) (harg14 : arg14.IsWhole) (arg15 : Memref sig .tc .vmem S1x256 .f32) (harg15 : arg15.IsWhole) (arg16 : Memref sig .tc .vmem S256x1024 .bf16) (harg16 : arg16.IsWhole) (arg17 : Memref sig .tc .vmem S128x1024 .bf16) (harg17 : arg17.IsWhole) (arg18 : Memref sig .tc .vmem S640x256 .bf16) (harg18 : arg18.IsWhole) (arg19 : Memref sig .tc .vmem S640x1 .f32) (harg19 : arg19.IsWhole) (arg20 : Memref sig .tc .vmem S8x256x128 .bf16) (harg20 : arg20.IsWhole) (arg21 : Memref sig .tc .vmem S8x256x128 .bf16) (harg21 : arg21.IsWhole) (arg22 : Memref sig .tc .vmem S1x640x256 .bf16) (harg22 : arg22.IsWhole) (arg23 : Memref sig .tc .vmem S256x512 .f32) (harg23 : arg23.IsWhole) (arg24 : Memref sig .tc .vmem S256x512 .bf16) (harg24 : arg24.IsWhole) (arg25 : Memref sig .tc .vmem S256x3072 .bf16) (harg25 : arg25.IsWhole)
    (x0 : Vec F S256x1024 .f32) (x1 : Vec F S1x2x1024 .f32) (x2 : Vec F S1x1024 .f32) (x3 : Vec F S256x512 .f32) (x4 : Vec F S256x128 .f32) (x5 : Vec F S1024x768 .bf16) (x6 : Vec F S1024x512 .bf16) (x7 : Vec F S1024x512 .bf16) (x8 : Vec F S1024x3072 .bf16) (x9 : Vec F S1x3072 .f32) (x10 : Vec F S1x384 .f32) (x11 : Vec F S384x1024 .bf16) (x12 : Vec F S384x512 .bf16) (x13 : Vec F S512x1024 .bf16) (x14 : Vec F S1x256 .f32) (x15 : Vec F S256x1024 .bf16) (x16 : Vec F S128x1024 .bf16) (x17 : Vec F S640x256 .bf16) (x18 : Vec F S640x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare (out0_19 x0 x1 x2 x3 x4 x5 x6 x7 x8 x9 x10 x11 x12 x13 x14 x15 x16 x17 x18) ∗ owns (c : Thread nD τ) arg21 fullShare (out0_20 x0 x1 x2 x3 x4 x5 x6 x7 x8 x9 x10 x11 x12 x13 x14 x15 x16 x17 x18) ∗ owns (c : Thread nD τ) arg22 fullShare (out0_21 x0 x1 x2 x3 x4 x5 x6 x7 x8 x9 x10 x11 x12 x13 x14 x15 x16 x17 x18) ∗ owns (c : Thread nD τ) arg23 fullShare (out0_22 x0 x1 x2 x3 x4 x5 x6 x7 x8 x9 x10 x11 x12 x13 x14 x15 x16 x17 x18) ∗ owns (c : Thread nD τ) arg24 fullShare (out0_23 x0 x1 x2 x3 x4 x5 x6 x7 x8 x9 x10 x11 x12 x13 x14 x15 x16 x17 x18) ∗ owns (c : Thread nD τ) arg25 fullShare (out0_24 x0 x1 x2 x3 x4 x5 x6 x7 x8 x9 x10 x11 x12 x13 x14 x15 x16 x17 x18)) -∗ K ⟨⟩))
      ⊢ wp frame (wpE (defs₀ (F := F)) Variants.none c none) E (cc0_proj_in i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc0_proj_in_eq_skeleton]; unfold cc0_proj_in_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, Hk⟩
  subst hf0 hf1 hf2 hf3 hf4 hf5 hf6 hf7 hf8 hf9 hf10 hf11 hf12 hf13 hf14 hf15 hf16 hf17 hf18
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists _; isplitr
    swap; · iexact H19
    ipureintro
    refine (View.read_writes_eq_canon _ _ _ (cover0_19 _ _ _ _ _ _ _ _)).trans ?_
    rfl
  isplitl [H20]
  · iexists _; isplitr
    swap; · iexact H20
    ipureintro
    refine (View.read_writes_eq_canon _ _ _ (cover0_20 _ _ _ _ _ _ _ _)).trans ?_
    rfl
  isplitl [H21]
  · iexists _; isplitr
    swap; · iexact H21
    ipureintro
    refine (View.read_writes_eq_canon _ _ _ (cover0_21 _)).trans ?_
    rfl
  isplitl [H22]
  · iexists _; isplitr
    swap; · iexact H22
    ipureintro
    refine (View.read_writes_eq_canon _ _ _ (cover0_22 _)).trans ?_
    rfl
  isplitl [H23]
  · iexists _; isplitr
    swap; · iexact H23
    ipureintro
    refine (View.read_writes_eq_canon _ _ _ (cover0_23 _)).trans ?_
    rfl
  iexists _; isplitr
  swap; · iexact H24
  ipureintro
  refine (View.read_writes_eq_canon _ _ _ (cover0_24 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)
    | ⟨24, _⟩ => out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)
    | ⟨_ + 25, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) := by dsimp only [dats]
theorem after0_24 (c : Dev nD) (t : Fin cfg0.N) : (dats m 0 c).after 24 t = out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t))

set_option maxHeartbeats 2000000 in
/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  iintro ⟨H0, H1, H2, H3, H4, H5, H6, H7, H8, H9, H10, H11, H12, H13, H14, H15, H16, H17, H18, H19, H20, H21, H22, H23, H24⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  iexact H24

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 2000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

/-- THE FRAME: `Cert.quiescent_ProjIdeal`'s statement (Defs.lean) at any `F` : the arguments end unchanged and every counter zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.ProjIdeal.Body

end
-- ==== Proof.FfnValue.lean ====
module

public import proofs.«01_k».proof.Proof.Gen.FfnIdeal.Frame
public import proofs.«01_k».proof.Proof.Gen.FfnRefIdeal.Read
public import Idealize.ShloMosaic.Lib.Pipeline.ValueKit
public import Idealize.ShloMosaic.Lib.Pointwise

@[expose] public section

set_option maxRecDepth 16384

/-! The feed-forward call: the array the kernel leaves is the reference's term, row block by row block. -/

noncomputable section

namespace Cert.FfnIdeal.Result

open Idealize.ShloMosaic Idealize.ShloMosaic.TcCoe Idealize.SL.Sem
open Idealize.ShloMosaic.Pipeline (Dat)
open Cert.FfnIdeal Cert.FfnIdeal.Gen Cert.FfnRefIdeal.Read

variable (m : (ℓ : Loc nD τ sig) → Buf (Elt Ideal) ℓ)

/-- The reference's result of the call's own arguments. -/
abbrev REF (h : FVec Ideal S16384x1024 .bf16) (x : FVec Ideal S16384x1024 .f32) (gt : FVec Ideal S2x1x1024 .f32)
    (comb : FVec Ideal S16384x1 .f32) (w1 w3 : FVec Ideal S1024x2816 .f32) (w2 : FVec Ideal S2816x1024 .f32) :
    FVec Ideal S16384x1024 .f32 := val_main_v14 (F := Ideal) h x gt comb w1 w3 w2

/-- Where each window's block sits at a grid point. -/
theorem idx : ∀ t : Fin cfg0.N, win0_0.index t = ![t.val, 0] ∧ win0_1.index t = ![t.val, 0]
    ∧ win0_2.index t = ![t.val / 32, 0, 0] ∧ win0_3.index t = ![t.val, 0] ∧ win0_4.index t = ![0, 0]
    ∧ win0_5.index t = ![0, 0] ∧ win0_6.index t = ![0, 0] ∧ win0_7.index t = ![t.val, 0] ∧ t.val < 64 :=
  (by decide +kernel : ∀ t : Fin grid0.N, _)

/-- What the body stores, read at an index: the gated two-layer product, scaled and added to the input row. -/
theorem pay_at (h : FVec Ideal S256x1024 .bf16) (w1 w3 : FVec Ideal S1024x2816 .bf16) (w2 : FVec Ideal S2816x1024 .bf16)
    (x : FVec Ideal S256x1024 .f32) (gt : FVec Ideal S1x1x1024 .f32) (comb : FVec Ideal S256x1 .f32) (y : S256x1024.Idx) :
    (k0_pay1 (F := Ideal) h w1 w3 w2 x gt comb y : EReal)
      = x y + gt (ix3 0 0 (y 1)) * (comb (ix2 (y 0) 0) * ∑ j : Fin 2816,
        ((∑ k : Fin 1024, h (ix2 (y 0) k) * w1 (ix2 k j))
            * Ideal.div 1 (1 + Ideal.exp (-∑ k : Fin 1024, h (ix2 (y 0) k) * w1 (ix2 k j)))
          * ∑ k : Fin 1024, h (ix2 (y 0) k) * w3 (ix2 k j)) * w2 (ix2 j (y 1))) := by
  pointwise [k0_pay1]
  rw [mul_assoc]
  rfl

set_option maxHeartbeats 1600000 in
/-- What the body stores at an index of its block is the reference's value where that index sits in the array. -/
theorem point (c : Dev nD) (t : Fin cfg0.N) (y) :
    k0_pay1 (iblk m c 0 t) (iblk m c 4 t) (iblk m c 5 t) (iblk m c 6 t) (iblk m c 1 t) (iblk m c 2 t) (iblk m c 3 t) y
      = REF (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (((cfg0.win 7).blk t).view.emb y) := by
  rw [pay_at]
  pointwise [REF, val_main_v14, val_main_v13, val_main_v12, val_main_v11, val_main_v10, val_main_v9, val_main_v8,
    val_main_v7, val_main_v6, val_main_v5, val_main_v4, val_main_call0_v5, val_main_call0_v4, val_main_call0_cst_0,
    val_main_call0_v3, val_main_call0_v2, val_main_call0_cst, val_main_call0_v1, val_main_call0_v0, val_main_v3, val_main_v2,
    val_main_v1, val_main_v0]
  blk_point [iblk, V, idx t]

/-- The array after the run is the reference's result. -/
theorem final (c : Dev nD) : (dats m 0 c).arrAt 7 (cfgs 0).N
    = REF (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  refine (dats m 0 c).arrAt_eq_of_covers 7 _ (by decide +kernel) fun t _ y => ?_
  blk_simp
  rw [after0_7]; frame_out
  exact point m c t y

end Cert.FfnIdeal.Result
-- ==== Proof.MergeValue.lean ====
module

public import proofs.«01_k».proof.Proof.Gen.MergeIdeal.Frame
public import proofs.«01_k».proof.Proof.Gen.MergeRefIdeal.Read
public import Idealize.ShloMosaic.Lib.Pipeline.ValueKit
public import Idealize.ShloMosaic.Lib.Pointwise
public import Idealize.ShloMosaic.Lib.Claim

@[expose] public section

set_option maxRecDepth 16384

/-! The merge of the three branches: both arrays the kernel leaves are the reference's terms, row block by row block. -/

noncomputable section

namespace Cert.MergeIdeal.Result

open Idealize.ShloMosaic Idealize.ShloMosaic.TcCoe Idealize.SL.Sem
open Idealize.ShloMosaic.Pipeline (Dat)
open Cert.MergeIdeal Cert.MergeIdeal.Gen Cert.MergeRefIdeal.Read

variable (m : (ℓ : Loc nD τ sig) → Buf (Elt Ideal) ℓ)

section
variable (a p f : FVec Ideal S16384x512 .bf16) (g : FVec Ideal S16384x3072 .bf16) (x : FVec Ideal S16384x1024 .f32)
  (md : FVec Ideal S2x3x1024 .f32) (wa wb wc : FVec Ideal S512x1024 .f32) (wo : FVec Ideal S1024x1024 .f32)
  (g2 : FVec Ideal S1024 .f32)

/-- The reference's first result (the residual stream) of the call's own arguments. -/
abbrev REFx : FVec Ideal S16384x1024 .f32 := val_main_v49 (F := Ideal) a p f g x md wa wb wc wo

/-- The reference's second result (the modulated norm) of the call's own arguments. -/
abbrev REFh : FVec Ideal S16384x1024 .bf16 := val_main_v51 (F := Ideal) a p f g x md wa wb wc wo g2
end

/-- Where each window's block sits at a grid point. -/
theorem idx : ∀ t : Fin cfg0.N, win0_0.index t = ![t.val, 0] ∧ win0_1.index t = ![t.val, 0]
    ∧ win0_2.index t = ![t.val, 0] ∧ win0_3.index t = ![t.val, 0] ∧ win0_4.index t = ![t.val, 0]
    ∧ win0_5.index t = ![t.val / 32, 0, 0] ∧ win0_6.index t = ![0, 0] ∧ win0_7.index t = ![0, 0]
    ∧ win0_8.index t = ![0, 0] ∧ win0_9.index t = ![0, 0] ∧ win0_10.index t = ![0, 0]
    ∧ win0_11.index t = ![t.val, 0] ∧ win0_12.index t = ![t.val, 0] ∧ t.val < 64 :=
  (by decide +kernel : ∀ t : Fin grid0.N, _)

set_option maxHeartbeats 1600000 in
/-- The residual rows the body stores are the reference's. -/
theorem pointx (c : Dev nD) (t : Fin cfg0.N) (y) :
    k0_pay3 (iblk m c 3 t) (iblk m c 0 t) (iblk m c 6 t) (iblk m c 1 t) (iblk m c 7 t) (iblk m c 2 t) (iblk m c 8 t)
        (iblk m c 5 t) (iblk m c 4 t) (iblk m c 9 t) y
      = REFx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
          (((cfg0.win 11).blk t).view.emb y) := by
  pointwise [k0_pay3, k0_pay2, REFx, val_main_v49, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0]
  blk_point [iblk, V, idx t]

/-- The first array after the run is the reference's residual stream. -/
theorem finalx (c : Dev nD) : (dats m 0 c).arrAt 11 (cfgs 0).N
    = REFx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 11 _ (by decide +kernel) fun t _ y => ?_
  blk_simp
  rw [after0_11]; unfold_out out0_11; frame_out
  exact pointx m c t y

section
variable (a p f : FVec Ideal S16384x512 .bf16) (g : FVec Ideal S16384x3072 .bf16) (x : FVec Ideal S16384x1024 .f32)
  (md : FVec Ideal S2x3x1024 .f32) (wa wb wc : FVec Ideal S512x1024 .f32) (wo : FVec Ideal S1024x1024 .f32)
  (g2 : FVec Ideal S1024 .f32)

/-- One entry of the modulated norm, from its row's entry, the mean square's sum, the gain, the scale and the shift. -/
abbrev normed (v s g sc sh : EReal) : EReal :=
  v * Ideal.rsqrt (Ideal.div s (Ideal.ofBits .f32 0x44800000#32) + Ideal.ofBits .f32 0x358637BD#32) * g * (1 + sc) + sh

/-- The reference's two-batch residual rows are its first result's rows. -/
theorem rows_at (i : S16384x1024.Idx) (k : Fin 1024) :
    (val_main_v29 (F := Ideal) a p f g x md wa wb wc wo
      (ix3 ⟨(i 0).val / 8192, by have := (i 0).isLt; simp at this; omega⟩ ⟨(i 0).val % 8192, by omega⟩ k) : EReal)
      = REFx a p f g x md wa wb wc wo (ix2 (i 0) k) := by
  pointwise [REFx, val_main_v49]

set_option maxHeartbeats 1600000 in
/-- The reference's second result at an index, over its own first result. -/
theorem REFh_at (i : S16384x1024.Idx) : (REFh a p f g x md wa wb wc wo g2 i : EReal)
    = normed (REFx a p f g x md wa wb wc wo (ix2 (i 0) (i 1)))
        (∑ k : Fin 1024, REFx a p f g x md wa wb wc wo (ix2 (i 0) k) * REFx a p f g x md wa wb wc wo (ix2 (i 0) k))
        (g2 (ix1 (i 1)))
        (md (ix3 ⟨(i 0).val / 8192, by have := (i 0).isLt; simp at this; omega⟩ 2 (i 1)))
        (md (ix3 ⟨(i 0).val / 8192, by have := (i 0).isLt; simp at this; omega⟩ 1 (i 1))) := by
  simp only [← rows_at]
  refine Eq.trans ?_ (congrArg (fun v => normed v _ _ _ _) (rows_at a p f g x md wa wb wc wo i (i 1)))
  pointwise [REFh, normed, val_main_v51, val_main_v50, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_cst, val_main_cst_0, val_main_cst_1,
    val_main_cst_2, val_main_v28, val_main_v27, val_main_v26, val_main_v25, val_main_v24, val_main_v23, val_main_v22, val_main_v21]

set_option maxHeartbeats 1600000 in
/-- What the body stores as its norm, over the residual rows. -/
theorem payh_at (x5 : Vec Ideal S1x3x1024 .f32) (v : FVec Ideal S256x1024 .f32) (x10 : Vec Ideal S1x1024 .f32) (y : S256x1024.Idx) :
    (k0_pay1 (F := Ideal) (k0_pay2 (F := Ideal) x5) v x10 y : EReal)
      = normed (v (ix2 (y 0) (y 1))) (∑ k : Fin 1024, v (ix2 (y 0) k) * v (ix2 (y 0) k)) (x10 (ix2 0 (y 1)))
          (x5 (ix3 0 2 (y 1))) (x5 (ix3 0 1 (y 1))) := by
  pointwise [k0_pay1, k0_pay2]
end

set_option maxHeartbeats 1600000 in
/-- The residual rows read with the second window's rows. -/
theorem pointx' (c : Dev nD) (t : Fin cfg0.N) (y : S256x1024.Idx) (k : Fin 1024) :
    (k0_pay3 (F := Ideal) (iblk m c 3 t) (iblk m c 0 t) (iblk m c 6 t) (iblk m c 1 t) (iblk m c 7 t) (iblk m c 2 t) (iblk m c 8 t)
        (iblk m c 5 t) (iblk m c 4 t) (iblk m c 9 t) (ix2 (y 0) k) : EReal)
      = REFx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
          (ix2 ((((cfg0.win 12).blk t).view.emb y) 0) k) := by
  refine (pointx m c t (ix2 (y 0) k)).trans (congrArg _ ?_)
  blk_ext [idx t]

set_option maxHeartbeats 1600000 in
/-- The norm rows the body stores are the reference's. -/
theorem pointh (c : Dev nD) (t : Fin cfg0.N) (y : S256x1024.Idx) :
    (k0_pay1 (F := Ideal) (k0_pay2 (F := Ideal) (iblk m c 5 t)) (k0_pay3 (F := Ideal) (iblk m c 3 t) (iblk m c 0 t) (iblk m c 6 t) (iblk m c 1 t)
        (iblk m c 7 t) (iblk m c 2 t) (iblk m c 8 t) (iblk m c 5 t) (iblk m c 4 t) (iblk m c 9 t)) (iblk m c 10 t) y : EReal)
      = REFh (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
          (((cfg0.win 12).blk t).view.emb y) := by
  rw [payh_at, REFh_at]
  simp only [pointx']
  congr 1
  · refine (pointx' m c t y (y 1)).trans (congrArg _ ?_)
    blk_ext [idx t]
  all_goals blk_point [iblk, V, idx t]

/-- The second array after the run is the reference's modulated norm. -/
theorem finalh (c : Dev nD) : (dats m 0 c).arrAt 12 (cfgs 0).N
    = REFh (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 12 _ (by decide +kernel) fun t _ y => ?_
  blk_simp
  rw [after0_12]; unfold_out out0_12; frame_out
  exact pointh m c t y

end Cert.MergeIdeal.Result
-- ==== Proof.NormValue.lean ====
module

public import proofs.«01_k».proof.Proof.Gen.NormIdeal.Frame
public import proofs.«01_k».proof.Proof.Gen.NormRefIdeal.Read
public import Idealize.ShloMosaic.Lib.Pipeline.ValueKit
public import Idealize.ShloMosaic.Lib.Pointwise

@[expose] public section

set_option maxRecDepth 16384

/-! The last norm: the array the kernel leaves is the reference's term, row block by row block. -/

noncomputable section

namespace Cert.NormIdeal.Result

open Idealize.ShloMosaic Idealize.ShloMosaic.TcCoe Idealize.SL.Sem
open Idealize.ShloMosaic.Pipeline (Dat)
open Cert.NormIdeal Cert.NormIdeal.Gen Cert.NormRefIdeal.Read

variable (m : (ℓ : Loc nD τ sig) → Buf (Elt Ideal) ℓ)

/-- The reference's result of the call's own arguments. -/
abbrev REF (x : FVec Ideal S16384x1024 .f32) (g : FVec Ideal S1024 .f32) : FVec Ideal S16384x1024 .f32 :=
  val_main_v12 (F := Ideal) x g

/-- Where each window's block sits at a grid point. -/
theorem idx : ∀ t : Fin cfg0.N, win0_0.index t = ![t.val, 0] ∧ win0_1.index t = ![0, 0] ∧ win0_2.index t = ![t.val, 0] :=
  (by decide +kernel : ∀ t : Fin grid0.N, _)

set_option maxHeartbeats 1600000 in
/-- What the body stores at an index of its block is the reference's value where that index sits in the array. -/
theorem point (c : Dev nD) (t : Fin cfg0.N) (y) :
    k0_pay1 (iblk m c 0 t) (iblk m c 1 t) y
      = REF (m ((c : Thread nD τ).loc main_arg0)) (m ((c : Thread nD τ).loc main_arg1)) (((cfg0.win 2).blk t).view.emb y) := by
  pointwise [k0_pay1, REF, val_main_v12, val_main_v11, val_main_v10, val_main_v9, val_main_v8,
    val_main_v7, val_main_v6, val_main_v5, val_main_v4, val_main_v3, val_main_v2, val_main_v1, val_main_v0, val_main_cst,
    val_main_cst_0, val_main_cst_1]
  blk_point [iblk, V, idx t]

/-- The array after the run is the reference's result. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.NormIdeal.Result
-- ==== Proof.ModValue.lean ====
module

public import proofs.«01_k».proof.Proof.Gen.ModIdeal.Frame
public import proofs.«01_k».proof.Proof.Gen.ModRefIdeal.Read
public import Idealize.ShloMosaic.Lib.Pipeline.ValueKit
public import Idealize.ShloMosaic.Lib.Pointwise
public import Idealize.ShloMosaic.Lib.Claim

@[expose] public section

set_option maxRecDepth 16384

/-! The modulation call: the array the kernel leaves is the reference's term, one layer's column block at a time. -/

noncomputable section

namespace Cert.ModIdeal.Result

open Idealize.ShloMosaic Idealize.ShloMosaic.TcCoe Idealize.SL.Sem
open Idealize.ShloMosaic.Pipeline (Dat)
open Cert.ModIdeal Cert.ModIdeal.Gen Cert.ModRefIdeal.Read

variable (m : (ℓ : Loc nD τ sig) → Buf (Elt Ideal) ℓ)

/-- The reference's result of the call's own arguments. -/
abbrev REF (cd : FVec Ideal S2x1024 .f32) (cc : FVec Ideal S1024 .f32) (w : FVec Ideal S2x1024x6144 .f32)
    (b : FVec Ideal S2x6144 .f32) : FVec Ideal S2x8x6144 .f32 := val_main_v8 (F := Ideal) cd cc w b

/-- Where each window's block sits at a grid point. -/
theorem idx : ∀ t : Fin cfg0.N, win0_0.index t = ![0, 0] ∧ win0_1.index t = ![t.val / 4, 0, t.val % 4]
    ∧ win0_2.index t = ![t.val / 4, 0, t.val % 4] ∧ win0_3.index t = ![t.val / 4, 0, t.val % 4] ∧ t.val < 8 :=
  (by decide +kernel : ∀ t : Fin grid0.N, _)

/-- The three rows of conditioning, padded with zeros: the same array on both sides. -/
abbrev CC (cd : FVec Ideal S2x1024 .f32) (cc : FVec Ideal S1024 .f32) : FVec Ideal S8x1024 .f32 := val_main_v2 (F := Ideal) cd cc

/-- The gate `x / (1 + exp (-x))`. -/
def silu (x : EReal) : EReal := x * Ideal.div 1 (1 + Ideal.exp (-x))

/-- The reference at an index. -/
theorem ref_at (cd : FVec Ideal S2x1024 .f32) (cc : FVec Ideal S1024 .f32) (w : FVec Ideal S2x1024x6144 .f32)
    (b : FVec Ideal S2x6144 .f32) (i : S2x8x6144.Idx) :
    (REF cd cc w b i : EReal)
      = (∑ x : Fin 1024, silu (CC cd cc (ix2 (i 1) x)) * w (ix3 (i 0) x (i 2))) + b (ix2 (i 0) (i 2)) := by
  have e : ∀ x : Fin 1024, silu (CC cd cc (ix2 (i 1) x)) * w (ix3 (i 0) x (i 2))
      = w (ix3 (i 0) x (i 2)) * (CC cd cc (ix2 (i 1) x) * Ideal.div 1 (1 + Ideal.exp (-CC cd cc (ix2 (i 1) x)))) :=
    fun x => mul_comm _ _
  simp only [e]
  pointwise [REF, val_main_v8, val_main_v7, val_main_v6, val_main_v5, val_main_v4, val_main_v3,
    val_main_call0_v5, val_main_call0_v4, val_main_call0_cst_0, val_main_call0_v3, val_main_call0_v2, val_main_call0_cst,
    val_main_call0_v1, val_main_call0_v0]

/-- The body's stored value at an index of its block. -/
theorem pay_at (v0 : Vec Ideal S8x1024 .f32) (v4 : Vec Ideal S1x1024x1536 .f32) (v7 : Vec Ideal S1x1x1536 .f32) (y : S1x8x1536.Idx) :
    (k0_pay1 (F := Ideal) v0 v4 v7 y : EReal)
      = (∑ x : Fin 1024, silu (v0 (ix2 (y 1) x)) * v4 (ix3 0 x (y 2))) + v7 (ix3 0 0 (y 2)) := by
  pointwise [k0_pay1, Ideal.logistic, silu]

set_option maxHeartbeats 1600000 in
/-- What the body stores at an index of its block is the reference's value where that index sits in the array. -/
theorem point (c : Dev nD) (t : Fin cfg0.N) (y) :
    k0_pay1 (iblk m c 0 t) (iblk m c 1 t) (iblk m c 2 t) y
      = REF (m ((c : Thread nD τ).loc main_arg0)) (m ((c : Thread nD τ).loc main_arg1)) (m ((c : Thread nD τ).loc main_arg2)) (m ((c : Thread nD τ).loc main_arg3))
          (((cfg0.win 3).blk t).view.emb y) := by
  have h0 : ∀ x : Fin 1024, (iblk m c 0 t (ix2 (y 1) x) : EReal)
      = CC (m ((c : Thread nD τ).loc main_arg0)) (m ((c : Thread nD τ).loc main_arg1)) (ix2 ((((cfg0.win 3).blk t).view.emb y) 1) x) := by
    intro x; blk_point [iblk, V, CC, val_main_v2, val_main_v1, val_main_v0, val_main_cst, idx t]
  have h1 : ∀ x : Fin 1024, (iblk m c 1 t (ix3 0 x (y 2)) : EReal)
      = (m ((c : Thread nD τ).loc main_arg2)) (ix3 ((((cfg0.win 3).blk t).view.emb y) 0) x ((((cfg0.win 3).blk t).view.emb y) 2)) := by
    intro x; blk_point [iblk, V, idx t]
  have h2 : (iblk m c 2 t (ix3 0 0 (y 2)) : EReal)
      = (m ((c : Thread nD τ).loc main_arg3)) (ix2 ((((cfg0.win 3).blk t).view.emb y) 0) ((((cfg0.win 3).blk t).view.emb y) 2)) := by
    blk_point [iblk, V, idx t]
  refine (pay_at _ _ _ y).trans (Eq.trans ?_ (ref_at _ _ _ _ _).symm)
  simp only [h0, h1, h2]

/-- The array after the run is the reference's result. -/
theorem final (c : Dev nD) : (dats m 0 c).arrAt 3 (cfgs 0).N
    = REF (m ((c : Thread nD τ).loc main_arg0)) (m ((c : Thread nD τ).loc main_arg1)) (m ((c : Thread nD τ).loc main_arg2)) (m ((c : Thread nD τ).loc main_arg3)) := by
  refine (dats m 0 c).arrAt_eq_of_covers 3 _ (by decide +kernel) fun t _ y => ?_
  blk_simp
  rw [after0_3]; frame_out
  exact point m c t y

end Cert.ModIdeal.Result
-- ==== Proof.Pairs.lean ====
module

public import proofs.«01_k».proof.Defs
public import proofs.«01_k».proof.Proof.FfnValue
public import proofs.«01_k».proof.Proof.Gen.FfnRefIdeal
public import proofs.«01_k».proof.Proof.Gen.FfnRefIdeal.Run
public import proofs.«01_k».proof.Proof.MergeValue
public import proofs.«01_k».proof.Proof.Gen.MergeRefIdeal
public import proofs.«01_k».proof.Proof.Gen.MergeRefIdeal.Run
public import proofs.«01_k».proof.Proof.NormValue
public import proofs.«01_k».proof.Proof.Gen.NormRefIdeal
public import proofs.«01_k».proof.Proof.Gen.NormRefIdeal.Run
public import proofs.«01_k».proof.Proof.ModValue
public import proofs.«01_k».proof.Proof.Gen.ModRefIdeal
public import proofs.«01_k».proof.Proof.Gen.ModRefIdeal.Run
public import proofs.«01_k».proof.Proof.Gen.ReferenceIdeal
public import proofs.«01_k».proof.Proof.Gen.ReferenceIdeal.Run
public import proofs.«01_k».proof.Proof.Gen.ReferenceIdeal.Read
public import Idealize.ShloMosaic.Lib.Claim

@[expose] public section

set_option maxRecDepth 16384

/-! The feed-forward, merge, norm and modulation calls: each kernel run and its reference's run end with equal results.
    The references' frames: a host program declares no semaphore, so every counter is zero. -/

noncomputable section

namespace Cert.Pairs

open Idealize.ShloMosaic Idealize.SL.Sem

/-- The Ffn reference runs and leaves its arguments unchanged. -/
theorem frame_Ffn : Cert.quiescent_FfnRefIdeal := fun m ρ _ =>
  (θ_run Cert.FfnRefIdeal.defs _ _).mono (fun r h => ⟨fun c => ⟨(h c).2.1, (h c).2.2.1, (h c).2.2.2.1, (h c).2.2.2.2.1, (h c).2.2.2.2.2.1, (h c).2.2.2.2.2.2.1, (h c).2.2.2.2.2.2.2⟩,
      Idealize.ShloMosaic.sem_eq_zero_of_no_sems (by decide) r.2⟩)
    (Cert.FfnRefIdeal.Value.run (F := Ideal) m ρ)

set_option maxHeartbeats 1600000 in
/-- The Ffn call and its reference end with equal results. -/
theorem algebraic_Ffn : Cert.algebraic_FfnIdeal_FfnRefIdeal := by
  pair_intro
  · run_from Cert.FfnIdeal.Gen.run_main m g
  run_from Cert.FfnRefIdeal.Value.run m' g'
  · exact (Cert.FfnIdeal.Result.final m c).symm

/-- The Merge reference runs and leaves its arguments unchanged. -/
theorem frame_Merge : Cert.quiescent_MergeRefIdeal := fun m ρ _ =>
  (θ_run Cert.MergeRefIdeal.defs _ _).mono (fun r h => ⟨fun c => ⟨(h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2⟩,
      Idealize.ShloMosaic.sem_eq_zero_of_no_sems (by decide) r.2⟩)
    (Cert.MergeRefIdeal.Value.run (F := Ideal) m ρ)

set_option maxHeartbeats 1600000 in
/-- The Merge call and its reference end with equal results. -/
theorem algebraic_Merge : Cert.algebraic_MergeIdeal_MergeRefIdeal := by
  pair_intro
  · run_from Cert.MergeIdeal.Gen.run_main m g
  run_from Cert.MergeRefIdeal.Value.run m' g'
  · exact (Cert.MergeIdeal.Result.finalx m c).symm
  · rw [Cert.MergeRefIdeal.Read.val_main_v51_eq]
    simp only [hagree c]
    exact (Cert.MergeIdeal.Result.finalh m c).symm

/-- The Norm reference runs and leaves its arguments unchanged. -/
theorem frame_Norm : Cert.quiescent_NormRefIdeal := fun m ρ _ =>
  (θ_run Cert.NormRefIdeal.defs _ _).mono (fun r h => ⟨fun c => ⟨(h c).2.1, (h c).2.2⟩,
      Idealize.ShloMosaic.sem_eq_zero_of_no_sems (by decide) r.2⟩)
    (Cert.NormRefIdeal.Value.run (F := Ideal) m ρ)

set_option maxHeartbeats 1600000 in
/-- The Norm call and its reference end with equal results. -/
theorem algebraic_Norm : Cert.algebraic_NormIdeal_NormRefIdeal := by
  pair_intro
  · run_from Cert.NormIdeal.Gen.run_main m g
  run_from Cert.NormRefIdeal.Value.run m' g'
  · exact (Cert.NormIdeal.Result.final m c).symm

/-- The Mod reference runs and leaves its arguments unchanged. -/
theorem frame_Mod : Cert.quiescent_ModRefIdeal := fun m ρ _ =>
  (θ_run Cert.ModRefIdeal.defs _ _).mono (fun r h => ⟨fun c => ⟨(h c).2.1, (h c).2.2.1, (h c).2.2.2.1, (h c).2.2.2.2⟩,
      Idealize.ShloMosaic.sem_eq_zero_of_no_sems (by decide) r.2⟩)
    (Cert.ModRefIdeal.Value.run (F := Ideal) m ρ)

set_option maxHeartbeats 1600000 in
/-- The Mod call and its reference end with equal results. -/
theorem algebraic_Mod : Cert.algebraic_ModIdeal_ModRefIdeal := by
  pair_intro
  · run_from Cert.ModIdeal.Gen.run_main m g
  run_from Cert.ModRefIdeal.Value.run m' g'
  · exact (Cert.ModIdeal.Result.final m c).symm

/-- The attention reference runs and leaves its arguments unchanged. -/
theorem frame_attn : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

end Cert.Pairs
-- ==== Proof.AttnMath.lean ====
module

public import Idealize.ShloMosaic.Lib.Pipeline.ValueKit
public import Idealize.ShloMosaic.Lib.Pointwise
public import Mathlib.Analysis.SpecialFunctions.Pow.Real

@[expose] public section

/-! The arithmetic of softmax attention taken tile by tile: sums of values weighted by exponentials of finite scores,
    a change of the subtracted maximum, and the division by the sum of the weights. -/

noncomputable section

namespace Cert.Attn

open Idealize.ShloMosaic

/-- A weighted sum: every value times two to the power of its score less `μ`. -/
def part {ι : Type} [Fintype ι] (μ : ℝ) (t : ι → ℝ) (v : ι → EReal) : EReal :=
  ∑ x, v x * (((2 : ℝ) ^ (t x - μ) : ℝ) : EReal)

/-- The softmax-weighted mean of the values, at scores counted in powers of two. -/
def mean {ι : Type} [Fintype ι] (t : ι → ℝ) (v : ι → EReal) : EReal :=
  ∑ x, v x * (((2 : ℝ) ^ t x / ∑ z, (2 : ℝ) ^ t z : ℝ) : EReal)

/-- A finite factor that is not negative goes into a sum. -/
theorem sum_mul_real {ι : Type} (s : Finset ι) (f : ι → EReal) (r : ℝ) (hr : 0 ≤ r) :
    (∑ x ∈ s, f x) * (r : EReal) = ∑ x ∈ s, f x * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

/-- A finite sum of reals, read as an extended real. -/
theorem sum_coe {ι : Type} (s : Finset ι) (f : ι → ℝ) : ∑ x ∈ s, ((f x : ℝ) : EReal) = ((∑ x ∈ s, f x : ℝ) : EReal) := by
  classical
  induction s using Finset.induction_on with
  | empty => simp
  | insert a s ha ih => rw [Finset.sum_insert ha, Finset.sum_insert ha, ih, EReal.coe_add]

/-- Two to a difference of reals, in the ideal arithmetic. -/
theorem exp2_sub (a b : ℝ) :
    FloatOps.exp2 (F := Ideal) (φ := .f32) ((a : EReal) - (b : EReal)) = (((2 : ℝ) ^ (a - b) : ℝ) : EReal) := by
  rw [← EReal.coe_sub]; rfl

/-- A change of the subtracted maximum multiplies a weighted sum. -/
theorem part_rescale {ι : Type} [Fintype ι] (μ μ' : ℝ) (t : ι → ℝ) (v : ι → EReal) :
    part μ t v * (((2 : ℝ) ^ (μ - μ') : ℝ) : EReal) = part μ' t v := by
  unfold part
  rw [sum_mul_real _ _ _ (Real.rpow_nonneg (by norm_num) _)]
  refine Finset.sum_congr rfl fun x _ => ?_
  rw [mul_assoc, ← EReal.coe_mul, ← Real.rpow_add (by norm_num)]
  congr 3; ring

/-- The greatest of a finite number and finitely many others is a finite number. -/
theorem max_fold_real {n : ℕ} (μ : ℝ) (t : Fin n → ℝ) (b : EReal) (hb : b = ⊥) :
    ∃ μ' : ℝ, max (μ : EReal) (Finset.fold max b (fun x => ((t x : ℝ) : EReal)) Finset.univ) = (μ' : EReal) := by
  subst hb
  have h : ∀ s : Finset (Fin n), Finset.fold max (⊥ : EReal) (fun x => ((t x : ℝ) : EReal)) s < ⊤ := fun s =>
    (Finset.fold_max_lt _).mpr ⟨by simp, fun x _ => EReal.coe_lt_top _⟩
  have h1 : max (μ : EReal) (Finset.fold max ⊥ (fun x => ((t x : ℝ) : EReal)) Finset.univ) < ⊤ :=
    max_lt (EReal.coe_lt_top _) (h _)
  have h2 : ⊥ < max (μ : EReal) (Finset.fold max ⊥ (fun x => ((t x : ℝ) : EReal)) Finset.univ) :=
    lt_of_lt_of_le (EReal.bot_lt_coe μ) (le_max_left _ _)
  exact ⟨_, (EReal.coe_toReal h1.ne h2.ne').symm⟩

/-- The greatest of finitely many finite numbers, at least one, is a finite number. -/
theorem fold_real {n : ℕ} [NeZero n] (t : Fin n → ℝ) (b : EReal) (hb : b = ⊥) :
    ∃ μ' : ℝ, Finset.fold max b (fun x => ((t x : ℝ) : EReal)) Finset.univ = (μ' : EReal) := by
  obtain ⟨μ', h⟩ := max_fold_real (t 0) t b hb
  refine ⟨μ', ?_⟩
  rw [← h, max_eq_right]
  exact (Finset.le_fold_max _).mpr (Or.inr ⟨0, Finset.mem_univ _, le_rfl⟩)

/-- The weighted sum over all the values divided by the weighted sum of ones is the softmax-weighted mean,
    whatever finite number was subtracted. -/
theorem part_div {ι : Type} [Fintype ι] [Nonempty ι] (μ : ℝ) (t : ι → ℝ) (v : ι → EReal) :
    Ideal.div (part μ t v) (part μ t fun _ => 1) = mean t v := by
  have hden : part μ t (fun _ => 1) = ((∑ z, (2 : ℝ) ^ (t z - μ) : ℝ) : EReal) := by
    unfold part; simp only [one_mul]; exact sum_coe _ _
  have hpos : (0 : ℝ) < ∑ z, (2 : ℝ) ^ (t z - μ) :=
    Finset.sum_pos (fun z _ => Real.rpow_pos_of_pos (by norm_num) _) Finset.univ_nonempty
  rw [hden]
  unfold Ideal.div
  rw [if_neg (by exact_mod_cast hpos.ne'), ← EReal.coe_inv]
  unfold part mean
  rw [sum_mul_real _ _ _ (inv_nonneg.mpr hpos.le)]
  refine Finset.sum_congr rfl fun x _ => ?_
  rw [mul_assoc, ← EReal.coe_mul]
  congr 2
  have h2 : ∀ z, (2 : ℝ) ^ (t z - μ) = (2 : ℝ) ^ t z * (2 : ℝ) ^ (-μ) := fun z => by
    rw [← Real.rpow_add (by norm_num), sub_eq_add_neg]
  have hm : (2 : ℝ) ^ (-μ) ≠ 0 := (Real.rpow_pos_of_pos (by norm_num) _).ne'
  simp only [h2, ← Finset.sum_mul]
  field_simp

/-- The softmax-weighted mean does not depend on the names of the keys. -/
theorem mean_equiv {ι κ : Type} [Fintype ι] [Fintype κ] (e : ι ≃ κ) (t : κ → ℝ) (v : κ → EReal) :
    mean t v = mean (fun x => t (e x)) fun x => v (e x) := by
  unfold mean
  rw [← e.sum_comp, ← e.sum_comp]

/-- Natural exponentials: the weights of a softmax at finite scores are those of the scores counted in powers of two. -/
theorem softmax_mean {ι : Type} [Fintype ι] [Nonempty ι] (μ : ℝ) (s : ι → ℝ) (v : ι → EReal) :
    ∑ x, v x * Ideal.div (Ideal.exp ((s x : EReal) - (μ : EReal))) (∑ z, Ideal.exp ((s z : EReal) - (μ : EReal)))
      = mean (fun x => s x * (Real.log 2)⁻¹) v := by
  have he : ∀ z, Ideal.exp ((s z : EReal) - (μ : EReal)) = ((Real.exp (s z - μ) : ℝ) : EReal) := fun z => by
    rw [← EReal.coe_sub]; rfl
  simp only [he, sum_coe]
  have hpos : (0 : ℝ) < ∑ z, Real.exp (s z - μ) :=
    Finset.sum_pos (fun z _ => Real.exp_pos _) Finset.univ_nonempty
  have h2 : ∀ z, (2 : ℝ) ^ (s z * (Real.log 2)⁻¹) = Real.exp (s z) := fun z => by
    have hl : Real.log 2 ≠ 0 := (Real.log_pos (by norm_num)).ne'
    rw [Real.rpow_def_of_pos (by norm_num)]
    congr 1; field_simp
  unfold mean
  refine Finset.sum_congr rfl fun x _ => ?_
  unfold Ideal.div
  rw [if_neg (by exact_mod_cast hpos.ne'), ← EReal.coe_inv, ← EReal.coe_mul]
  congr 2
  simp only [h2, Real.exp_sub, ← Finset.sum_div]
  have hm := (Real.exp_pos μ).ne'
  field_simp

section
variable {A B K J : ℕ} (t0 : Fin B → ℝ) (v0 : Fin A → Fin B → EReal) (t : Fin K → Fin J → ℝ) (v : Fin A → Fin K → Fin J → EReal)

/-- What one query carries before tile `k`: a finite number, and per row of values the weighted sum over the keys
    of the first block and of the tiles below `k`, that number subtracted from the scores. -/
def Inv (k : ℕ) (m : EReal) (acc : Fin A → EReal) : Prop :=
  ∃ μ : ℝ, m = (μ : EReal) ∧ ∀ a, acc a = part μ t0 (v0 a) + ∑ i ∈ Finset.univ.filter (fun i : Fin K => i.val < k), part μ (t i) (v a i)

/-- The first block of keys starts the carried pair. -/
theorem inv_zero {m b : EReal} {z : ℝ} {acc : Fin A → EReal} (hb : b = ⊥)
    (hm : m = max (z : EReal) (Finset.fold max b (fun x => ((t0 x : ℝ) : EReal)) Finset.univ))
    (ha : ∀ a, acc a = ∑ x, v0 a x * FloatOps.exp2 (F := Ideal) (φ := .f32) ((t0 x : EReal) - m)) :
    Inv t0 v0 t v 0 m acc := by
  obtain ⟨μ, hμ⟩ := max_fold_real z t0 b hb
  rw [hμ] at hm
  refine ⟨μ, hm, fun a => ?_⟩
  rw [ha, hm]
  simp only [exp2_sub, part, Nat.not_lt_zero, Finset.filter_false, Finset.sum_empty, add_zero]

/-- A tile of keys takes the carried pair one step on. -/
theorem inv_succ {k : Fin K} {m m' b : EReal} {acc acc' : Fin A → EReal} (hb : b = ⊥) (h : Inv t0 v0 t v k.val m acc)
    (hm : m' = max m (Finset.fold max b (fun x => ((t k x : ℝ) : EReal)) Finset.univ))
    (ha : ∀ a, acc' a = acc a * FloatOps.exp2 (F := Ideal) (φ := .f32) (m - m')
      + ∑ x, v a k x * FloatOps.exp2 (F := Ideal) (φ := .f32) ((t k x : EReal) - m')) :
    Inv t0 v0 t v (k.val + 1) m' acc' := by
  obtain ⟨μ, hμ, hacc⟩ := h
  rw [hμ] at hm
  obtain ⟨μ', hμ'⟩ := max_fold_real μ (t k) b hb
  rw [hμ'] at hm
  refine ⟨μ', hm, fun a => ?_⟩
  have hf : Finset.univ.filter (fun i : Fin K => i.val < k.val + 1)
      = insert k (Finset.univ.filter fun i : Fin K => i.val < k.val) := by
    ext i; simp only [Finset.mem_filter, Finset.mem_univ, true_and, Finset.mem_insert, Fin.ext_iff]; omega
  have hr : (0 : ℝ) ≤ (2 : ℝ) ^ (μ - μ') := Real.rpow_nonneg (by norm_num) _
  rw [ha, hacc, hμ, hm, hf, Finset.sum_insert (by simp)]
  simp only [exp2_sub]
  rw [EReal.right_distrib_of_nonneg_of_ne_top (by exact_mod_cast hr) (EReal.coe_ne_top _), sum_mul_real _ _ _ hr]
  simp only [part_rescale]
  rw [add_assoc, add_comm (∑ i ∈ _, _)]
  rfl

/-- After the last tile a row divided by a row of ones is the softmax-weighted mean over all the keys. -/
theorem inv_div {m : EReal} {acc : Fin A → EReal} [NeZero B] (h : Inv t0 v0 t v K m acc) {a o : Fin A}
    (h0 : ∀ x, v0 o x = 1) (h1 : ∀ i x, v o i x = 1) :
    Ideal.div (acc a) (acc o) = mean (Sum.elim t0 fun p : Fin K × Fin J => t p.1 p.2)
      (Sum.elim (v0 a) fun p : Fin K × Fin J => v a p.1 p.2) := by
  obtain ⟨μ, -, hacc⟩ := h
  have hs : ∀ a, acc a = part μ (Sum.elim t0 fun p : Fin K × Fin J => t p.1 p.2)
      (Sum.elim (v0 a) fun p : Fin K × Fin J => v a p.1 p.2) := fun a => by
    rw [hacc]
    unfold part
    rw [Fintype.sum_sum_type, Fintype.sum_prod_type, Finset.filter_true_of_mem fun i _ => i.isLt]
    rfl
  have ho : (Sum.elim (v0 o) fun p : Fin K × Fin J => v o p.1 p.2) = fun _ => 1 := by
    funext x; rcases x with x | p
    · exact h0 x
    · exact h1 _ _
  haveI : Nonempty (Fin B ⊕ Fin K × Fin J) := ⟨Sum.inl 0⟩
  rw [hs a, hs o, ho, part_div]
end

/-- Scores of finite keys against finite queries scaled by `c`: the product of the two rows, a real number. -/
def score {E : ℕ} (c : ℝ) (k q : Fin E → EReal) : ℝ := (∑ e, (k e).toReal * (q e).toReal) * c

/-- The contraction of a finite key with a finite query scaled entry by entry is the score. -/
theorem sum_score {E : ℕ} (c : ℝ) (k q : Fin E → EReal) (hk : ∀ e, k e ≠ ⊤ ∧ k e ≠ ⊥) (hq : ∀ e, q e ≠ ⊤ ∧ q e ≠ ⊥) :
    ∑ e, k e * (q e * (c : EReal)) = ((score c k q : ℝ) : EReal) := by
  unfold score
  rw [Finset.sum_mul, ← sum_coe]
  refine Finset.sum_congr rfl fun e _ => ?_
  rw [EReal.coe_mul, EReal.coe_mul, EReal.coe_toReal (hk e).1 (hk e).2, EReal.coe_toReal (hq e).1 (hq e).2, mul_assoc]

/-- The contraction of a finite query with a finite key, divided by a positive real. -/
theorem div_score {E : ℕ} (d : ℝ) (hd : d ≠ 0) (k q : Fin E → EReal) (hk : ∀ e, k e ≠ ⊤ ∧ k e ≠ ⊥) (hq : ∀ e, q e ≠ ⊤ ∧ q e ≠ ⊥) :
    Ideal.div (∑ e, q e * k e) (d : EReal) = ((score d⁻¹ k q : ℝ) : EReal) := by
  have h : ∀ e, q e * k e = (((k e).toReal * (q e).toReal : ℝ) : EReal) := fun e => by
    rw [EReal.coe_mul, EReal.coe_toReal (hk e).1 (hk e).2, EReal.coe_toReal (hq e).1 (hq e).2, mul_comm]
  unfold Ideal.div score
  rw [if_neg (by exact_mod_cast hd), ← EReal.coe_inv]
  simp only [h, sum_coe]
  rw [← EReal.coe_mul]

/-- The keys of a first block and of tiles, as positions in one row of keys. -/
def keys (B K J : ℕ) : Fin B ⊕ Fin K × Fin J ≃ Fin (B + K * J) :=
  (Equiv.sumCongr (Equiv.refl _) finProdFinEquiv).trans finSumFinEquiv

end Cert.Attn
-- ==== Proof.AttnKernel.lean ====
module

public import proofs.«01_k».proof.Proof.Gen.KernelIdeal.Frame
public import proofs.«01_k».proof.Proof.AttnMath

@[expose] public section

set_option maxRecDepth 16384

/-! The attention kernel at one grid point: what it stores for either of its two heads is the softmax-weighted mean of
    the values over the context keys and the sixteen tiles of latent keys. -/

noncomputable section

namespace Cert.KernelIdeal.Result

open Idealize.ShloMosaic Idealize.ShloMosaic.TcCoe Idealize.SL.Sem
open Idealize.ShloMosaic.Pipeline (Dat)
open Cert.KernelIdeal Cert.KernelIdeal.Gen Cert.Attn

/-- The scale the queries are multiplied by: one over the product of the square root of 96 and the logarithm of two. -/
abbrev qs : ℝ := (Real.sqrt 96)⁻¹ * (Real.log 2)⁻¹

/-- The kernel's named constant is the scale. -/
theorem named_qs : Named.named (F := Ideal) (φ := .f32) κ "qscale" 0x3E16C740#32 = (qs : EReal) := rfl

/-- The pattern of minus infinity. -/
theorem neg_inf : Ideal.ofBits .f32 0xFF800000#32 = ⊥ := by simp [Ideal.ofBits, Ideal.ieee]

/-- The start of the running maximum is a finite number. -/
theorem start_real : ∃ z : ℝ, Ideal.ofBits .f32 0xF149F2CA#32 = (z : EReal) := by
  simp only [Ideal.ofBits, Ideal.ieee]
  norm_num [-EReal.coe_mul]
  exact ⟨_, (EReal.coe_neg _).symm⟩

/-- A finite entry. -/
abbrev Fin' (x : EReal) : Prop := x ≠ ⊤ ∧ x ≠ ⊥

/-- The position of key `x` of tile `k` among the latent keys. -/
abbrev pos (k : Fin 16) (x : Fin 512) : Fin 8192 := ⟨k.val * 512 + x.val, by omega⟩

/-- Row `a` of head `h` among the two heads' rows of values. -/
abbrev row (h : Fin 2) (a : Fin 80) : Fin 160 := ⟨h.val * 80 + a.val, by omega⟩

section
variable (B0 B1 : Vec Ideal S2x256x128 .bf16) (B2 : Vec Ideal S1x160x256 .bf16) (B3 : Vec Ideal S2x8192x128 .bf16)
  (B4 : Vec Ideal S1x160x8192 .bf16)

/-- The score of a context key. -/
abbrev T0 (h : Fin 2) (b x : Fin 256) : ℝ := score qs (fun e => B1 (ix3 h x e)) fun e => B0 (ix3 h b e)
/-- The score of a latent key. -/
abbrev T1 (h : Fin 2) (b : Fin 256) (k : Fin 16) (x : Fin 512) : ℝ :=
  score qs (fun e => B3 (ix3 h (pos k x) e)) fun e => B0 (ix3 h b e)
/-- The value of a context key. -/
abbrev V0 (h : Fin 2) (a : Fin 80) (x : Fin 256) : EReal := B2 (ix3 0 (row h a) x)
/-- The value of a latent key. -/
abbrev V1 (h : Fin 2) (a : Fin 80) (k : Fin 16) (x : Fin 512) : EReal := B4 (ix3 0 (row h a) (pos k x))

/-- What a column of the carried pair is before tile `k`. -/
abbrev Carried (h : Fin 2) (b : Fin 256) (k : ℕ) (s : FVec Ideal S1x256 .f32 × FVec Ideal S80x256 .f32) : Prop :=
  Inv (T0 B0 B1 h b) (V0 B2 h) (T1 B0 B3 h b) (V1 B4 h) k (s.1 (ix2 0 b)) fun a => s.2 (ix2 a b)
end

/-- Where each trip of the loops reads. -/
theorem off1 : ∀ k : Fin k0_t1_loop.trips, k0_off1 k = ![0, k.val * 512, 0] := by decide +kernel
theorem off2 : ∀ k : Fin k0_t1_loop.trips, k0_off2 k = ![0, 0, k.val * 512] := by decide +kernel
theorem off3 : ∀ k : Fin k0_t2_loop.trips, k0_off3 k = ![1, k.val * 512, 0] := by decide +kernel
theorem off4 : ∀ k : Fin k0_t2_loop.trips, k0_off4 k = ![0, 80, k.val * 512] := by decide +kernel

/-- The loops have sixteen trips. -/
theorem trips16 : Scf.trips (0#32) (Scalar.addi 0#32 16#32) 1#32 = 16 := by decide +kernel

section
variable (𝒱 : Variants) (c : Dev nD) (bd : Option 𝒱.V) (i : grid0.Coords)
  (arg3 : Memref sig .tc .vmem S2x256x128 .bf16) (harg3 : arg3.IsWhole)
  (arg4 : Memref sig .tc .vmem S2x256x128 .bf16) (harg4 : arg4.IsWhole)
  (arg5 : Memref sig .tc .vmem S1x160x256 .bf16) (harg5 : arg5.IsWhole)
  (arg6 : Memref sig .tc .vmem S2x8192x128 .bf16) (harg6 : arg6.IsWhole)
  (arg7 : Memref sig .tc .vmem S1x160x8192 .bf16) (harg7 : arg7.IsWhole)
  (arg8 : Memref sig .tc .vmem S256x128 .bf16) (harg8 : arg8.IsWhole)
  (B0 B1 : Vec Ideal S2x256x128 .bf16) (B2 : Vec Ideal S1x160x256 .bf16) (B3 : Vec Ideal S2x8192x128 .bf16)
  (B4 : Vec Ideal S1x160x8192 .bf16)
  (h0 : ∀ i, Fin' (B0 i)) (h1 : ∀ i, Fin' (B1 i)) (h3 : ∀ i, Fin' (B3 i))

/-- The block of queries of either head. -/
def q0 : Vec Ideal S1x256x128 .bf16 := View.ld B0 (Rect.unit ![0, 0, 0] ![1, 256, 128] inb_S2x256x128_S1x256x128_0_0_0)
def q1 : Vec Ideal S1x256x128 .bf16 := View.ld B0 (Rect.unit ![1, 0, 0] ![1, 256, 128] inb_S2x256x128_S1x256x128_1_0_0)
/-- The block of values of either head. -/
def w0 : Vec Ideal S1x80x256 .bf16 := View.ld B2 (Rect.unit ![0, 0, 0] ![1, 80, 256] inb_S1x160x256_S1x80x256_0_0_0)
def w1 : Vec Ideal S1x80x256 .bf16 := View.ld B2 (Rect.unit ![0, 80, 0] ![1, 80, 256] inb_S1x160x256_S1x80x256_0_80_0)

theorem q0_apply (b : Fin 256) (e : Fin 128) : q0 B0 (ix3 0 b e) = B0 (ix3 0 b e) := by
  refine View.ld_unit_apply_of _ _ _ _ _ _ fun a => ?_
  fin_cases a <;> simp
theorem q1_apply (b : Fin 256) (e : Fin 128) : q1 B0 (ix3 0 b e) = B0 (ix3 1 b e) := by
  refine View.ld_unit_apply_of _ _ _ _ _ _ fun a => ?_
  fin_cases a <;> simp
theorem w0_apply (a : Fin 80) (x : Fin 256) : w0 B2 (ix3 0 a x) = V0 B2 0 a x := by
  refine View.ld_unit_apply_of _ _ _ _ _ _ fun a => ?_
  fin_cases a <;> simp
theorem w1_apply (a : Fin 80) (x : Fin 256) : w1 B2 (ix3 0 a x) = V0 B2 1 a x := by
  refine View.ld_unit_apply_of _ _ _ _ _ _ fun a => ?_
  fin_cases a <;> simp [add_comm]

/-- The tile of latent keys a trip reads, and the tile of values, for either head. -/
def k0t (k : Fin k0_t1_loop.trips) : Vec Ideal S1x512x128 .bf16 := View.ld B3 (Rect.unit (k0_off1 k) ![1, 512, 128] (k0_off1_inb k))
def v0t (k : Fin k0_t1_loop.trips) : Vec Ideal S1x80x512 .bf16 := View.ld B4 (Rect.unit (k0_off2 k) ![1, 80, 512] (k0_off2_inb k))
def k1t (k : Fin k0_t2_loop.trips) : Vec Ideal S1x512x128 .bf16 := View.ld B3 (Rect.unit (k0_off3 k) ![1, 512, 128] (k0_off3_inb k))
def v1t (k : Fin k0_t2_loop.trips) : Vec Ideal S1x80x512 .bf16 := View.ld B4 (Rect.unit (k0_off4 k) ![1, 80, 512] (k0_off4_inb k))

/-- A trip's number among the sixteen tiles. -/
abbrev tk1 (k : Fin k0_t1_loop.trips) : Fin 16 := ⟨k.val, Nat.lt_of_lt_of_le k.isLt k0_t1_abs.2.1⟩
abbrev tk2 (k : Fin k0_t2_loop.trips) : Fin 16 := ⟨k.val, Nat.lt_of_lt_of_le k.isLt k0_t2_abs.2.1⟩

theorem k0t_apply (k : Fin k0_t1_loop.trips) (x : Fin 512) (e : Fin 128) : k0t B3 k (ix3 0 x e) = B3 (ix3 0 (pos (tk1 k) x) e) := by
  refine View.ld_unit_apply_of _ _ _ _ _ _ fun a => ?_
  refine Eq.trans ?_ (congrArg (· + _) (congrFun (off1 k) a).symm)
  fin_cases a <;> simp
theorem v0t_apply (k : Fin k0_t1_loop.trips) (a : Fin 80) (x : Fin 512) : v0t B4 k (ix3 0 a x) = V1 B4 0 a (tk1 k) x := by
  refine View.ld_unit_apply_of _ _ _ _ _ _ fun a => ?_
  refine Eq.trans ?_ (congrArg (· + _) (congrFun (off2 k) a).symm)
  fin_cases a <;> simp
theorem k1t_apply (k : Fin k0_t2_loop.trips) (x : Fin 512) (e : Fin 128) : k1t B3 k (ix3 0 x e) = B3 (ix3 1 (pos (tk2 k) x) e) := by
  refine View.ld_unit_apply_of _ _ _ _ _ _ fun a => ?_
  refine Eq.trans ?_ (congrArg (· + _) (congrFun (off3 k) a).symm)
  fin_cases a <;> simp
theorem v1t_apply (k : Fin k0_t2_loop.trips) (a : Fin 80) (x : Fin 512) : v1t B4 k (ix3 0 a x) = V1 B4 1 a (tk2 k) x := by
  refine View.ld_unit_apply_of _ _ _ _ _ _ fun a => ?_
  refine Eq.trans ?_ (congrArg (· + _) (congrFun (off4 k) a).symm)
  fin_cases a <;> simp

include h0 h1 in
/-- The scores of the context keys, first head. -/
theorem scores0 (x b : Fin 256) : k0_pay12 (F := Ideal) (q0 B0) (q0 B1) (ix2 x b) = (T0 B0 B1 0 b x : EReal) := by
  pointwise [k0_pay12, k0_pay10]
  simp only [q0_apply, named_qs]
  exact sum_score qs _ _ (fun _ => h1 _) (fun _ => h0 _)

include h0 h1 in
/-- The scores of the context keys, second head. -/
theorem scores1 (x b : Fin 256) :
    k0_pay3 (F := Ideal) (k0_pay19 (q1 B0)) (q1 B1) (ix2 x b) = (T0 B0 B1 1 b x : EReal) := by
  pointwise [k0_pay3, k0_pay1, k0_pay19]
  simp only [q1_apply, named_qs]
  exact sum_score qs _ _ (fun _ => h1 _) (fun _ => h0 _)

include h0 h3 in
/-- The scores of a tile of latent keys, first head. -/
theorem scores0t (k : Fin k0_t1_loop.trips) (x : Fin 512) (b : Fin 256) :
    k0_pay15 (F := Ideal) (q0 B0) (k0t B3 k) (ix2 x b) = (T1 B0 B3 0 b (tk1 k) x : EReal) := by
  pointwise [k0_pay15, k0_pay10]
  simp only [q0_apply, k0t_apply, named_qs]
  exact sum_score qs _ _ (fun _ => h3 _) (fun _ => h0 _)

include h0 h3 in
/-- The scores of a tile of latent keys, second head. -/
theorem scores1t (k : Fin k0_t2_loop.trips) (x : Fin 512) (b : Fin 256) :
    k0_pay6 (F := Ideal) (k0_pay19 (q1 B0)) (k1t B3 k) (ix2 x b) = (T1 B0 B3 1 b (tk2 k) x : EReal) := by
  pointwise [k0_pay6, k0_pay1, k0_pay19]
  simp only [q1_apply, k1t_apply, named_qs]
  exact sum_score qs _ _ (fun _ => h3 _) (fun _ => h0 _)

/-- The carried pair before the first tile, first head. -/
abbrev init0 : FVec Ideal S1x256 .f32 × FVec Ideal S80x256 .f32 :=
  (k0_pay13 (q0 B0) (q0 B1), k0_pay14 (q0 B0) (q0 B1) (w0 B2))
/-- The carried pair before the first tile, second head. -/
abbrev init1 : FVec Ideal S1x256 .f32 × FVec Ideal S80x256 .f32 :=
  (k0_pay4 (k0_pay19 (q1 B0)) (q1 B1), k0_pay5 (k0_pay19 (q1 B0)) (q1 B1) (w1 B2))

include h0 h1 in
/-- Before the first tile, first head. -/
theorem carried_init0 (b : Fin 256) : Carried B0 B1 B2 B3 B4 0 b 0 (init0 B0 B1 B2) := by
  obtain ⟨z, hz⟩ := start_real
  refine inv_zero (b := Ideal.ofBits .f32 0xFF800000#32) (z := z) _ _ _ _ neg_inf ?_ fun a => ?_
  · show k0_pay13 (F := Ideal) _ _ _ = _
    pointwise [k0_pay13, k0_pay11]
    simp only [scores0 B0 B1 h0 h1, hz]
  · show k0_pay14 (F := Ideal) _ _ _ _ = _
    pointwise [k0_pay14, k0_pay11]
    simp only [scores0 B0 B1 h0 h1, w0_apply, zero_mul, zero_add]

include h0 h1 in
/-- Before the first tile, second head. -/
theorem carried_init1 (b : Fin 256) : Carried B0 B1 B2 B3 B4 1 b 0 (init1 B0 B1 B2) := by
  obtain ⟨z, hz⟩ := start_real
  refine inv_zero (b := Ideal.ofBits .f32 0xFF800000#32) (z := z) _ _ _ _ neg_inf ?_ fun a => ?_
  · show k0_pay4 (F := Ideal) _ _ _ = _
    pointwise [k0_pay4, k0_pay2]
    simp only [scores1 B0 B1 h0 h1, hz]
  · show k0_pay5 (F := Ideal) _ _ _ _ = _
    pointwise [k0_pay5, k0_pay2]
    simp only [scores1 B0 B1 h0 h1, w1_apply, zero_mul, zero_add]

/-- One trip of the first head's loop. -/
theorem trip1 (k : Fin k0_t1_loop.trips) (s : FVec Ideal S1x256 .f32 × FVec Ideal S80x256 .f32) :
    tripR_k0_t1 (F := Ideal) 𝒱 c bd i arg3 harg3 arg4 harg4 arg5 harg5 arg6 harg6 arg7 harg7 arg8 harg8 (q0 B0)
        (harg6.unread B3) (harg7.unread B4) k s
      = (k0_pay16 (q0 B0) s.1 (k0t B3 k), k0_pay17 (q0 B0) s.1 s.2 (k0t B3 k) (v0t B4 k)) := by
  unfold tripR_k0_t1
  unfold trip_k0_t1
  dsimp only
  rw [View.readAt_eq_ld, View.readAt_eq_ld, Memref.IsWhole.read_unread, Memref.IsWhole.read_unread]
  rfl

/-- One trip of the second head's loop. -/
theorem trip2 (k : Fin k0_t2_loop.trips) (s : FVec Ideal S1x256 .f32 × FVec Ideal S80x256 .f32) :
    tripR_k0_t2 (F := Ideal) 𝒱 c bd i arg3 harg3 arg4 harg4 arg5 harg5 arg6 harg6 arg7 harg7 arg8 harg8 (k0_pay19 (q1 B0))
        (harg6.unread B3) (harg7.unread B4) k s
      = (k0_pay7 (k0_pay19 (q1 B0)) s.1 (k1t B3 k), k0_pay8 (k0_pay19 (q1 B0)) s.1 s.2 (k1t B3 k) (v1t B4 k)) := by
  unfold tripR_k0_t2
  unfold trip_k0_t2
  dsimp only
  rw [View.readAt_eq_ld, View.readAt_eq_ld, Memref.IsWhole.read_unread, Memref.IsWhole.read_unread]
  rfl

/-- What the first head's loop carries before trip `k`. -/
abbrev S1 (k : ℕ) : FVec Ideal S1x256 .f32 × FVec Ideal S80x256 .f32 :=
  st_k0_t1 (F := Ideal) 𝒱 c bd i arg3 harg3 arg4 harg4 arg5 harg5 arg6 harg6 arg7 harg7 arg8 harg8 (q0 B0)
    (harg6.unread B3) (harg7.unread B4) (init0 B0 B1 B2) k
/-- What the second head's loop carries before trip `k`. -/
abbrev S2 (k : ℕ) : FVec Ideal S1x256 .f32 × FVec Ideal S80x256 .f32 :=
  st_k0_t2 (F := Ideal) 𝒱 c bd i arg3 harg3 arg4 harg4 arg5 harg5 arg6 harg6 arg7 harg7 arg8 harg8 (k0_pay19 (q1 B0))
    (harg6.unread B3) (harg7.unread B4) (init1 B0 B1 B2) k

include h0 h1 h3 in
/-- The first head's loop carries the sums over the keys seen. -/
theorem carried1 (b : Fin 256) : ∀ k, k ≤ k0_t1_loop.trips → Carried B0 B1 B2 B3 B4 0 b k
    (S1 𝒱 c bd i arg3 harg3 arg4 harg4 arg5 harg5 arg6 harg6 arg7 harg7 arg8 harg8 B0 B1 B2 B3 B4 k)
  | 0, _ => by
    rw [S1, st_k0_t1_zero]
    exact carried_init0 B0 B1 B2 B3 B4 h0 h1 b
  | k + 1, hk => by
    have ih := carried1 b k (by omega)
    rw [S1, st_k0_t1_succ (k := ⟨k, hk⟩), trip1]
    refine inv_succ (b := Ideal.ofBits .f32 0xFF800000#32) _ _ _ _ (k := tk1 ⟨k, hk⟩) neg_inf ih ?_ fun a => ?_
    · show k0_pay16 (F := Ideal) _ _ _ _ = _
      pointwise [k0_pay16]
      simp only [scores0t B0 B3 h0 h3]
    · show k0_pay17 (F := Ideal) _ _ _ _ _ _ = _
      pointwise [k0_pay17]
      simp only [scores0t B0 B3 h0 h3]
      exact congrArg₂ (· + ·) rfl (Finset.sum_congr rfl fun x _ => congrArg₂ (· * ·) (v0t_apply B4 ⟨k, hk⟩ a x) rfl)

include h0 h1 h3 in
/-- The second head's loop carries the sums over the keys seen. -/
theorem carried2 (b : Fin 256) : ∀ k, k ≤ k0_t2_loop.trips → Carried B0 B1 B2 B3 B4 1 b k
    (S2 𝒱 c bd i arg3 harg3 arg4 harg4 arg5 harg5 arg6 harg6 arg7 harg7 arg8 harg8 B0 B1 B2 B3 B4 k)
  | 0, _ => by
    rw [S2, st_k0_t2_zero]
    exact carried_init1 B0 B1 B2 B3 B4 h0 h1 b
  | k + 1, hk => by
    have ih := carried2 b k (by omega)
    rw [S2, st_k0_t2_succ (k := ⟨k, hk⟩), trip2]
    refine inv_succ (b := Ideal.ofBits .f32 0xFF800000#32) _ _ _ _ (k := tk2 ⟨k, hk⟩) neg_inf ih ?_ fun a => ?_
    · show k0_pay7 (F := Ideal) _ _ _ _ = _
      pointwise [k0_pay7]
      simp only [scores1t B0 B3 h0 h3]
    · show k0_pay8 (F := Ideal) _ _ _ _ _ _ = _
      pointwise [k0_pay8]
      simp only [scores1t B0 B3 h0 h3]
      exact congrArg₂ (· + ·) rfl (Finset.sum_congr rfl fun x _ => congrArg₂ (· * ·) (v1t_apply B4 ⟨k, hk⟩ a x) rfl)

/-- Attention over the keys a block holds: head `h`, query `b`, value `a`. -/
abbrev blockMean (h : Fin 2) (b : Fin 256) (a : Fin 64) : EReal :=
  mean (Sum.elim (T0 B0 B1 h b) fun p : Fin 16 × Fin 512 => T1 B0 B3 h b p.1 p.2)
    (Sum.elim (V0 B2 h ⟨a.val, by omega⟩) fun p : Fin 16 × Fin 512 => V1 B4 h ⟨a.val, by omega⟩ p.1 p.2)

/-- What the body stores at a grid point: per head the softmax-weighted mean. -/
theorem stored (h2 : ∀ h x, V0 B2 h 64 x = 1) (h4 : ∀ h k x, V1 B4 h 64 k x = 1) (h0 : ∀ i, Fin' (B0 i)) (h1 : ∀ i, Fin' (B1 i))
    (h3 : ∀ i, Fin' (B3 i)) (b : Fin 256) (a : Fin 128) :
    k0_pay9 (F := Ideal)
        (k0_pay18 (S1 𝒱 c bd i arg3 harg3 arg4 harg4 arg5 harg5 arg6 harg6 arg7 harg7 arg8 harg8 B0 B1 B2 B3 B4
          (Scf.trips (0#32) (Scalar.addi 0#32 16#32) 1#32)).2)
        (S2 𝒱 c bd i arg3 harg3 arg4 harg4 arg5 harg5 arg6 harg6 arg7 harg7 arg8 harg8 B0 B1 B2 B3 B4
          (Scf.trips (0#32) (Scalar.addi 0#32 16#32) 1#32)).2 (ix2 b a)
      = blockMean B0 B1 B2 B3 B4 ⟨a.val / 64, by omega⟩ b ⟨a.val % 64, by omega⟩ := by
  have c1 := carried1 𝒱 c bd i arg3 harg3 arg4 harg4 arg5 harg5 arg6 harg6 arg7 harg7 arg8 harg8 B0 B1 B2 B3 B4 h0 h1 h3 b
    16 (by decide +kernel)
  have c2 := carried2 𝒱 c bd i arg3 harg3 arg4 harg4 arg5 harg5 arg6 harg6 arg7 harg7 arg8 harg8 B0 B1 B2 B3 B4 h0 h1 h3 b
    16 (by decide +kernel)
  rw [trips16]
  generalize S1 𝒱 c bd i arg3 harg3 arg4 harg4 arg5 harg5 arg6 harg6 arg7 harg7 arg8 harg8 B0 B1 B2 B3 B4 16 = s1 at c1 ⊢
  generalize S2 𝒱 c bd i arg3 harg3 arg4 harg4 arg5 harg5 arg6 harg6 arg7 harg7 arg8 harg8 B0 B1 B2 B3 B4 16 = s2 at c2 ⊢
  pointwise [k0_pay9]
  split
  · rename_i ha
    pointwise [k0_pay18]
    refine (inv_div _ _ _ _ c1 (a := ⟨a.val, by omega⟩) (o := 64) (h2 0) (h4 0)).trans ?_
    have e : (⟨a.val / 64, by omega⟩ : Fin 2) = 0 := Fin.ext (by simp; omega)
    have e' : a.val % 64 = a.val := by omega
    simp only [blockMean, e, e']
  · rename_i ha
    refine (inv_div _ _ _ _ c2 (a := ⟨a.val - 64, by omega⟩) (o := 64) (h2 1) (h4 1)).trans ?_
    have e : (⟨a.val / 64, by omega⟩ : Fin 2) = 1 := Fin.ext (by simp; omega)
    have e' : a.val % 64 = a.val - 64 := by omega
    simp only [blockMean, e, e']

end

end Cert.KernelIdeal.Result
-- ==== Proof.AttnRef.lean ====
module

public import proofs.«01_k».proof.Proof.Gen.ReferenceIdeal.Read
public import proofs.«01_k».proof.Proof.AttnMath

@[expose] public section

set_option maxRecDepth 16384

/-! The attention reference at an index: the softmax-weighted mean of the values over all the keys. -/

noncomputable section

namespace Cert.ReferenceIdeal.Result

open Idealize.ShloMosaic Idealize.ShloMosaic.TcCoe
open Cert.ReferenceIdeal Cert.ReferenceIdeal.Gen Cert.ReferenceIdeal.Read Cert.Attn

/-- A maximum of finite numbers along one axis is a finite number. -/
theorem host_max_real {s t u : Shape} {a : Fin s.rank} (x : s.Idx → EReal) (init : u.Idx → EReal) (h' : s.ReducesTo [a] t)
    (h : s.Reduces [a] t) (hu : 0 < u.numel) (hn : s.size a ≠ 0) (hx : ∀ i, ∃ r : ℝ, x i = (r : EReal)) (hi : ∀ i, init i = ⊥)
    (j : t.Idx) : ∃ μ : ℝ, Host.reduce (FloatOps.maximumf (F := Ideal) (φ := .f32)) x init h' hu j = (μ : EReal) := by
  haveI : NeZero (s.size a) := ⟨hn⟩
  choose f hf using hx
  obtain ⟨μ, hμ⟩ := fold_real (fun n => f (h.lift j n)) (init (Shape.Idx.first hu)) (hi _)
  refine ⟨μ, ?_⟩
  rw [Host.reduce_eq_fold_single _ _ _ h' h]
  refine Eq.trans ?_ hμ
  have e : x ∘ h.lift j = fun n => ((f (h.lift j n) : ℝ) : EReal) := funext fun n => hf _
  rw [e]; rfl

section
variable (x0 : FVec Ideal S8x16384x128 .bf16) (x1 : FVec Ideal S8x512x128 .bf16) (x2 : FVec Ideal S2x640x256 .bf16)
  (x3 : FVec Ideal S8x16384x128 .bf16) (x4 : FVec Ideal S2x640x8192 .bf16)

theorem v6_apply (b : Fin 2) (h : Fin 8) (n : Fin 8448) (e : Fin 128) : val_main_v6 (F := Ideal) x1 x3 (ix4 h b n e)
    = if hn : n.val < 256 then x1 (ix3 h ⟨b.val * 256 + n.val, by omega⟩ e)
      else x3 (ix3 h ⟨b.val * 8192 + (n.val - 256), by omega⟩ e) := by
  pointwise [val_main_v6, val_main_v5, val_main_v4, val_main_v3, val_main_v2]

theorem v9_apply (b : Fin 2) (r : Fin 640) (n : Fin 8448) : val_main_v9 (F := Ideal) x2 x4 (ix3 b r n)
    = if hn : n.val < 256 then x2 (ix3 b r ⟨n.val, hn⟩) else x4 (ix3 b r ⟨n.val - 256, by omega⟩) := by
  pointwise [val_main_v9, val_main_v8, val_main_v7]

theorem v11_apply (b : Fin 2) (h : Fin 8) (d : Fin 64) (n : Fin 8448) : val_main_v11 (F := Ideal) x2 x4 (ix4 b h d n)
    = val_main_v9 (F := Ideal) x2 x4 (ix3 b ⟨h.val * 80 + d.val, by omega⟩ n) := by
  rw [val_main_v11_apply, val_main_v10_apply]
  refine congrArg _ (funext fun a => Fin.ext ?_)
  match a with
  | ⟨0, _⟩ => show (((b.val * 8 + h.val) * 80 + d.val) * 8448 + n.val) / 5406720 = b.val; omega
  | ⟨1, _⟩ => show (((b.val * 8 + h.val) * 80 + d.val) * 8448 + n.val) / 8448 % 640 = h.val * 80 + d.val; omega
  | ⟨2, _⟩ => show (((b.val * 8 + h.val) * 80 + d.val) * 8448 + n.val) % 8448 = n.val; omega

theorem v15_apply (b : Fin 2) (h : Fin 8) (l : Fin 8192) (n : Fin 8448) : val_main_v15 (F := Ideal) x0 x1 x3 (ix4 b h l n)
    = Ideal.div (∑ e, x0 (ix3 h ⟨b.val * 8192 + l.val, by omega⟩ e) * val_main_v6 (F := Ideal) x1 x3 (ix4 h b n e))
        (Ideal.sqrt (Ideal.ofBits .f32 0x42C00000#32)) := by
  pointwise [val_main_v15, val_main_v14, val_main_v13, val_main_cst, val_main_v12, val_main_v1, val_main_v0]

theorem v22_apply (b : Fin 2) (h : Fin 8) (l : Fin 8192) (n : Fin 8448) : val_main_v22 (F := Ideal) x0 x1 x3 (ix4 b h l n)
    = Ideal.exp (val_main_v15 (F := Ideal) x0 x1 x3 (ix4 b h l n) - val_main_v18 (F := Ideal) x0 x1 x3 (ix3 b h l)) := by
  pointwise [val_main_v22, val_main_v21, val_main_v20, val_main_v19]

theorem v25_apply (b : Fin 2) (h : Fin 8) (l : Fin 8192) (n : Fin 8448) : val_main_v25 (F := Ideal) x0 x1 x3 (ix4 b h l n)
    = ∑ z, val_main_v22 (F := Ideal) x0 x1 x3 (ix4 b h l z) := by
  pointwise [val_main_v25, val_main_v24, val_main_v23, val_main_cst_2]

theorem v30_apply (i : S16384x512.Idx) : val_main_v30 (F := Ideal) x0 x1 x2 x3 x4 i
    = ∑ n, val_main_v11 (F := Ideal) x2 x4 (ix4 ⟨(i 0).val / 8192, by have : (i 0).val < 16384 := (i 0).isLt; omega⟩
          ⟨(i 1).val / 64, by have : (i 1).val < 512 := (i 1).isLt; omega⟩ ⟨(i 1).val % 64, by omega⟩ n)
        * Ideal.div
          (val_main_v22 (F := Ideal) x0 x1 x3 (ix4 ⟨(i 0).val / 8192, by have : (i 0).val < 16384 := (i 0).isLt; omega⟩
            ⟨(i 1).val / 64, by have : (i 1).val < 512 := (i 1).isLt; omega⟩ ⟨(i 0).val % 8192, by omega⟩ n))
          (val_main_v25 (F := Ideal) x0 x1 x3 (ix4 ⟨(i 0).val / 8192, by have : (i 0).val < 16384 := (i 0).isLt; omega⟩
            ⟨(i 1).val / 64, by have : (i 1).val < 512 := (i 1).isLt; omega⟩ ⟨(i 0).val % 8192, by omega⟩ n)) := by
  pointwise [val_main_v30, val_main_v29, val_main_v28, val_main_v27, val_main_v26]

/-- The divisor of the scores. -/
theorem sqrt96 : Ideal.sqrt (Ideal.ofBits .f32 0x42C00000#32) = ((Real.sqrt 96 : ℝ) : EReal) := by
  have h : Ideal.ofBits .f32 0x42C00000#32 = ((96 : ℝ) : EReal) := by
    simp [Ideal.ofBits, Ideal.ieee, -EReal.coe_mul]; norm_num
  rw [h, Ideal.sqrt_coe, if_neg (by norm_num)]

/-- Entries that are finite numbers. -/
abbrev IsReal {s : Shape} (x : s.Idx → EReal) : Prop := ∀ i, x i ≠ ⊤ ∧ x i ≠ ⊥

/-- The scale of the scores counted in powers of two. -/
abbrev qs : ℝ := (Real.sqrt 96)⁻¹ * (Real.log 2)⁻¹

/-- Key `n` of batch `b` and head `h`. -/
abbrev key (b : Fin 2) (h : Fin 8) (n : Fin 8448) : Fin 128 → EReal := fun e => val_main_v6 (F := Ideal) x1 x3 (ix4 h b n e)
/-- Query `l` of batch `b` and head `h`. -/
abbrev qry (b : Fin 2) (h : Fin 8) (l : Fin 8192) : Fin 128 → EReal := fun e => x0 (ix3 h ⟨b.val * 8192 + l.val, by omega⟩ e)

variable (h0 : IsReal x0) (h1 : IsReal x1) (h3 : IsReal x3)

include h1 h3 in
theorem key_real (b : Fin 2) (h : Fin 8) (n : Fin 8448) (e : Fin 128) : key x1 x3 b h n e ≠ ⊤ ∧ key x1 x3 b h n e ≠ ⊥ := by
  rw [key, v6_apply]
  split
  · exact h1 _
  · exact h3 _

include h0 h1 h3 in
/-- A score is the product of the two rows over the square root of 96. -/
theorem score_apply (b : Fin 2) (h : Fin 8) (l : Fin 8192) (n : Fin 8448) : val_main_v15 (F := Ideal) x0 x1 x3 (ix4 b h l n)
    = ((score (Real.sqrt 96)⁻¹ (key x1 x3 b h n) (qry x0 b h l) : ℝ) : EReal) := by
  rw [v15_apply, sqrt96]
  exact div_score _ (Real.sqrt_pos.mpr (by norm_num)).ne' _ _ (key_real x1 x3 h1 h3 b h n) fun e => h0 _

include h0 h1 h3 in
/-- The maximum subtracted from the scores is a finite number. -/
theorem max_real (j : S2x8x8192.Idx) : ∃ μ : ℝ, val_main_v18 (F := Ideal) x0 x1 x3 j = (μ : EReal) := by
  obtain ⟨μ, h⟩ := host_max_real (val_main_v15 (F := Ideal) x0 x1 x3) (val_main_cst_0 (F := Ideal))
    reducesTo_S2x8x8192x8448_S2x8x8192_d3 (by decide) h_S_ (by decide)
    (fun i => by
      have e : i = ix4 (i 0) (i 1) (i 2) (i 3) := by funext a; fin_cases a <;> rfl
      rw [e]; exact ⟨_, score_apply x0 x1 x3 h0 h1 h3 _ _ _ _⟩)
    (fun i => by rw [val_main_cst_0_apply]; exact (by simp [Ideal.ofBits, Ideal.ieee] : Ideal.ofBits .f32 0xFF800000#32 = ⊥)) j
  refine ⟨μ, ?_⟩
  rw [val_main_v18_apply, val_main_v17_apply, val_main_cst_1_apply]
  have hb : Ideal.ofBits .f32 0xFF800000#32 = ⊥ := by simp [Ideal.ofBits, Ideal.ieee]
  show max (Ideal.ofBits .f32 0xFF800000#32) (val_main_v16 (F := Ideal) x0 x1 x3 j) = _
  rw [hb, bot_sup_eq]
  exact h

/-- Key `x` of the context, and key `x` of latent tile `k`. -/
abbrev ckey (b : Fin 2) (h : Fin 8) (x : Fin 256) : Fin 128 → EReal := fun e => x1 (ix3 h ⟨b.val * 256 + x.val, by omega⟩ e)
abbrev lkey (b : Fin 2) (h : Fin 8) (k : Fin 16) (x : Fin 512) : Fin 128 → EReal := fun e =>
  x3 (ix3 h ⟨b.val * 8192 + (k.val * 512 + x.val), by omega⟩ e)

/-- Attention of one query of batch `b` and head `h`, value `d`: the softmax-weighted mean over the context keys and
    sixteen tiles of latent keys. -/
def attn (b : Fin 2) (h : Fin 8) (l : Fin 8192) (d : Fin 64) : EReal :=
  mean (Sum.elim (fun x => score qs (ckey x1 b h x) (qry x0 b h l))
      fun p : Fin 16 × Fin 512 => score qs (lkey x3 b h p.1 p.2) (qry x0 b h l))
    (Sum.elim (fun x => x2 (ix3 b ⟨h.val * 80 + d.val, by omega⟩ x))
      fun p : Fin 16 × Fin 512 => x4 (ix3 b ⟨h.val * 80 + d.val, by omega⟩ ⟨p.1.val * 512 + p.2.val, by omega⟩))

/-- The keys' positions in the row of all the keys. -/
def place : Fin 256 ⊕ Fin 16 × Fin 512 ≃ Fin 8448 := (keys 256 16 512).trans (finCongr (by norm_num))

theorem place_inl (x : Fin 256) : (place (Sum.inl x)).val = x.val := rfl
theorem place_inr (p : Fin 16 × Fin 512) : (place (Sum.inr p)).val = 256 + (p.2.val + 512 * p.1.val) := rfl

include h0 h1 h3 in
/-- The softmax-weighted sum over all the keys is the mean over the context keys and the tiles. -/
theorem attn_eq (b : Fin 2) (h : Fin 8) (l : Fin 8192) (d : Fin 64) :
    ∑ n, val_main_v11 (F := Ideal) x2 x4 (ix4 b h d n)
        * Ideal.div (val_main_v22 (F := Ideal) x0 x1 x3 (ix4 b h l n)) (val_main_v25 (F := Ideal) x0 x1 x3 (ix4 b h l n))
      = attn x0 x1 x2 x3 x4 b h l d := by
  obtain ⟨μ, hμ⟩ := max_real x0 x1 x3 h0 h1 h3 (ix3 b h l)
  simp only [v25_apply, v22_apply, score_apply x0 x1 x3 h0 h1 h3, hμ]
  rw [softmax_mean μ (fun n => score (Real.sqrt 96)⁻¹ (key x1 x3 b h n) (qry x0 b h l)), mean_equiv place]
  unfold attn
  refine congrArg₂ mean (funext fun z => ?_) (funext fun z => ?_)
  · rcases z with x | p
    · have e : key x1 x3 b h (place (Sum.inl x)) = ckey x1 b h x := funext fun e => by
        rw [key, v6_apply, dif_pos (by rw [place_inl]; exact x.isLt)]; rfl
      rw [e]; exact mul_assoc _ _ _
    · have e : key x1 x3 b h (place (Sum.inr p)) = lkey x3 b h p.1 p.2 := funext fun e => by
        rw [key, v6_apply, dif_neg (by rw [place_inr]; omega)]
        refine congrArg x3 (congrArg (fun r => ix3 h r e) (Fin.ext ?_))
        show b.val * 8192 + ((place (Sum.inr p)).val - 256) = b.val * 8192 + (p.1.val * 512 + p.2.val)
        rw [place_inr]; omega
      rw [e]; exact mul_assoc _ _ _
  · rcases z with x | p
    · show val_main_v11 (F := Ideal) x2 x4 (ix4 b h d (place (Sum.inl x))) = _
      rw [v11_apply, v9_apply, dif_pos (by rw [place_inl]; exact x.isLt)]; rfl
    · show val_main_v11 (F := Ideal) x2 x4 (ix4 b h d (place (Sum.inr p))) = _
      rw [v11_apply, v9_apply, dif_neg (by rw [place_inr]; omega)]
      refine congrArg x4 (congrArg (fun r => ix3 b _ r) (Fin.ext ?_))
      show (place (Sum.inr p)).val - 256 = p.1.val * 512 + p.2.val
      rw [place_inr]; omega

include h0 h1 h3 in
/-- The reference's result at an index. -/
theorem ref_apply (i : S16384x512.Idx) : val_main_v30 (F := Ideal) x0 x1 x2 x3 x4 i
    = attn x0 x1 x2 x3 x4 ⟨(i 0).val / 8192, by have : (i 0).val < 16384 := (i 0).isLt; omega⟩
        ⟨(i 1).val / 64, by have : (i 1).val < 512 := (i 1).isLt; omega⟩ ⟨(i 0).val % 8192, by omega⟩ ⟨(i 1).val % 64, by omega⟩ :=
  (v30_apply x0 x1 x2 x3 x4 i).trans (attn_eq x0 x1 x2 x3 x4 h0 h1 h3 _ _ _ _)

end
end Cert.ReferenceIdeal.Result
-- ==== Proof.AttnValue.lean ====
module

public import proofs.«01_k».proof.Proof.AttnKernel
public import proofs.«01_k».proof.Proof.AttnRef

@[expose] public section

set_option maxRecDepth 16384

/-! The attention: the array the kernel leaves is the reference's, block by block, for finite queries and keys and a row
    of ones among every head's rows of values. -/

noncomputable section

namespace Cert.KernelIdeal.Result

open Idealize.ShloMosaic Idealize.ShloMosaic.TcCoe Idealize.SL.Sem
open Idealize.ShloMosaic.Pipeline (Dat)
open Cert.KernelIdeal Cert.KernelIdeal.Gen Cert.Attn
open Cert.ReferenceIdeal.Result (attn IsReal ref_apply)
open Cert.ReferenceIdeal.Read (val_main_v30)

variable (m : (ℓ : Loc nD τ sig) → Buf (Elt Ideal) ℓ)

/-- Where each window's block sits at a grid point. -/
theorem idx : ∀ t : Fin cfg0.N, win0_0.index t = ![t.val / 32 % 4, t.val / 128 * 32 + t.val % 32, 0]
    ∧ win0_1.index t = ![t.val / 32 % 4, t.val / 128, 0] ∧ win0_2.index t = ![t.val / 128, t.val / 32 % 4, 0]
    ∧ win0_3.index t = ![t.val / 32 % 4, t.val / 128, 0] ∧ win0_4.index t = ![t.val / 128, t.val / 32 % 4, 0]
    ∧ win0_5.index t = ![t.val / 128 * 32 + t.val % 32, t.val / 32 % 4] :=
  (by decide +kernel : ∀ t : Fin grid0.N, _)

/-- There are 256 grid points. -/
theorem lt256 (t : Fin cfg0.N) : t.val < 256 := t.isLt

/-- The call's arguments. -/
abbrev A0 (c : Dev nD) : FVec Ideal S8x16384x128 .bf16 := m ((c : Thread nD τ).loc main_arg0)
abbrev A1 (c : Dev nD) : FVec Ideal S8x512x128 .bf16 := m ((c : Thread nD τ).loc main_arg1)
abbrev A2 (c : Dev nD) : FVec Ideal S2x640x256 .bf16 := m ((c : Thread nD τ).loc main_arg2)
abbrev A3 (c : Dev nD) : FVec Ideal S8x16384x128 .bf16 := m ((c : Thread nD τ).loc main_arg3)
abbrev A4 (c : Dev nD) : FVec Ideal S2x640x8192 .bf16 := m ((c : Thread nD τ).loc main_arg4)

/-- The blocks at a grid point. -/
abbrev D0 (c : Dev nD) (t : Fin cfg0.N) : Vec Ideal S2x256x128 .bf16 := iblk m c 0 t
abbrev D1 (c : Dev nD) (t : Fin cfg0.N) : Vec Ideal S2x256x128 .bf16 := iblk m c 1 t
abbrev D2 (c : Dev nD) (t : Fin cfg0.N) : Vec Ideal S1x160x256 .bf16 := iblk m c 2 t
abbrev D3 (c : Dev nD) (t : Fin cfg0.N) : Vec Ideal S2x8192x128 .bf16 := iblk m c 3 t
abbrev D4 (c : Dev nD) (t : Fin cfg0.N) : Vec Ideal S1x160x8192 .bf16 := iblk m c 4 t

/-- A head of a grid point among the eight. -/
abbrev hd (t : Fin cfg0.N) (h : Fin 2) : Fin 8 := ⟨t.val / 32 % 4 * 2 + h.val, by omega⟩
/-- The batch of a grid point. -/
abbrev bt (t : Fin cfg0.N) : Fin 2 := ⟨t.val / 128, by have := lt256 t; omega⟩

theorem blk0 (c : Dev nD) (t : Fin cfg0.N) (h : Fin 2) (b : Fin 256) (e : Fin 128) : D0 m c t (ix3 h b e)
    = A0 m c (ix3 (hd t h) ⟨(t.val / 128 * 32 + t.val % 32) * 256 + b.val, by have := lt256 t; omega⟩ e) := by
  blk_point [D0, A0, iblk, V, idx t]

theorem blk1 (c : Dev nD) (t : Fin cfg0.N) (h : Fin 2) (b : Fin 256) (e : Fin 128) : D1 m c t (ix3 h b e)
    = A1 m c (ix3 (hd t h) ⟨t.val / 128 * 256 + b.val, by have := lt256 t; omega⟩ e) := by
  blk_point [D1, A1, iblk, V, idx t]

theorem blk2 (c : Dev nD) (t : Fin cfg0.N) (a : Fin 160) (x : Fin 256) : D2 m c t (ix3 0 a x)
    = A2 m c (ix3 (bt t) ⟨t.val / 32 % 4 * 160 + a.val, by omega⟩ x) := by
  blk_point [D2, A2, iblk, V, idx t]

theorem blk3 (c : Dev nD) (t : Fin cfg0.N) (h : Fin 2) (b : Fin 8192) (e : Fin 128) : D3 m c t (ix3 h b e)
    = A3 m c (ix3 (hd t h) ⟨t.val / 128 * 8192 + b.val, by have := lt256 t; omega⟩ e) := by
  blk_point [D3, A3, iblk, V, idx t]

theorem blk4 (c : Dev nD) (t : Fin cfg0.N) (a : Fin 160) (x : Fin 8192) : D4 m c t (ix3 0 a x)
    = A4 m c (ix3 (bt t) ⟨t.val / 32 % 4 * 160 + a.val, by omega⟩ x) := by
  blk_point [D4, A4, iblk, V, idx t]

/-- Row 64 of every head's 80 rows of values is ones. -/
abbrev Ones {n : ℕ} (x : FVec Ideal ⟨3, ![2, 640, n]⟩ .bf16) : Prop :=
  ∀ (b : Fin 2) (h : Fin 8) (j : Fin n), x (ix3 b ⟨h.val * 80 + 64, by omega⟩ j) = (1 : EReal)

/-- Two scores agree where the keys and the queries do. -/
theorem score_congr {k k' q q' : Fin 128 → EReal} (hk : ∀ e, k e = k' e) (hq : ∀ e, q e = q' e) :
    score qs k q = score qs k' q' := by rw [funext hk, funext hq]

/-- Attention over the keys of a grid point's blocks is attention over the arguments' keys. -/
theorem block_attn (c : Dev nD) (t : Fin cfg0.N) (h : Fin 2) (b : Fin 256) (a : Fin 64) :
    blockMean (D0 m c t) (D1 m c t) (D2 m c t) (D3 m c t) (D4 m c t) h b a
      = attn (A0 m c) (A1 m c) (A2 m c) (A3 m c) (A4 m c) (bt t) (hd t h)
          ⟨t.val % 32 * 256 + b.val, by omega⟩ a := by
  have hq : ∀ e, D0 m c t (ix3 h b e) = A0 m c (ix3 (hd t h)
      ⟨t.val / 128 * 8192 + (t.val % 32 * 256 + b.val), by have := lt256 t; omega⟩ e) := fun e => by
    rw [blk0]
    refine congrArg (A0 m c) (congrArg (fun r => ix3 (hd t h) r e) (Fin.ext ?_))
    show (t.val / 128 * 32 + t.val % 32) * 256 + b.val = t.val / 128 * 8192 + (t.val % 32 * 256 + b.val)
    omega
  have hr : ∀ a : Fin 80, (⟨t.val / 32 % 4 * 160 + (row h a).val, by omega⟩ : Fin 640)
      = ⟨(hd t h).val * 80 + a.val, by omega⟩ := fun a => Fin.ext (by
    show t.val / 32 % 4 * 160 + (h.val * 80 + a.val) = (t.val / 32 % 4 * 2 + h.val) * 80 + a.val
    omega)
  unfold attn
  refine congrArg₂ mean (funext fun z => ?_) (funext fun z => ?_)
  · rcases z with x | p
    · exact score_congr (fun e => blk1 m c t h x e) hq
    · exact score_congr (fun e => blk3 m c t h (pos p.1 p.2) e) hq
  · rcases z with x | p
    · exact (blk2 m c t _ x).trans (congrArg (fun r => A2 m c (ix3 (bt t) r x)) (hr _))
    · exact (blk4 m c t _ _).trans (congrArg (fun r => A4 m c (ix3 (bt t) r (pos p.1 p.2))) (hr _))

section
variable (c : Dev nD) (h0 : IsReal (A0 m c)) (h1 : IsReal (A1 m c)) (h3 : IsReal (A3 m c)) (h2 : Ones (A2 m c)) (h4 : Ones (A4 m c))

/-- Entries that are finite at every triple of coordinates are finite. -/
theorem real_of {p q r : ℕ} (X : (⟨3, ![p, q, r]⟩ : Shape).Idx → EReal) (h : ∀ a b c, Fin' (X (ix3 a b c))) (i) : Fin' (X i) := by
  have e : i = ix3 (i 0) (i 1) (i 2) := by funext a; fin_cases a <;> rfl
  rw [e]; exact h _ _ _

/-- Where the index of an output block sits in the array. -/
theorem emb_eq (t : Fin cfg0.N) (b : Fin 256) (a : Fin 128) : ((cfg0.win 5).blk t).view.emb (ix2 b a)
    = (ix2 ⟨(t.val / 128 * 32 + t.val % 32) * 256 + b.val, by have := lt256 t; omega⟩
        ⟨t.val / 32 % 4 * 128 + a.val, by omega⟩ : S16384x512.Idx) := by
  blk_ext [idx t]

include h0 h1 h2 h3 h4 in
/-- What a grid point's blocks give at an index is the reference where that index sits in the array. -/
theorem block_ref (t : Fin cfg0.N) (b : Fin 256) (a : Fin 128) :
    blockMean (D0 m c t) (D1 m c t) (D2 m c t) (D3 m c t) (D4 m c t) ⟨a.val / 64, by omega⟩ b ⟨a.val % 64, by omega⟩
      = val_main_v30 (F := Ideal) (A0 m c) (A1 m c) (A2 m c) (A3 m c) (A4 m c) (((cfg0.win 5).blk t).view.emb (ix2 b a)) := by
  have := lt256 t
  refine Eq.trans ?_ (congrArg (val_main_v30 (F := Ideal) (A0 m c) (A1 m c) (A2 m c) (A3 m c) (A4 m c)) (emb_eq t b a).symm)
  rw [block_attn, ref_apply _ _ _ _ _ h0 h1 h3]
  have e1 : bt t = ⟨((t.val / 128 * 32 + t.val % 32) * 256 + b.val) / 8192, by omega⟩ :=
    Fin.ext (by show t.val / 128 = _; dsimp only; omega)
  have e2 : hd t ⟨a.val / 64, by omega⟩ = ⟨(t.val / 32 % 4 * 128 + a.val) / 64, by omega⟩ :=
    Fin.ext (by show t.val / 32 % 4 * 2 + a.val / 64 = _; dsimp only; omega)
  have e3 : (⟨t.val % 32 * 256 + b.val, by omega⟩ : Fin 8192)
      = ⟨((t.val / 128 * 32 + t.val % 32) * 256 + b.val) % 8192, by omega⟩ := Fin.ext (by dsimp only; omega)
  have e4 : (⟨a.val % 64, by omega⟩ : Fin 64) = ⟨(t.val / 32 % 4 * 128 + a.val) % 64, by omega⟩ :=
    Fin.ext (by dsimp only; omega)
  rw [e1, e2, e3, e4]
  rfl

include h0 h1 h2 h3 h4 in
/-- The array after the run is the reference's result. -/
theorem final : (dats m 0 c).arrAt 5 (cfgs 0).N
    = val_main_v30 (F := Ideal) (A0 m c) (A1 m c) (A2 m c) (A3 m c) (A4 m c) := by
  refine (dats m 0 c).arrAt_eq_of_covers 5 _ (by decide +kernel) fun t _ y => ?_
  blk_simp
  rw [after0_5]
  simp only [outsAt0]
  frame_out
  have ey : y = ix2 (y 0) (y 1) := by funext a; fin_cases a <;> rfl
  rw [ey]
  refine (stored Variants.none c none (grid0.coords t) (ms0_0 t) (hs0_0 t) (ms0_1 t) (hs0_1 t) (ms0_2 t) (hs0_2 t)
    (ms0_3 t) (hs0_3 t) (ms0_4 t) (hs0_4 t) (ms0_5 t) (hs0_5 t) (D0 m c t) (D1 m c t) (D2 m c t) (D3 m c t) (D4 m c t)
    (fun h x => ?_) (fun h k x => ?_) (fun i => ?_) (fun i => ?_) (fun i => ?_) (y 0) (y 1)).trans
    (block_ref m c h0 h1 h3 h2 h4 t (y 0) (y 1))
  · refine (blk2 m c t _ x).trans (Eq.trans ?_ (h2 (bt t) (hd t h) x))
    refine congrArg (fun r => A2 m c (ix3 (bt t) r x)) (Fin.ext ?_)
    show t.val / 32 % 4 * 160 + (h.val * 80 + 64) = (t.val / 32 % 4 * 2 + h.val) * 80 + 64
    omega
  · refine (blk4 m c t _ _).trans (Eq.trans ?_ (h4 (bt t) (hd t h) (pos k x)))
    refine congrArg (fun r => A4 m c (ix3 (bt t) r (pos k x))) (Fin.ext ?_)
    show t.val / 32 % 4 * 160 + (h.val * 80 + 64) = (t.val / 32 % 4 * 2 + h.val) * 80 + 64
    omega
  · exact real_of (p := 2) (q := 256) (r := 128) (D0 m c t) (fun a b d => by rw [blk0]; exact h0 _) i
  · exact real_of (p := 2) (q := 256) (r := 128) (D1 m c t) (fun a b d => by rw [blk1]; exact h1 _) i
  · exact real_of (p := 2) (q := 8192) (r := 128) (D3 m c t) (fun a b d => by rw [blk3]; exact h3 _) i
end

end Cert.KernelIdeal.Result
-- ==== Proof.AttnPair.lean ====
module

public import proofs.«01_k».proof.Defs
public import proofs.«01_k».proof.Proof.AttnValue
public import proofs.«01_k».proof.Proof.Gen.Pre_attn_args
public import proofs.«01_k».proof.Proof.Gen.ReferenceIdeal.Run
public import Idealize.ShloMosaic.Lib.Claim

@[expose] public section

set_option maxRecDepth 16384

/-! The attention's pair: what the precondition says of each argument at an index, and the claim. -/

noncomputable section

namespace Cert.Pairs

open Idealize.ShloMosaic Idealize.ShloMosaic.TcCoe Idealize.SL.Sem
open Cert.KernelIdeal.Result (Ones A0 A1 A2 A3 A4)
open Cert.ReferenceIdeal.Result (IsReal)

/-- The pattern the precondition compares with is infinity. -/
theorem inf_val : Ideal.ofBits .f32 0x7F800000#32 = ⊤ := by
  simp [Ideal.ofBits, Ideal.ieee]

/-- The pattern the precondition compares the row of ones with is one. -/
theorem one_val : Ideal.ofBits .f32 0x3F800000#32 = 1 := by
  simp [Ideal.ofBits, Ideal.ieee, -EReal.coe_mul]; norm_num

/-- A comparison that came out true says its relation holds. -/
theorem of_bit {p : Prop} [Decidable p] (h : BitVec.ofBool (decide p) = 1#1) : p := by
  by_contra hn; rw [decide_eq_false hn] at h; exact absurd h (by decide)

/-- A number whose magnitude is below infinity is neither infinity. -/
theorem real_of_abs (x : EReal) (h : max x (-x) < ⊤) : x ≠ ⊤ ∧ x ≠ ⊥ := by
  refine ⟨?_, ?_⟩ <;> rintro rfl <;> simp at h

/-- An array whose magnitudes all compare below infinity holds finite numbers. -/
theorem real_of_bits {s : Shape} (x : s.Idx → EReal)
    (h : (fun i => Ideal.cmp .olt (max (x i) (-x i)) (Ideal.ofBits .f32 0x7F800000#32)) = fun _ => 1#1) : IsReal x :=
  fun i => real_of_abs (x i) (inf_val ▸ of_bit (congrFun h i))

/-- Row 64 of each head's block of values, read through the precondition's reshapes and slice. -/
theorem ones_of {n : ℕ} (x : FVec Ideal ⟨3, ![2, 640, n]⟩ .bf16)
    (h1 : (⟨3, ![2, 640, n]⟩ : Shape).ShapeCasts ⟨4, ![2, 8, 80, n]⟩)
    (h2 : (⟨4, ![2, 8, 80, n]⟩ : Shape).Slices ![0, 0, 64, 0] ⟨4, ![2, 8, 1, n]⟩)
    (h3 : (⟨4, ![2, 8, 1, n]⟩ : Shape).ShapeCasts ⟨3, ![2, 8, n]⟩)
    (h : (fun i => Ideal.cmp .oeq (shapeCast ⟨3, ![2, 8, n]⟩ (extractStridedSlice ⟨4, ![2, 8, 1, n]⟩ ![0, 0, 64, 0]
      (shapeCast ⟨4, ![2, 8, 80, n]⟩ x h1) h2) h3 i) (Ideal.ofBits .f32 0x3F800000#32)) = fun _ => 1#1) : Ones x := by
  intro b a j
  have e := one_val ▸ of_bit (congrFun h (ix3 b a j))
  rw [shapeCast_apply _ h3 (ix3 b a j) (ix4 b a (0 : Fin 1) j)
      (by rw [Shape.rowMajor_val_four, Shape.rowMajor_val_three]; simp),
    extractStridedSlice_apply _ _ h2 (ix4 b a (0 : Fin 1) j) (ix4 b a (64 : Fin 80) j)
      (fun k => by fin_cases k <;> simp),
    shapeCast_apply _ h1 (ix4 b a (64 : Fin 80) j) (ix3 b ⟨a.val * 80 + 64, by omega⟩ j)
      (by rw [Shape.rowMajor_val_four, Shape.rowMajor_val_three]
          show (b.val * 640 + (a.val * 80 + 64)) * n + j.val = ((b.val * 8 + a.val) * 80 + 64) * n + j.val
          congr 2; ring)] at e
  exact e

set_option maxHeartbeats 1600000 in
/-- The attention call and its reference end with equal results, for finite queries and keys and a row of ones. -/
theorem algebraic_attn : Cert.algebraic_KernelIdeal_ReferenceIdeal_pre_attn_args := by
  pair_intro
  · run_from Cert.KernelIdeal.Gen.run_main m g
  run_from Cert.ReferenceIdeal.Value.run m' g'
  · obtain ⟨p0, p1, p3, p2, p4⟩ := hpre c
    rw [Cert.ReferenceIdeal.Read.val_main_v30_eq m' c]
    simp only [hagree c]
    exact (Cert.KernelIdeal.Result.final m c (real_of_bits (A0 m c) p0) (real_of_bits (A1 m c) p1)
      (real_of_bits (A3 m c) p3) (ones_of (A2 m c) _ _ _ p2) (ones_of (A4 m c) _ _ _ p4)).symm

end Cert.Pairs

end
-- ==== Proof.ProjHost.lean ====
module

public import proofs.«01_k».proof.Proof.ProjIdealFrame
public import Idealize.ShloMosaic.Lib.Pipeline.ValueKit
public import Idealize.ShloMosaic.Lib.Pointwise
public import Idealize.ShloMosaic.Lib.Claim

@[expose] public section

set_option maxRecDepth 16384

/-! The arrays the host code prepares for the input projections, each as a function of the call's own arguments. -/

noncomputable section

namespace Cert.ProjIdeal.Host

open Idealize.ShloMosaic Idealize.ShloMosaic.TcCoe Idealize.SL.Sem
open Cert.ProjIdeal Cert.ProjIdeal.Gen Cert.ProjIdeal.Body

/-- The number the host pads with: an integer zero turned into a float. -/
def zed : FVec Ideal S_ .f32 := sitofp .f32 (constantI S_ 32 0#32)

/-- Cosines, twice over: one row of 32 for each token. -/
def cpat (x : FVec Ideal S8192x2x8 .f32) : FVec Ideal S8192x32 .f32 :=
  shapeCast S8192x32 (concatenate S8192x2x16 2 [⟨S8192x2x8, x⟩, ⟨S8192x2x8, x⟩]
    concatenates_S8192x2x8_S8192x2x8_S8192x2x16_d2) shapeCasts_S8192x2x16_S8192x32

/-- Sines, the first half of each sixteen with the sign turned. -/
def spat (x : FVec Ideal S8192x2x8 .f32) : FVec Ideal S8192x32 .f32 :=
  shapeCast S8192x32 (concatenate S8192x2x16 2 [⟨S8192x2x8, Host.negf x⟩, ⟨S8192x2x8, x⟩]
    concatenates_S8192x2x8_S8192x2x8_S8192x2x16_d2) shapeCasts_S8192x2x16_S8192x32

/-- A row of 32 repeated for the eight heads. -/
def rep (x : FVec Ideal S8192x32 .f32) : FVec Ideal S8192x256 .f32 :=
  shapeCast S8192x256 (broadcastInDim S1x8192x8x32 ![0, 1, 2, 3] bcast_S1x8192x1x32_S1x8192x8x32_0_1_2_3
    (shapeCast S1x8192x1x32 x shapeCasts_S8192x32_S1x8192x1x32)) shapeCasts_S1x8192x8x32_S8192x256

/-- The rotation table of the queries: cosines for every head, then signed sines for every head. -/
def tabq (cs sn : FVec Ideal S8192x2x8 .f32) : FVec Ideal S8192x512 .f32 :=
  concatenate S8192x512 1 [⟨S8192x256, rep (cpat cs)⟩, ⟨S8192x256, rep (spat sn)⟩] concatenates_S8192x256_S8192x256_S8192x512_d1

/-- The rotation table of the shared key part: cosines, signed sines, zeros. -/
def tabk (cs sn : FVec Ideal S8192x2x8 .f32) : FVec Ideal S8192x128 .f32 :=
  concatenate S8192x128 1 [⟨S8192x32, cpat cs⟩, ⟨S8192x32, spat sn⟩,
    ⟨S8192x64, broadcastInDim S8192x64 ![] bcast_S_S8192x64 (constant (F := Ideal) S_ .f32 0x00000000#32)⟩]
    concatenates_S8192x32_S8192x32_S8192x64_S8192x128_d1

/-- Where each of the 32 rotated columns finds its partner. -/
def perm : IVec S32x1 32 :=
  let p : IVec S32 32 := fun i => lit0 (S32.rowMajor i)
  broadcastInDim S32x1 ![0] bcast_S32_S32x1_0
    (select (constantI S32 1 0#1) (addi p (broadcastInDim S32 ![] bcast_S_S32 (constantI S_ 32 32#32))) p)

/-- The columns of the input matrix for the compressed queries and keys, then the rotated part and its partners, before the cast. -/
def wa32 (w : FVec Ideal S1024x4768 .f32) : FVec Ideal S1024x768 .f32 :=
  concatenate S1024x768 1
    [⟨S1024x640, extractStridedSlice S1024x640 ![0, 0] w slices_S1024x4768_S1024x640_0_0⟩,
     ⟨S1024x32, extractStridedSlice S1024x32 ![0, 640] w slices_S1024x4768_S1024x32_0_640⟩,
     ⟨S1024x32, Host.gather gather_S1024x32_S32x1_S1024x32_0_1_n_n_1_1_10241
        (extractStridedSlice S1024x32 ![0, 640] w slices_S1024x4768_S1024x32_0_640) perm⟩,
     ⟨S1024x64, broadcastInDim S1024x64 ![] bcast_S_S1024x64 (constant (F := Ideal) S_ .f32 0x00000000#32)⟩]
    concatenates_S1024x640_S1024x32_S1024x32_S1024x64_S1024x768_d1

/-- The columns of the input matrix for the compressed queries and keys, then the rotated part and its partners. -/
def wa (w : FVec Ideal S1024x4768 .f32) : FVec Ideal S1024x768 .bf16 := truncf .bf16 (wa32 w) bitsLt_bf16_f32

/-- The columns of the input matrix for the pooled branch. -/
def wpool (w : FVec Ideal S1024x4768 .f32) : FVec Ideal S1024x512 .bf16 :=
  truncf .bf16 (extractStridedSlice S1024x512 ![0, 672] w slices_S1024x4768_S1024x512_0_672) bitsLt_bf16_f32

/-- The columns of the input matrix for the Fourier branch. -/
def wfft (w : FVec Ideal S1024x4768 .f32) : FVec Ideal S1024x512 .bf16 :=
  truncf .bf16 (extractStridedSlice S1024x512 ![0, 1184] w slices_S1024x4768_S1024x512_0_1184) bitsLt_bf16_f32

/-- The columns of the input matrix for the gates. -/
def wgate (w : FVec Ideal S1024x4768 .f32) : FVec Ideal S1024x3072 .bf16 :=
  truncf .bf16 (extractStridedSlice S1024x3072 ![0, 1696] w slices_S1024x4768_S1024x3072_0_1696) bitsLt_bf16_f32

/-- The query weights without a position, each head padded to 128 columns, before the cast. -/
def wqn32 (w : FVec Ideal S384x8x96 .f32) : FVec Ideal S384x1024 .f32 :=
  shapeCast S384x1024 (pad S384x8x128 ![0, 0, 0] ![0, 0, 64] ![0, 0, 0]
    (extractStridedSlice S384x8x64 ![0, 0, 0] w slices_S384x8x96_S384x8x64_0_0_0) zed
    pads_S384x8x64_S384x8x128_000_000_0640 h_S_) shapeCasts_S384x8x128_S384x1024

/-- The query weights without a position, each head padded to 128 columns. -/
def wqn (w : FVec Ideal S384x8x96 .f32) : FVec Ideal S384x1024 .bf16 := truncf .bf16 (wqn32 w) bitsLt_bf16_f32

/-- The query weights with a position, then the same with each column's partner in its place, before the cast. -/
def wqr32 (w : FVec Ideal S384x8x96 .f32) : FVec Ideal S384x512 .f32 :=
  concatenate S384x512 1
    [⟨S384x256, shapeCast S384x256 (extractStridedSlice S384x8x32 ![0, 0, 64] w slices_S384x8x96_S384x8x32_0_0_64)
        shapeCasts_S384x8x32_S384x256⟩,
     ⟨S384x256, shapeCast S384x256 (Host.gather gather_S384x8x32_S32x1_S384x8x32_01_2_n_n_2_1_38481
        (extractStridedSlice S384x8x32 ![0, 0, 64] w slices_S384x8x96_S384x8x32_0_0_64) perm)
        shapeCasts_S384x8x32_S384x256⟩] concatenates_S384x256_S384x256_S384x512_d1

/-- The query weights with a position, then the same with each column's partner in its place. -/
def wqr (w : FVec Ideal S384x8x96 .f32) : FVec Ideal S384x512 .bf16 := truncf .bf16 (wqr32 w) bitsLt_bf16_f32

/-- The key weights without a position, each head padded to 128 columns, before the cast. -/
def wkn32 (w : FVec Ideal S256x8x128 .f32) : FVec Ideal S256x1024 .f32 :=
  shapeCast S256x1024 (pad S256x8x128 ![0, 0, 0] ![0, 0, 64] ![0, 0, 0]
    (extractStridedSlice S256x8x64 ![0, 0, 0] w slices_S256x8x128_S256x8x64_0_0_0) zed
    pads_S256x8x64_S256x8x128_000_000_0640 h_S_) shapeCasts_S256x8x128_S256x1024

/-- The key weights without a position, each head padded to 128 columns. -/
def wkn (w : FVec Ideal S256x8x128 .f32) : FVec Ideal S256x1024 .bf16 := truncf .bf16 (wkn32 w) bitsLt_bf16_f32

/-- The value weights, transposed, each head padded to 80 rows, before the cast. -/
def wvt32 (w : FVec Ideal S256x8x128 .f32) : FVec Ideal S640x256 .f32 :=
  transpose S640x256 [1, 0] (shapeCast S256x640 (pad S256x8x80 ![0, 0, 0] ![0, 0, 16] ![0, 0, 0]
    (extractStridedSlice S256x8x64 ![0, 0, 64] w slices_S256x8x128_S256x8x64_0_0_64) zed
    pads_S256x8x64_S256x8x80_000_000_0160 h_S_) shapeCasts_S256x8x80_S256x640) transposes_S256x640_S640x256_1_0

/-- The value weights, transposed, each head padded to 80 rows. -/
def wvt (w : FVec Ideal S256x8x128 .f32) : FVec Ideal S640x256 .bf16 := truncf .bf16 (wvt32 w) bitsLt_bf16_f32

/-- The identity matrix of order 256, as floats. -/
def eye256 : FVec Ideal S256x256 .f32 :=
  uitofp .f32 (cmpi .eq (addi (iotaInDim S256x256 32 0) (broadcastInDim S256x256 ![] bcast_S_S256x256 (constantI S_ 32 0#32)))
    (iotaInDim S256x256 32 1))

/-- The identity matrix of order 32, as floats. -/
def eye32 : FVec Ideal S32x32 .f32 :=
  uitofp .f32 (cmpi .eq (addi (iotaInDim S32x32 32 0) (broadcastInDim S32x32 ![] bcast_S_S32x32 (constantI S_ 32 0#32)))
    (iotaInDim S32x32 32 1))

/-- One half of the matrix that sets each head's rotated query columns in their places. -/
def eqHalf : FVec Ideal S256x1024 .f32 :=
  shapeCast S256x1024 (pad S256x8x128 ![0, 0, 64] ![0, 0, 32] ![0, 0, 0]
    (shapeCast S256x8x32 eye256 shapeCasts_S256x256_S256x8x32) zed
    pads_S256x8x32_S256x8x128_000_000_64320 h_S_) shapeCasts_S256x8x128_S256x1024

/-- The matrix that adds the two rotated query parts into their places, before the cast. -/
def eq32 : FVec Ideal S512x1024 .f32 :=
  concatenate S512x1024 0 [⟨S256x1024, eqHalf⟩, ⟨S256x1024, eqHalf⟩] concatenates_S256x1024_S256x1024_S512x1024_d0

/-- The matrix that adds the two rotated query parts into their places. -/
def eq : FVec Ideal S512x1024 .bf16 := truncf .bf16 (eq32) bitsLt_bf16_f32

/-- One half of the matrix that sets the shared rotated key columns in every head's place. -/
def ekHalf : FVec Ideal S32x1024 .f32 :=
  shapeCast S32x1024 (pad S32x8x128 ![0, 0, 64] ![0, 0, 32] ![0, 0, 0]
    (shapeCast S32x8x32 (broadcastInDim S1x32x8x1x1x32 ![0, 1, 2, 3, 4, 5] bcast_S1x32x1x1x1x32_S1x32x8x1x1x32_0_1_2_3_4_5
      (shapeCast S1x32x1x1x1x32 (broadcastInDim S32x1x32 ![0, 2] bcast_S32x32_S32x1x32_0_2 eye32)
        shapeCasts_S32x1x32_S1x32x1x1x1x32)) shapeCasts_S1x32x8x1x1x32_S32x8x32) zed
    pads_S32x8x32_S32x8x128_000_000_64320 h_S_) shapeCasts_S32x8x128_S32x1024

/-- The matrix that adds the two shared rotated key parts into every head's place, before the cast. -/
def ek32 : FVec Ideal S128x1024 .f32 :=
  pad S128x1024 ![0, 0] ![64, 0] ![0, 0]
    (concatenate S64x1024 0 [⟨S32x1024, ekHalf⟩, ⟨S32x1024, ekHalf⟩] concatenates_S32x1024_S32x1024_S64x1024_d0) zed
    pads_S64x1024_S128x1024_0640_000 h_S_

/-- The matrix that adds the two shared rotated key parts into every head's place. -/
def ek : FVec Ideal S128x1024 .bf16 := truncf .bf16 (ek32) bitsLt_bf16_f32

/-- The column of ones: one in row 64 of each head's 80. -/
def vone : FVec Ideal S640x1 .f32 := fun i => FloatOps.ofBits (F := Ideal) .f32 (lit1 (S640x1.rowMajor i))

variable (m : (ℓ : Loc nD τ sig) → Buf (Elt Ideal) ℓ) (c : Dev nD)

set_option maxHeartbeats 1000000 in
/-- The region finds the first norm's gain as the host prepared it. -/
theorem V_v82 : V m c main_v82 = shapeCast S1x1024 (m (c, main_arg2)) shapeCasts_S1024_S1x1024 := by
  entry_read; all_goals rfl

set_option maxHeartbeats 1000000 in
/-- The region finds the queries' table as the host prepared it. -/
theorem V_v11 : V m c main_v11 = tabq (m (c, main_arg3)) (m (c, main_arg4)) := by
  entry_read; all_goals rfl

set_option maxHeartbeats 1000000 in
/-- The region finds the keys' table as the host prepared it. -/
theorem V_v13 : V m c main_v13 = tabk (m (c, main_arg3)) (m (c, main_arg4)) := by
  entry_read; all_goals rfl

set_option maxHeartbeats 1000000 in
/-- The region finds the first weights as the host prepared it. -/
theorem V_v38 : V m c main_v38 = wa (m (c, main_arg5)) := by
  entry_read; all_goals rfl

set_option maxHeartbeats 1000000 in
/-- The region finds the pooled branch's weights as the host prepared it. -/
theorem V_v40 : V m c main_v40 = wpool (m (c, main_arg5)) := by
  entry_read; all_goals rfl

set_option maxHeartbeats 1000000 in
/-- The region finds the Fourier branch's weights as the host prepared it. -/
theorem V_v42 : V m c main_v42 = wfft (m (c, main_arg5)) := by
  entry_read; all_goals rfl

set_option maxHeartbeats 1000000 in
/-- The region finds the gates' weights as the host prepared it. -/
theorem V_v44 : V m c main_v44 = wgate (m (c, main_arg5)) := by
  entry_read; all_goals rfl

set_option maxHeartbeats 1000000 in
/-- The region finds the gates' bias as the host prepared it. -/
theorem V_v45 : V m c main_v45 = shapeCast S1x3072 (m (c, main_arg6)) shapeCasts_S3072_S1x3072 := by
  entry_read; all_goals rfl

set_option maxHeartbeats 1000000 in
/-- The region finds the queries' gain as the host prepared it. -/
theorem V_v46 : V m c main_v46 = shapeCast S1x384 (m (c, main_arg7)) shapeCasts_S384_S1x384 := by
  entry_read; all_goals rfl

set_option maxHeartbeats 1000000 in
/-- The region finds the query weights without a position as the host prepared it. -/
theorem V_v48 : V m c main_v48 = wqn (m (c, main_arg8)) := by
  entry_read; all_goals rfl

set_option maxHeartbeats 1000000 in
/-- The region finds the query weights with a position as the host prepared it. -/
theorem V_v49 : V m c main_v49 = wqr (m (c, main_arg8)) := by
  entry_read; all_goals rfl

set_option maxHeartbeats 1000000 in
/-- The region finds the queries' placement as the host prepared it. -/
theorem V_v60 : V m c main_v60 = eq := by
  entry_read; all_goals rfl

set_option maxHeartbeats 1000000 in
/-- The region finds the keys' gain as the host prepared it. -/
theorem V_v61 : V m c main_v61 = shapeCast S1x256 (m (c, main_arg9)) shapeCasts_S256_S1x256 := by
  entry_read; all_goals rfl

set_option maxHeartbeats 1000000 in
/-- The region finds the key weights as the host prepared it. -/
theorem V_v63 : V m c main_v63 = wkn (m (c, main_arg10)) := by
  entry_read; all_goals rfl

set_option maxHeartbeats 1000000 in
/-- The region finds the keys' placement as the host prepared it. -/
theorem V_v78 : V m c main_v78 = ek := by
  entry_read; all_goals rfl

set_option maxHeartbeats 1000000 in
/-- The region finds the value weights as the host prepared it. -/
theorem V_v81 : V m c main_v81 = wvt (m (c, main_arg10)) := by
  entry_read; all_goals rfl

set_option maxHeartbeats 1000000 in
/-- The region finds the column of ones as the host prepared it. -/
theorem V_cst : V m c main_cst = vone := by
  entry_read; all_goals rfl

end Cert.ProjIdeal.Host

end

end
-- ==== Proof.ProjHostAt.lean ====
module

public import proofs.«01_k».proof.Proof.ProjHost
public import Idealize.ShloMosaic.Lib.KernelVsHost

@[expose] public section

set_option maxRecDepth 16384

/-! The prepared arrays of the input projections read at an index. -/

noncomputable section

namespace Cert.ProjIdeal.Host

open Idealize.ShloMosaic Idealize.ShloMosaic.TcCoe
open Cert.ProjIdeal Cert.ProjIdeal.Gen

/-- The partner of a rotated column: eight further in the first half of a sixteen, eight back in the second. -/
def sw (s : Fin 32) : Fin 32 := ⟨if s.val % 16 < 8 then s.val + 8 else s.val - 8, by split <;> omega⟩

/-- The printed table of partners, read as a gather reads it. -/
theorem perm_at : ∀ s : Fin 32, min (perm (ix2 s 0)).toInt.toNat 31 = (sw s).val := by decide +kernel

/-- Gathering columns of a matrix by the table. -/
theorem gather2 (x : FVec Ideal S1024x32 .f32) (d : Fin 1024) (s : Fin 32) :
    Host.gather gather_S1024x32_S32x1_S1024x32_0_1_n_n_1_1_10241 x perm (ix2 d s) = x (ix2 d (sw s)) := by
  unfold Host.gather
  refine congrArg x (funext fun a => Fin.ext ?_)
  match a with
  | ⟨0, _⟩ => exact Nat.zero_add _
  | ⟨1, _⟩ => exact perm_at s

/-- Gathering the last coordinate of a rank-three array by the table. -/
theorem gather3 (x : FVec Ideal S384x8x32 .f32) (r : Fin 384) (h : Fin 8) (s : Fin 32) :
    Host.gather gather_S384x8x32_S32x1_S384x8x32_01_2_n_n_2_1_38481 x perm (ix3 r h s) = x (ix3 r h (sw s)) := by
  unfold Host.gather
  refine congrArg x (funext fun a => Fin.ext ?_)
  match a with
  | ⟨0, _⟩ => exact Nat.zero_add _
  | ⟨1, _⟩ => exact Nat.zero_add _
  | ⟨2, _⟩ => exact perm_at s

theorem zed_at (i : S_.Idx) : zed i = 0 := by
  show (((0 : ℤ) : ℝ) : EReal) = 0
  simp

theorem zero_at (i : S_.Idx) : constant (F := Ideal) S_ .f32 0x00000000#32 i = 0 := by
  show Ideal.ofBits .f32 0x00000000#32 = 0
  simp [Ideal.ofBits, Ideal.ieee, -EReal.coe_mul]

theorem cpat_at (x : FVec Ideal S8192x2x8 .f32) (l : Fin 8192) (s : Fin 32) :
    cpat x (ix2 l s) = x (ix3 l ⟨s.val / 16, by omega⟩ ⟨s.val % 8, by omega⟩) := by
  unfold cpat
  rw [shapeCast_apply _ _ _ (ix3 l (⟨s.val / 16, by omega⟩ : Fin 2) (⟨s.val % 16, by omega⟩ : Fin 16))
    (by rw [Shape.rowMajor_val_three, Shape.rowMajor_val_two]
        show (l.val * 2 + s.val / 16) * 16 + s.val % 16 = l.val * 32 + s.val; omega)]
  pointwise
  split
  · blk_ext
  · blk_ext

theorem spat_at (x : FVec Ideal S8192x2x8 .f32) (l : Fin 8192) (s : Fin 32) :
    spat x (ix2 l s) = if s.val % 16 < 8 then -x (ix3 l ⟨s.val / 16, by omega⟩ ⟨s.val % 8, by omega⟩)
      else x (ix3 l ⟨s.val / 16, by omega⟩ ⟨s.val % 8, by omega⟩) := by
  unfold spat
  rw [shapeCast_apply _ _ _ (ix3 l (⟨s.val / 16, by omega⟩ : Fin 2) (⟨s.val % 16, by omega⟩ : Fin 16))
    (by rw [Shape.rowMajor_val_three, Shape.rowMajor_val_two]
        show (l.val * 2 + s.val / 16) * 16 + s.val % 16 = l.val * 32 + s.val; omega)]
  pointwise
  split
  · congr 1; blk_ext
  · blk_ext

theorem rep_at (x : FVec Ideal S8192x32 .f32) (l : Fin 8192) (h : Fin 8) (s : Fin 32) :
    rep x (ix2 l (⟨h.val * 32 + s.val, by omega⟩ : Fin 256)) = x (ix2 l s) := by
  unfold rep
  rw [shapeCast_apply _ _ _ (ix4 (0 : Fin 1) l h s)
    (by rw [Shape.rowMajor_val_four, Shape.rowMajor_val_two]
        show ((0 * 8192 + l.val) * 8 + h.val) * 32 + s.val = l.val * 256 + (h.val * 32 + s.val); omega)]
  rw [broadcastInDim_apply _ _ _ _ (ix4 (0 : Fin 1) l (0 : Fin 1) s) (fun a => by
    match a with
    | ⟨0, _⟩ => rfl
    | ⟨1, _⟩ => rfl
    | ⟨2, _⟩ => rfl
    | ⟨3, _⟩ => rfl)]
  exact shapeCast_apply _ _ _ (ix2 l s)
    (by rw [Shape.rowMajor_val_four, Shape.rowMajor_val_two]
        show l.val * 32 + s.val = ((0 * 8192 + l.val) * 1 + 0) * 32 + s.val; omega)

theorem tabq_lo (cs sn : FVec Ideal S8192x2x8 .f32) (l : Fin 8192) (h : Fin 8) (s : Fin 32) :
    tabq cs sn (ix2 l (⟨h.val * 32 + s.val, by omega⟩ : Fin 512)) = cpat cs (ix2 l s) := by
  refine Eq.trans ?_ (rep_at (cpat cs) l h s)
  unfold tabq
  refine concatenate_pair_apply_left (t := S8192x512) (s₁ := S8192x256) (s₂ := S8192x256) 1 (rep (cpat cs)) _ _ _ rfl (ix2 l (⟨h.val * 32 + s.val, by omega⟩ : Fin 256)) ?_
  intro b
  match b with
  | ⟨0, _⟩ => rfl
  | ⟨1, _⟩ => rfl

theorem tabq_hi (cs sn : FVec Ideal S8192x2x8 .f32) (l : Fin 8192) (h : Fin 8) (s : Fin 32) :
    tabq cs sn (ix2 l (⟨256 + (h.val * 32 + s.val), by omega⟩ : Fin 512)) = spat sn (ix2 l s) := by
  refine Eq.trans ?_ (rep_at (spat sn) l h s)
  unfold tabq
  refine concatenate_pair_apply_right (t := S8192x512) (s₁ := S8192x256) (s₂ := S8192x256) 1 _ (rep (spat sn)) _ _ rfl rfl
    (ix2 l (⟨h.val * 32 + s.val, by omega⟩ : Fin 256)) ?_ (Nat.add_comm _ _)
  intro b hb
  match b with
  | ⟨0, _⟩ => rfl
  | ⟨1, _⟩ => exact absurd rfl hb

theorem tabk_lo (cs sn : FVec Ideal S8192x2x8 .f32) (l : Fin 8192) (s : Fin 32) :
    tabk cs sn (ix2 l (⟨s.val, by omega⟩ : Fin 128)) = cpat cs (ix2 l s) := by
  unfold tabk
  rw [concatenate_apply_piece (t := S8192x128) 1 _ _ _ 0 (by show 0 < 3; decide) S8192x32 (cpat cs) rfl rfl 0 rfl (ix2 l s) (fun b hb => by
    match b with
    | ⟨0, _⟩ => rfl
    | ⟨1, _⟩ => exact absurd rfl hb) (Nat.zero_add _)]

theorem tabk_hi (cs sn : FVec Ideal S8192x2x8 .f32) (l : Fin 8192) (s : Fin 32) :
    tabk cs sn (ix2 l (⟨32 + s.val, by omega⟩ : Fin 128)) = spat sn (ix2 l s) := by
  unfold tabk
  rw [concatenate_apply_piece (t := S8192x128) 1 _ _ _ 1 (by show 1 < 3; decide) S8192x32 (spat sn) rfl rfl 32 rfl (ix2 l s) (fun b hb => by
    match b with
    | ⟨0, _⟩ => rfl
    | ⟨1, _⟩ => exact absurd rfl hb) rfl]

theorem wpool_at (w : FVec Ideal S1024x4768 .f32) (d : Fin 1024) (k : Fin 512) :
    wpool w (ix2 d k) = w (ix2 d ⟨672 + k.val, by omega⟩) := by
  pointwise [wpool]

theorem wfft_at (w : FVec Ideal S1024x4768 .f32) (d : Fin 1024) (k : Fin 512) :
    wfft w (ix2 d k) = w (ix2 d ⟨1184 + k.val, by omega⟩) := by
  pointwise [wfft]

theorem wgate_at (w : FVec Ideal S1024x4768 .f32) (d : Fin 1024) (k : Fin 3072) :
    wgate w (ix2 d k) = w (ix2 d ⟨1696 + k.val, by omega⟩) := by
  pointwise [wgate]

/-- The first weights, in the columns taken as they stand. -/
theorem wa_lo (w : FVec Ideal S1024x4768 .f32) (d : Fin 1024) (k : Fin 768) (hk : k.val < 672) :
    wa w (ix2 d k) = w (ix2 d ⟨k.val, by omega⟩) := by
  show wa32 w _ = _
  unfold wa32
  by_cases h : k.val < 640
  · rw [concatenate_apply_piece (t := S1024x768) 1 _ _ _ 0 (by show 0 < 4; decide) S1024x640 _ rfl rfl 0 rfl (ix2 d (⟨k.val, h⟩ : Fin 640)) (fun b hb => by
      match b with
      | ⟨0, _⟩ => rfl
      | ⟨1, _⟩ => exact absurd rfl hb) (Nat.zero_add _)]
    pointwise
  · rw [concatenate_apply_piece (t := S1024x768) 1 _ _ _ 1 (by show 1 < 4; decide) S1024x32 _ rfl rfl 640 rfl (ix2 d (⟨k.val - 640, by omega⟩ : Fin 32))
      (fun b hb => by
      match b with
      | ⟨0, _⟩ => rfl
      | ⟨1, _⟩ => exact absurd rfl hb) (by show 640 + (k.val - 640) = k.val; omega)]
    pointwise
    blk_ext

/-- The first weights, in the columns of the partners. -/
theorem wa_sw (w : FVec Ideal S1024x4768 .f32) (d : Fin 1024) (s : Fin 32) :
    wa w (ix2 d (⟨672 + s.val, by omega⟩ : Fin 768)) = w (ix2 d ⟨640 + (sw s).val, by omega⟩) := by
  show wa32 w _ = _
  unfold wa32
  rw [concatenate_apply_piece (t := S1024x768) 1 _ _ _ 2 (by show 2 < 4; decide) S1024x32 _ rfl rfl 672 rfl (ix2 d s) (fun b hb => by
      match b with
      | ⟨0, _⟩ => rfl
      | ⟨1, _⟩ => exact absurd rfl hb) rfl, gather2]
  pointwise

/-- A head's columns padded with zeros to 128, at a column. -/
theorem wqn_at (w : FVec Ideal S384x8x96 .f32) (r : Fin 384) (k : Fin 1024) :
    wqn w (ix2 r k) = if h : k.val % 128 < 64 then w (ix3 r ⟨k.val / 128, by omega⟩ ⟨k.val % 128, by omega⟩) else 0 := by
  show wqn32 w _ = _
  unfold wqn32
  rw [shapeCast_apply _ _ _ (ix3 r (⟨k.val / 128, by omega⟩ : Fin 8) (⟨k.val % 128, by omega⟩ : Fin 128))
    (by rw [Shape.rowMajor_val_three, Shape.rowMajor_val_two]
        show (r.val * 8 + k.val / 128) * 128 + k.val % 128 = r.val * 1024 + k.val; omega)]
  split
  · rename_i h
    rw [pad_apply_of_inside _ _ _ _ _ _ _ _ (ix3 r (⟨k.val / 128, by omega⟩ : Fin 8) (⟨k.val % 128, h⟩ : Fin 64)) (fun a => by
      match a with
      | ⟨0, _⟩ => show r.val = 0 + r.val * (0 + 1); omega
      | ⟨1, _⟩ => show k.val / 128 = 0 + k.val / 128 * (0 + 1); omega
      | ⟨2, _⟩ => show k.val % 128 = 0 + k.val % 128 * (0 + 1); omega)]
    pointwise
  · rename_i h
    rw [pad_apply_of_not_inside _ _ _ _ _ _ _ _ 2 (by
      show ¬(0 ≤ k.val % 128 ∧ (k.val % 128 - 0) % (0 + 1) = 0 ∧ (k.val % 128 - 0) / (0 + 1) < 64); omega)]
    exact zed_at _

theorem wkn_at (w : FVec Ideal S256x8x128 .f32) (r : Fin 256) (k : Fin 1024) :
    wkn w (ix2 r k) = if h : k.val % 128 < 64 then w (ix3 r ⟨k.val / 128, by omega⟩ ⟨k.val % 128, by omega⟩) else 0 := by
  show wkn32 w _ = _
  unfold wkn32
  rw [shapeCast_apply _ _ _ (ix3 r (⟨k.val / 128, by omega⟩ : Fin 8) (⟨k.val % 128, by omega⟩ : Fin 128))
    (by rw [Shape.rowMajor_val_three, Shape.rowMajor_val_two]
        show (r.val * 8 + k.val / 128) * 128 + k.val % 128 = r.val * 1024 + k.val; omega)]
  split
  · rename_i h
    rw [pad_apply_of_inside _ _ _ _ _ _ _ _ (ix3 r (⟨k.val / 128, by omega⟩ : Fin 8) (⟨k.val % 128, h⟩ : Fin 64)) (fun a => by
      match a with
      | ⟨0, _⟩ => show r.val = 0 + r.val * (0 + 1); omega
      | ⟨1, _⟩ => show k.val / 128 = 0 + k.val / 128 * (0 + 1); omega
      | ⟨2, _⟩ => show k.val % 128 = 0 + k.val % 128 * (0 + 1); omega)]
    pointwise
  · rename_i h
    rw [pad_apply_of_not_inside _ _ _ _ _ _ _ _ 2 (by
      show ¬(0 ≤ k.val % 128 ∧ (k.val % 128 - 0) % (0 + 1) = 0 ∧ (k.val % 128 - 0) / (0 + 1) < 64); omega)]
    exact zed_at _

/-- A head's value weights padded with zeros to 80, transposed, at a row. -/
theorem wvt_at (w : FVec Ideal S256x8x128 .f32) (k : Fin 640) (r : Fin 256) :
    wvt w (ix2 k r) = if h : k.val % 80 < 64 then w (ix3 r ⟨k.val / 80, by omega⟩ ⟨64 + k.val % 80, by omega⟩) else 0 := by
  show wvt32 w _ = _
  unfold wvt32
  rw [transpose_apply _ _ _ _ (ix2 r k) (fun b => by
      match b with
      | ⟨0, _⟩ => rfl
      | ⟨1, _⟩ => rfl),
    shapeCast_apply _ _ _ (ix3 r (⟨k.val / 80, by omega⟩ : Fin 8) (⟨k.val % 80, by omega⟩ : Fin 80))
    (by rw [Shape.rowMajor_val_three, Shape.rowMajor_val_two]
        show (r.val * 8 + k.val / 80) * 80 + k.val % 80 = r.val * 640 + k.val; omega)]
  split
  · rename_i h
    rw [pad_apply_of_inside _ _ _ _ _ _ _ _ (ix3 r (⟨k.val / 80, by omega⟩ : Fin 8) (⟨k.val % 80, h⟩ : Fin 64)) (fun a => by
      match a with
      | ⟨0, _⟩ => show r.val = 0 + r.val * (0 + 1); omega
      | ⟨1, _⟩ => show k.val / 80 = 0 + k.val / 80 * (0 + 1); omega
      | ⟨2, _⟩ => show k.val % 80 = 0 + k.val % 80 * (0 + 1); omega)]
    pointwise
  · rename_i h
    rw [pad_apply_of_not_inside _ _ _ _ _ _ _ _ 2 (by
      show ¬(0 ≤ k.val % 80 ∧ (k.val % 80 - 0) % (0 + 1) = 0 ∧ (k.val % 80 - 0) / (0 + 1) < 64); omega)]
    exact zed_at _

theorem wqr_lo (w : FVec Ideal S384x8x96 .f32) (r : Fin 384) (h : Fin 8) (s : Fin 32) :
    wqr w (ix2 r (⟨h.val * 32 + s.val, by omega⟩ : Fin 512)) = w (ix3 r h ⟨64 + s.val, by omega⟩) := by
  show wqr32 w _ = _
  unfold wqr32
  rw [concatenate_pair_apply_left (t := S384x512) (s₁ := S384x256) (s₂ := S384x256) 1 _ _ _ _ rfl (ix2 r (⟨h.val * 32 + s.val, by omega⟩ : Fin 256)) (fun b => by
      match b with
      | ⟨0, _⟩ => rfl
      | ⟨1, _⟩ => rfl),
    shapeCast_apply _ _ _ (ix3 r h s)
    (by rw [Shape.rowMajor_val_three, Shape.rowMajor_val_two]
        show (r.val * 8 + h.val) * 32 + s.val = r.val * 256 + (h.val * 32 + s.val); omega)]
  pointwise

theorem wqr_hi (w : FVec Ideal S384x8x96 .f32) (r : Fin 384) (h : Fin 8) (s : Fin 32) :
    wqr w (ix2 r (⟨256 + (h.val * 32 + s.val), by omega⟩ : Fin 512)) = w (ix3 r h ⟨64 + (sw s).val, by omega⟩) := by
  show wqr32 w _ = _
  unfold wqr32
  rw [concatenate_pair_apply_right (t := S384x512) (s₁ := S384x256) (s₂ := S384x256) 1 _ _ _ _ rfl rfl (ix2 r (⟨h.val * 32 + s.val, by omega⟩ : Fin 256)) (fun b hb => by
      match b with
      | ⟨0, _⟩ => rfl
      | ⟨1, _⟩ => exact absurd rfl hb) (Nat.add_comm _ _),
    shapeCast_apply _ _ _ (ix3 r h s)
    (by rw [Shape.rowMajor_val_three, Shape.rowMajor_val_two]
        show (r.val * 8 + h.val) * 32 + s.val = r.val * 256 + (h.val * 32 + s.val); omega), gather3]
  pointwise

/-- A diagonal test of words that name small numbers, as a number. -/
theorem diag (n : Nat) (hn : n ≤ 256) (i j : Fin n) :
    FloatOps.uitofp (F := Ideal) .f32 (IntOp.cmpi .eq (IntOp.addi (BitVec.ofNat 32 i.val) 0#32) (BitVec.ofNat 32 j.val))
      = if i.val = j.val then (1 : EReal) else 0 := by
  have e : IntOp.cmpi .eq (IntOp.addi (BitVec.ofNat 32 i.val) 0#32) (BitVec.ofNat 32 j.val)
      = if i.val = j.val then 1#1 else 0#1 := by
    have hi : (BitVec.ofNat 32 i.val) = BitVec.ofNat 32 j.val ↔ i.val = j.val := by
      constructor
      · intro h
        have := congrArg BitVec.toNat h
        simp only [BitVec.toNat_ofNat] at this
        omega
      · intro h; rw [h]
    by_cases h : i.val = j.val
    · simp [IntOp.cmpi, IntOp.addi, h]
    · have h' : ¬BitVec.ofNat 32 i.val = BitVec.ofNat 32 j.val := fun e => h (hi.mp e)
      have h'' : (BitVec.ofNat 32 i.val == BitVec.ofNat 32 j.val) = false := beq_eq_false_iff_ne.mpr h'
      simp [IntOp.cmpi, IntOp.addi, h, h'']
  rw [e]
  split
  · show (((1#1 : BitVec 1).toNat : ℝ) : EReal) = 1
    simp
  · show (((0#1 : BitVec 1).toNat : ℝ) : EReal) = 0
    simp

theorem eye256_at (i j : Fin 256) : eye256 (ix2 i j) = if i.val = j.val then 1 else 0 := by
  refine Eq.trans ?_ (diag 256 (by omega) i j)
  pointwise [eye256]

theorem eye32_at (i j : Fin 32) : eye32 (ix2 i j) = if i.val = j.val then 1 else 0 := by
  refine Eq.trans ?_ (diag 32 (by omega) i j)
  pointwise [eye32]

theorem eqHalf_at (j : Fin 256) (k : Fin 1024) :
    eqHalf (ix2 j k) = if 64 ≤ k.val % 128 ∧ k.val % 128 < 96 ∧ j.val = k.val / 128 * 32 + (k.val % 128 - 64) then 1 else 0 := by
  unfold eqHalf
  rw [shapeCast_apply _ _ _ (ix3 j (⟨k.val / 128, by omega⟩ : Fin 8) (⟨k.val % 128, by omega⟩ : Fin 128))
    (by rw [Shape.rowMajor_val_three, Shape.rowMajor_val_two]
        show (j.val * 8 + k.val / 128) * 128 + k.val % 128 = j.val * 1024 + k.val; omega)]
  by_cases h : 64 ≤ k.val % 128 ∧ k.val % 128 < 96
  · rw [pad_apply_of_inside _ _ _ _ _ _ _ _ (ix3 j (⟨k.val / 128, by omega⟩ : Fin 8) (⟨k.val % 128 - 64, by omega⟩ : Fin 32)) (fun a => by
      match a with
      | ⟨0, _⟩ => show j.val = 0 + j.val * (0 + 1); omega
      | ⟨1, _⟩ => show k.val / 128 = 0 + k.val / 128 * (0 + 1); omega
      | ⟨2, _⟩ => show k.val % 128 = 64 + (k.val % 128 - 64) * (0 + 1); omega),
      shapeCast_apply _ _ _ (ix2 j (⟨k.val / 128 * 32 + (k.val % 128 - 64), by omega⟩ : Fin 256))
      (by rw [Shape.rowMajor_val_three, Shape.rowMajor_val_two]
          show j.val * 256 + (k.val / 128 * 32 + (k.val % 128 - 64)) = (j.val * 8 + k.val / 128) * 32 + (k.val % 128 - 64); omega),
      eye256_at]
    exact if_congr ⟨fun e => ⟨h.1, h.2, e⟩, fun e => e.2.2⟩ rfl rfl
  · rw [pad_apply_of_not_inside _ _ _ _ _ _ _ _ 2 (by
      show ¬(64 ≤ k.val % 128 ∧ (k.val % 128 - 64) % (0 + 1) = 0 ∧ (k.val % 128 - 64) / (0 + 1) < 32); omega),
      if_neg fun e => h ⟨e.1, e.2.1⟩]
    exact zed_at _

/-- The queries' placement at an index: one exactly where a rotated column meets its place. -/
theorem eq_at (j : Fin 512) (k : Fin 1024) :
    eq (ix2 j k) = if 64 ≤ k.val % 128 ∧ k.val % 128 < 96 ∧ j.val % 256 = k.val / 128 * 32 + (k.val % 128 - 64) then 1 else 0 := by
  show eq32 (ix2 j k) = _
  unfold eq32
  by_cases h : j.val < 256
  · rw [concatenate_pair_apply_left (t := S512x1024) (s₁ := S256x1024) (s₂ := S256x1024) 0 _ _ _ _ rfl (ix2 (⟨j.val, h⟩ : Fin 256) k)
      (fun b => by
      match b with
      | ⟨0, _⟩ => rfl
      | ⟨1, _⟩ => rfl), eqHalf_at]
    show (if 64 ≤ k.val % 128 ∧ k.val % 128 < 96 ∧ j.val = _ then (1 : EReal) else 0) = _
    rw [show j.val % 256 = j.val by omega]
  · rw [concatenate_pair_apply_right (t := S512x1024) (s₁ := S256x1024) (s₂ := S256x1024) 0 _ _ _ _ rfl rfl
      (ix2 (⟨j.val - 256, by omega⟩ : Fin 256) k) (fun b hb => by
      match b with
      | ⟨0, _⟩ => exact absurd rfl hb
      | ⟨1, _⟩ => rfl) (by show j.val - 256 + 256 = j.val; omega), eqHalf_at]
    show (if 64 ≤ k.val % 128 ∧ k.val % 128 < 96 ∧ j.val - 256 = _ then (1 : EReal) else 0) = _
    rw [show j.val % 256 = j.val - 256 by omega]

theorem ekHalf_at (j : Fin 32) (k : Fin 1024) :
    ekHalf (ix2 j k) = if 64 ≤ k.val % 128 ∧ k.val % 128 < 96 ∧ j.val = k.val % 128 - 64 then 1 else 0 := by
  unfold ekHalf
  rw [shapeCast_apply _ _ _ (ix3 j (⟨k.val / 128, by omega⟩ : Fin 8) (⟨k.val % 128, by omega⟩ : Fin 128))
    (by rw [Shape.rowMajor_val_three, Shape.rowMajor_val_two]
        show (j.val * 8 + k.val / 128) * 128 + k.val % 128 = j.val * 1024 + k.val; omega)]
  by_cases h : 64 ≤ k.val % 128 ∧ k.val % 128 < 96
  · rw [pad_apply_of_inside _ _ _ _ _ _ _ _ (ix3 j (⟨k.val / 128, by omega⟩ : Fin 8) (⟨k.val % 128 - 64, by omega⟩ : Fin 32)) (fun a => by
      match a with
      | ⟨0, _⟩ => show j.val = 0 + j.val * (0 + 1); omega
      | ⟨1, _⟩ => show k.val / 128 = 0 + k.val / 128 * (0 + 1); omega
      | ⟨2, _⟩ => show k.val % 128 = 64 + (k.val % 128 - 64) * (0 + 1); omega)]
    have e : eye32 (ix2 j (⟨k.val % 128 - 64, by omega⟩ : Fin 32)) = if j.val = k.val % 128 - 64 then 1 else 0 := eye32_at _ _
    refine Eq.trans ?_ (e.trans (if_congr ⟨fun e => ⟨h.1, h.2, e⟩, fun e => e.2.2⟩ rfl rfl))
    pointwise
  · rw [pad_apply_of_not_inside _ _ _ _ _ _ _ _ 2 (by
      show ¬(64 ≤ k.val % 128 ∧ (k.val % 128 - 64) % (0 + 1) = 0 ∧ (k.val % 128 - 64) / (0 + 1) < 32); omega),
      if_neg fun e => h ⟨e.1, e.2.1⟩]
    exact zed_at _

/-- The keys' placement at an index. -/
theorem ek_at (j : Fin 128) (k : Fin 1024) :
    ek (ix2 j k) = if 64 ≤ k.val % 128 ∧ k.val % 128 < 96 ∧ j.val < 64 ∧ j.val % 32 = k.val % 128 - 64 then 1 else 0 := by
  show ek32 (ix2 j k) = _
  unfold ek32
  by_cases h : j.val < 64
  · rw [pad_apply_of_inside _ _ _ _ _ _ _ _ (ix2 (⟨j.val, h⟩ : Fin 64) k) (fun a => by
      match a with
      | ⟨0, _⟩ => show j.val = 0 + j.val * (0 + 1); omega
      | ⟨1, _⟩ => show k.val = 0 + k.val * (0 + 1); omega)]
    by_cases h2 : j.val < 32
    · rw [concatenate_pair_apply_left (t := S64x1024) (s₁ := S32x1024) (s₂ := S32x1024) 0 _ _ _ _ rfl (ix2 (⟨j.val, h2⟩ : Fin 32) k)
        (fun b => by
        match b with
        | ⟨0, _⟩ => rfl
        | ⟨1, _⟩ => rfl), ekHalf_at]
      refine if_congr ?_ rfl rfl
      show (64 ≤ k.val % 128 ∧ k.val % 128 < 96 ∧ j.val = k.val % 128 - 64) ↔ _
      omega
    · rw [concatenate_pair_apply_right (t := S64x1024) (s₁ := S32x1024) (s₂ := S32x1024) 0 _ _ _ _ rfl rfl
        (ix2 (⟨j.val - 32, by omega⟩ : Fin 32) k) (fun b hb => by
        match b with
        | ⟨0, _⟩ => exact absurd rfl hb
        | ⟨1, _⟩ => rfl) (by show j.val - 32 + 32 = j.val; omega), ekHalf_at]
      refine if_congr ?_ rfl rfl
      show (64 ≤ k.val % 128 ∧ k.val % 128 < 96 ∧ j.val - 32 = k.val % 128 - 64) ↔ _
      omega
  · rw [pad_apply_of_not_inside _ _ _ _ _ _ _ _ 0 (by
      show ¬(0 ≤ j.val ∧ (j.val - 0) % (0 + 1) = 0 ∧ (j.val - 0) / (0 + 1) < 64); omega),
      if_neg fun e => h e.2.2.1]
    exact zed_at _

/-- The printed column: the word for one in row 64 of each head's 80, the word for zero elsewhere. -/
theorem lit1_at : ∀ k : Fin 640, lit1 (S640x1.rowMajor (ix2 k 0)) = if k.val % 80 = 64 then 0x3F800000#32 else 0#32 := by
  decide +kernel

theorem vone_at (k : Fin 640) : vone (ix2 k 0) = if k.val % 80 = 64 then 1 else 0 := by
  show Ideal.ofBits .f32 (lit1 (S640x1.rowMajor (ix2 k 0))) = _
  rw [lit1_at]
  split
  · simp [Ideal.ofBits, Ideal.ieee, -EReal.coe_mul]; norm_num
  · simp [Ideal.ofBits, Ideal.ieee, -EReal.coe_mul]

end Cert.ProjIdeal.Host

end

end
-- ==== Proof.ProjKernel.lean ====
module

public import proofs.«01_k».proof.Proof.ProjIdealFrame
public import Idealize.ShloMosaic.Lib.Pipeline.ValueKit
public import Idealize.ShloMosaic.Lib.Pointwise

@[expose] public section

set_option maxRecDepth 16384

/-! What the body of the input projections computes, stage by stage, at an index of each stage's array. -/

noncomputable section

namespace Cert.ProjIdeal.Result

open Idealize.ShloMosaic Idealize.ShloMosaic.TcCoe
open Cert.ProjIdeal Cert.ProjIdeal.Gen

/-- One entry over the root mean square of its row, times its gain: `s` is the row's sum of squares, `n` its length. -/
abbrev rms (n v s g : EReal) : EReal := v * Ideal.rsqrt (Ideal.div s n + Ideal.ofBits .f32 0x358637BD#32) * g

set_option maxHeartbeats 1600000 in
/-- The modulated norm at an index. -/
theorem pay2_at (v0 : Vec Ideal S256x1024 .f32) (v1 : Vec Ideal S1x2x1024 .f32) (v3 : Vec Ideal S1x1024 .f32)
    (a : Fin 256) (d : Fin 1024) :
    (k0_pay2 (F := Ideal) v0 v1 v3 (ix2 a d) : EReal)
      = rms (Ideal.ofBits .f32 0x44800000#32) (v0 (ix2 a d)) (∑ k : Fin 1024, v0 (ix2 a k) * v0 (ix2 a k)) (v3 (ix2 0 d))
          * (1 + v1 (ix3 0 1 d)) + v1 (ix3 0 0 d) := by
  pointwise [k0_pay2, rms]

/-- The first projection at an index. -/
theorem pay3_at (v0 : Vec Ideal S256x1024 .f32) (v1 : Vec Ideal S1x2x1024 .f32) (v3 : Vec Ideal S1x1024 .f32)
    (w : Vec Ideal S1024x768 .bf16) (a : Fin 256) (k : Fin 768) :
    (k0_pay3 (F := Ideal) v0 v1 v3 w (ix2 a k) : EReal)
      = ∑ d : Fin 1024, k0_pay2 (F := Ideal) v0 v1 v3 (ix2 a d) * w (ix2 d k) := by
  unfold k0_pay3
  generalize k0_pay2 (F := Ideal) v0 v1 v3 = h
  pointwise []

/-- The pooled branch's projection at an index. -/
theorem pay32_at (h : FVec Ideal S256x1024 .bf16) (w : Vec Ideal S1024x512 .bf16) (a : Fin 256) (k : Fin 512) :
    (k0_pay32 (F := Ideal) h w (ix2 a k) : EReal) = ∑ d : Fin 1024, h (ix2 a d) * w (ix2 d k) := by
  pointwise [k0_pay32]

/-- The spectral branch's projection at an index. -/
theorem pay33_at (h : FVec Ideal S256x1024 .bf16) (w : Vec Ideal S1024x512 .bf16) (a : Fin 256) (k : Fin 512) :
    (k0_pay33 (F := Ideal) h w (ix2 a k) : EReal) = ∑ d : Fin 1024, h (ix2 a d) * w (ix2 d k) := by
  pointwise [k0_pay33]

/-- The gates at an index. -/
theorem pay1_at (h : FVec Ideal S256x1024 .bf16) (w : Vec Ideal S1024x3072 .bf16) (b : Vec Ideal S1x3072 .f32)
    (a : Fin 256) (k : Fin 3072) :
    (k0_pay1 (F := Ideal) h w b (ix2 a k) : EReal)
      = Ideal.div 1 (1 + Ideal.exp (-((∑ d : Fin 1024, h (ix2 a d) * w (ix2 d k)) + b (ix2 0 k)))) := by
  pointwise [k0_pay1, Ideal.logistic]

/-- The row of shared keys and values, normalised, at an index. -/
theorem pay7_at (v0 : Vec Ideal S256x1024 .f32) (v1 : Vec Ideal S1x2x1024 .f32) (v3 : Vec Ideal S1x1024 .f32)
    (w : Vec Ideal S1024x768 .bf16) (g : Vec Ideal S1x256 .f32) (a j : Fin 256) :
    (k0_pay7 (F := Ideal) (k0_pay4 (F := Ideal) v0 v1 v3 w) (k0_pay5 (F := Ideal) g) (k0_pay6 (F := Ideal) v0 v1 v3 w) (ix2 a j) : EReal)
      = rms (Ideal.ofBits .f32 0x43800000#32) (k0_pay3 (F := Ideal) v0 v1 v3 w (ix2 a ⟨384 + j.val, by omega⟩))
          (∑ k : Fin 256, k0_pay3 (F := Ideal) v0 v1 v3 w (ix2 a ⟨384 + k.val, by omega⟩) * k0_pay3 (F := Ideal) v0 v1 v3 w (ix2 a ⟨384 + k.val, by omega⟩))
          (g (ix2 0 j)) := by
  unfold k0_pay7 k0_pay6 k0_pay5 k0_pay4
  generalize k0_pay3 (F := Ideal) v0 v1 v3 w = p
  pointwise [rms]

/-- The values, transposed, at an index. -/
theorem pay18_at (kv : FVec Ideal S256x256 .bf16) (w : Vec Ideal S640x256 .bf16) (o : Vec Ideal S640x1 .f32) (r : Fin 640) (a : Fin 256) :
    (k0_pay18 (F := Ideal) kv w o (ix3 0 r a) : EReal) = (∑ j : Fin 256, w (ix2 r j) * kv (ix2 a j)) + o (ix2 r 0) := by
  pointwise [k0_pay18]

/-- The keys of all heads at an index: the part without positions, and the placed part with them. -/
theorem pay8_at (p : FVec Ideal S256x768 .f32) (kv : FVec Ideal S256x256 .f32) (g : FVec Ideal S1x256 .f32) (s : FVec Ideal S256x1 .f32)
    (tb : Vec Ideal S256x128 .f32) (w : Vec Ideal S256x1024 .bf16) (e : Vec Ideal S128x1024 .bf16) (a : Fin 256) (k : Fin 1024) :
    (k0_pay8 (F := Ideal) p kv g s tb w e (ix2 a k) : EReal)
      = (∑ j : Fin 256, k0_pay7 (F := Ideal) kv g s (ix2 a j) * w (ix2 j k))
        + ∑ j : Fin 128, (p (ix2 a ⟨640 + j.val, by omega⟩) * tb (ix2 a j)) * e (ix2 j k) := by
  unfold k0_pay8
  generalize k0_pay7 (F := Ideal) kv g s = n
  pointwise []

/-- The queries' row, normalised. -/
def qn (p : FVec Ideal S256x768 .f32) (g : FVec Ideal S1x384 .f32) (a : Fin 256) (j : Fin 384) : EReal :=
  rms (Ideal.ofBits .f32 0x43C00000#32) (p (ix2 a ⟨j.val, by omega⟩))
    (∑ k : Fin 384, p (ix2 a ⟨k.val, by omega⟩) * p (ix2 a ⟨k.val, by omega⟩)) (g (ix2 0 j))

set_option maxHeartbeats 1600000 in
/-- The queries of all heads at an index: the part without positions, and the placed part with them. -/
theorem pay23_at (p : FVec Ideal S256x768 .f32) (g : Vec Ideal S1x384 .f32)
    (wr : Vec Ideal S384x512 .bf16) (tb : Vec Ideal S256x512 .f32) (wn : Vec Ideal S384x1024 .bf16) (e : Vec Ideal S512x1024 .bf16)
    (a : Fin 256) (k : Fin 1024) :
    (k0_pay23 (F := Ideal) (k0_pay19 (F := Ideal) p) (k0_pay20 (F := Ideal) g) (k0_pay21 (F := Ideal) p) (k0_pay22 (F := Ideal)) wr tb wn e (ix2 a k) : EReal)
      = (∑ j : Fin 384, qn p g a j * wn (ix2 j k))
        + ∑ j : Fin 512, ((∑ r : Fin 384, qn p g a r * wr (ix2 r j)) * tb (ix2 a j)) * e (ix2 j k) := by
  pointwise [k0_pay23, k0_pay22, k0_pay21, k0_pay20, k0_pay19, qn, rms]

end Cert.ProjIdeal.Result
-- ==== Proof.ProjRef.lean ====
module

public import proofs.«01_k».proof.Proof.Gen.ProjRefIdeal.Read
public import proofs.«01_k».proof.Proof.ProjHostAt
public import proofs.«01_k».proof.Proof.ProjKernel
public import Idealize.ShloMosaic.Lib.Pipeline.ValueKit
public import Idealize.ShloMosaic.Lib.Pointwise
public import Idealize.ShloMosaic.Lib.KernelVsHost
public import Idealize.ShloMosaic.Lib.ValueIdxRank6

@[expose] public section

set_option maxRecDepth 16384

/-! The reference of the input projections read at an index, stage by stage. -/

noncomputable section

namespace Cert.ProjRefIdeal.At

open Idealize.ShloMosaic Idealize.ShloMosaic.TcCoe
open Cert.ProjRefIdeal Cert.ProjRefIdeal.Gen Cert.ProjRefIdeal.Read
open Cert.ProjIdeal.Host (sw)
open Cert.ProjIdeal.Result (rms)

variable (x0 : FVec Ideal S16384x1024 .f32) (x1 : FVec Ideal S2x2x1024 .f32) (x2 : FVec Ideal S1024 .f32)
  (x3 x4 : FVec Ideal S8192x2x8 .f32) (x5 : FVec Ideal S1024x4768 .f32) (x6 : FVec Ideal S3072 .f32)
  (x7 : FVec Ideal S384 .f32) (x8 : FVec Ideal S384x8x96 .f32) (x9 : FVec Ideal S256 .f32) (x10 : FVec Ideal S256x8x128 .f32)

/-- An entry rotated with its partner by the token's angle: the first of the pair takes the difference, the second the sum. -/
def rot (cs sn : FVec Ideal S8192x2x8 .f32) (l : Fin 8192) (f : Fin 32 → EReal) (s : Fin 32) : EReal :=
  if s.val % 16 < 8 then f s * cs (ix3 l ⟨s.val / 16, by omega⟩ ⟨s.val % 8, by omega⟩) - f (sw s) * sn (ix3 l ⟨s.val / 16, by omega⟩ ⟨s.val % 8, by omega⟩)
  else f s * cs (ix3 l ⟨s.val / 16, by omega⟩ ⟨s.val % 8, by omega⟩) + f (sw s) * sn (ix3 l ⟨s.val / 16, by omega⟩ ⟨s.val % 8, by omega⟩)

set_option maxHeartbeats 1600000 in
/-- The modulated norm at a token of a sample. -/
theorem h_at (b : Fin 2) (l : Fin 8192) (d : Fin 1024) :
    (val_main_v21 (F := Ideal) x0 x1 x2 (ix3 b l d) : EReal)
      = rms (Ideal.ofBits .f32 0x44800000#32) (x0 (ix2 ⟨b.val * 8192 + l.val, by omega⟩ d))
          (∑ k : Fin 1024, x0 (ix2 ⟨b.val * 8192 + l.val, by omega⟩ k) * x0 (ix2 ⟨b.val * 8192 + l.val, by omega⟩ k)) (x2 (ix1 d))
          * (1 + x1 (ix3 b 1 d)) + x1 (ix3 b 0 d) := by
  pointwise [rms, val_main_v21, val_main_v20, val_main_v19, val_main_v18, val_main_v17, val_main_v16, val_main_v15, val_main_v14,
    val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, val_main_cst_2]

/-- The first projection at an index. -/
theorem p_at (b : Fin 2) (l : Fin 8192) (k : Fin 4768) :
    (val_main_v22 (F := Ideal) x0 x1 x2 x5 (ix3 b l k) : EReal)
      = ∑ d : Fin 1024, val_main_v21 (F := Ideal) x0 x1 x2 (ix3 b l d) * x5 (ix2 d k) := by
  unfold val_main_v22
  generalize val_main_v21 (F := Ideal) x0 x1 x2 = y
  pointwise []

set_option maxHeartbeats 1600000 in
/-- The queries' row, normalised, at an index. -/
theorem qn_at (b : Fin 2) (l : Fin 8192) (j : Fin 384) :
    (val_main_v36 (F := Ideal) x0 x1 x2 x5 x7 (ix3 b l j) : EReal)
      = rms (Ideal.ofBits .f32 0x43C00000#32) (val_main_v22 (F := Ideal) x0 x1 x2 x5 (ix3 b l ⟨j.val, by omega⟩))
          (∑ k : Fin 384, val_main_v22 (F := Ideal) x0 x1 x2 x5 (ix3 b l ⟨k.val, by omega⟩) * val_main_v22 (F := Ideal) x0 x1 x2 x5 (ix3 b l ⟨k.val, by omega⟩))
          (x7 (ix1 j)) := by
  unfold val_main_v36 val_main_v35 val_main_v34 val_main_v33 val_main_v32 val_main_v31 val_main_v30 val_main_v29 val_main_v28
    val_main_v27 val_main_v26 val_main_v25 val_main_v24 val_main_v23 val_main_cst_3 val_main_cst_4 val_main_cst_5
  generalize val_main_v22 (F := Ideal) x0 x1 x2 x5 = p
  pointwise [rms]

set_option maxHeartbeats 1600000 in
/-- The keys' and values' row, normalised, at an index. -/
theorem kvn_at (b : Fin 2) (l : Fin 8192) (j : Fin 256) :
    (val_main_v51 (F := Ideal) x0 x1 x2 x5 x9 (ix3 b l j) : EReal)
      = rms (Ideal.ofBits .f32 0x43800000#32) (val_main_v22 (F := Ideal) x0 x1 x2 x5 (ix3 b l ⟨384 + j.val, by omega⟩))
          (∑ k : Fin 256, val_main_v22 (F := Ideal) x0 x1 x2 x5 (ix3 b l ⟨384 + k.val, by omega⟩) * val_main_v22 (F := Ideal) x0 x1 x2 x5 (ix3 b l ⟨384 + k.val, by omega⟩))
          (x9 (ix1 j)) := by
  unfold val_main_v51 val_main_v50 val_main_v49 val_main_v48 val_main_v47 val_main_v46 val_main_v45 val_main_v44 val_main_v43
    val_main_v42 val_main_v41 val_main_v40 val_main_v39 val_main_v38 val_main_cst_6 val_main_cst_7 val_main_cst_8
  generalize val_main_v22 (F := Ideal) x0 x1 x2 x5 = p
  pointwise [rms]

/-- The queries of a head, before positions, at an index. -/
theorem uq_at (b : Fin 2) (l : Fin 8192) (h : Fin 8) (e : Fin 96) :
    (val_main_v37 (F := Ideal) x0 x1 x2 x5 x7 x8 (ix4 b l h e) : EReal)
      = ∑ r : Fin 384, val_main_v36 (F := Ideal) x0 x1 x2 x5 x7 (ix3 b l r) * x8 (ix3 r h e) := by
  unfold val_main_v37
  generalize val_main_v36 (F := Ideal) x0 x1 x2 x5 x7 = y
  pointwise []

/-- The keys and values of a head, before positions, at an index. -/
theorem ukv_at (b : Fin 2) (l : Fin 8192) (h : Fin 8) (e : Fin 128) :
    (val_main_v52 (F := Ideal) x0 x1 x2 x5 x9 x10 (ix4 b l h e) : EReal)
      = ∑ r : Fin 256, val_main_v51 (F := Ideal) x0 x1 x2 x5 x9 (ix3 b l r) * x10 (ix3 r h e) := by
  unfold val_main_v52
  generalize val_main_v51 (F := Ideal) x0 x1 x2 x5 x9 = y
  pointwise []

/-- The pooled branch's input at an index. -/
theorem pool_at (b : Fin 2) (l : Fin 8192) (k : Fin 512) :
    (val_main_v124 (F := Ideal) x0 x1 x2 x5 (ix2 ⟨b.val * 8192 + l.val, by omega⟩ k) : EReal)
      = val_main_v22 (F := Ideal) x0 x1 x2 x5 (ix3 b l ⟨672 + k.val, by omega⟩) := by
  unfold val_main_v124 val_main_v123
  generalize val_main_v22 (F := Ideal) x0 x1 x2 x5 = p
  pointwise []

/-- The spectral branch's input at an index. -/
theorem fft_at (b : Fin 2) (l : Fin 8192) (k : Fin 512) :
    (val_main_v127 (F := Ideal) x0 x1 x2 x5 (ix2 ⟨b.val * 8192 + l.val, by omega⟩ k) : EReal)
      = val_main_v22 (F := Ideal) x0 x1 x2 x5 (ix3 b l ⟨1184 + k.val, by omega⟩) := by
  unfold val_main_v127 val_main_v126 val_main_v125
  generalize val_main_v22 (F := Ideal) x0 x1 x2 x5 = p
  pointwise []

/-- The gates at an index. -/
theorem gate_at (b : Fin 2) (l : Fin 8192) (k : Fin 3072) :
    (val_main_v139 (F := Ideal) x0 x1 x2 x5 x6 (ix2 ⟨b.val * 8192 + l.val, by omega⟩ k) : EReal)
      = Ideal.div 1 (1 + Ideal.exp (-(val_main_v22 (F := Ideal) x0 x1 x2 x5 (ix3 b l ⟨1696 + k.val, by omega⟩) + x6 (ix1 k)))) := by
  unfold val_main_v139 val_main_v138 val_main_v137 val_main_v136 val_main_v135 val_main_v134 val_main_v133 val_main_v132 val_main_v131
    val_main_v130 val_main_v129 val_main_v128 val_main_cst_12 val_main_cst_13
  generalize val_main_v22 (F := Ideal) x0 x1 x2 x5 = p
  pointwise []

end Cert.ProjRefIdeal.At
-- ==== Proof.ProjRefHeads.lean ====
module

public import proofs.«01_k».proof.Proof.ProjRef

@[expose] public section

set_option maxRecDepth 16384

/-! The reference's queries, keys and values by head, read at an index. -/

noncomputable section

namespace Cert.ProjRefIdeal.At

open Idealize.ShloMosaic Idealize.ShloMosaic.TcCoe
open Cert.ProjRefIdeal Cert.ProjRefIdeal.Gen Cert.ProjRefIdeal.Read
open Cert.ProjIdeal.Host (sw)

variable (x0 : FVec Ideal S16384x1024 .f32) (x1 : FVec Ideal S2x2x1024 .f32) (x2 : FVec Ideal S1024 .f32)
  (x3 x4 : FVec Ideal S8192x2x8 .f32) (x5 : FVec Ideal S1024x4768 .f32)
  (x7 : FVec Ideal S384 .f32) (x8 : FVec Ideal S384x8x96 .f32) (x9 : FVec Ideal S256 .f32) (x10 : FVec Ideal S256x8x128 .f32)

/-- A rotated entry among the first eight of its half. -/
theorem rot_fst (cs sn : FVec Ideal S8192x2x8 .f32) (l : Fin 8192) (f : Fin 32 → EReal) (u : Fin 2) (e : Fin 8) :
    rot cs sn l f ⟨u.val * 16 + e.val, by omega⟩
      = f ⟨u.val * 16 + e.val, by omega⟩ * cs (ix3 l u e) - f ⟨u.val * 16 + 8 + e.val, by omega⟩ * sn (ix3 l u e) := by
  have h1 : (⟨(u.val * 16 + e.val) / 16, by omega⟩ : Fin 2) = u := by ext; show _ / 16 = _; omega
  have h2 : (⟨(u.val * 16 + e.val) % 8, by omega⟩ : Fin 8) = e := by ext; show _ % 8 = _; omega
  have h3 : sw ⟨u.val * 16 + e.val, by omega⟩ = ⟨u.val * 16 + 8 + e.val, by omega⟩ := by
    ext; show (if _ then _ else _) = _; rw [if_pos (by show (u.val * 16 + e.val) % 16 < 8; omega)]; show u.val * 16 + e.val + 8 = u.val * 16 + 8 + e.val; omega
  unfold rot
  rw [if_pos (by show (u.val * 16 + e.val) % 16 < 8; omega), h3]
  simp only [h1, h2]

/-- A rotated entry among the last eight of its half. -/
theorem rot_snd (cs sn : FVec Ideal S8192x2x8 .f32) (l : Fin 8192) (f : Fin 32 → EReal) (u : Fin 2) (e : Fin 8) :
    rot cs sn l f ⟨u.val * 16 + 8 + e.val, by omega⟩
      = f ⟨u.val * 16 + 8 + e.val, by omega⟩ * cs (ix3 l u e) + f ⟨u.val * 16 + e.val, by omega⟩ * sn (ix3 l u e) := by
  have h1 : (⟨(u.val * 16 + 8 + e.val) / 16, by omega⟩ : Fin 2) = u := by ext; show _ / 16 = _; omega
  have h2 : (⟨(u.val * 16 + 8 + e.val) % 8, by omega⟩ : Fin 8) = e := by ext; show _ % 8 = _; omega
  have h3 : sw ⟨u.val * 16 + 8 + e.val, by omega⟩ = ⟨u.val * 16 + e.val, by omega⟩ := by
    ext; show (if _ then _ else _) = _; rw [if_neg (by show ¬(u.val * 16 + 8 + e.val) % 16 < 8; omega)]; show u.val * 16 + 8 + e.val - 8 = u.val * 16 + e.val; omega
  unfold rot
  rw [if_neg (by show ¬(u.val * 16 + 8 + e.val) % 16 < 8; omega), h3]
  simp only [h1, h2]

/-- Every entry of a row of 32 is in one of the two halves of one of its halves. -/
theorem split32 (s : Fin 32) : ∃ (u : Fin 2) (e : Fin 8), s = ⟨u.val * 16 + e.val, by omega⟩ ∨ s = ⟨u.val * 16 + 8 + e.val, by omega⟩ := by
  refine ⟨⟨s.val / 16, by omega⟩, ⟨s.val % 8, by omega⟩, ?_⟩
  by_cases h : s.val % 16 < 8
  · left; ext; show s.val = s.val / 16 * 16 + s.val % 8; omega
  · right; ext; show s.val = s.val / 16 * 16 + 8 + s.val % 8; omega

/-- The difference of each pair of the key's part with positions. -/
theorem v65_at (b : Fin 2) (l : Fin 8192) (u : Fin 2) (e : Fin 8) :
    (val_main_v65 (F := Ideal) x0 x1 x2 x3 x4 x5 (ix4 b l u e) : EReal)
      = val_main_v22 (F := Ideal) x0 x1 x2 x5 (ix3 b l ⟨640 + (u.val * 16 + e.val), by omega⟩) * x3 (ix3 l u e)
        - val_main_v22 (F := Ideal) x0 x1 x2 x5 (ix3 b l ⟨640 + (u.val * 16 + 8 + e.val), by omega⟩) * x4 (ix3 l u e) := by
  unfold val_main_v65 val_main_v64 val_main_v63 val_main_v62 val_main_v61 val_main_v60 val_main_v59 val_main_v58 val_main_v57 val_main_v56 val_main_v55 val_main_v54 val_main_v53
  generalize val_main_v22 (F := Ideal) x0 x1 x2 x5 = p
  pointwise []

/-- The sum of each pair of the key's part with positions. -/
theorem v72_at (b : Fin 2) (l : Fin 8192) (u : Fin 2) (e : Fin 8) :
    (val_main_v72 (F := Ideal) x0 x1 x2 x3 x4 x5 (ix4 b l u e) : EReal)
      = val_main_v22 (F := Ideal) x0 x1 x2 x5 (ix3 b l ⟨640 + (u.val * 16 + 8 + e.val), by omega⟩) * x3 (ix3 l u e)
        + val_main_v22 (F := Ideal) x0 x1 x2 x5 (ix3 b l ⟨640 + (u.val * 16 + e.val), by omega⟩) * x4 (ix3 l u e) := by
  unfold val_main_v72 val_main_v71 val_main_v70 val_main_v69 val_main_v68 val_main_v67 val_main_v66 val_main_v58 val_main_v57 val_main_v56 val_main_v55 val_main_v54 val_main_v53
  generalize val_main_v22 (F := Ideal) x0 x1 x2 x5 = p
  pointwise []

/-- The difference of each pair of a query's part with positions. -/
theorem v95_at (b : Fin 2) (l : Fin 8192) (h : Fin 8) (u : Fin 2) (e : Fin 8) :
    (val_main_v95 (F := Ideal) x0 x1 x2 x3 x4 x5 x7 x8 (ix5 b l h u e) : EReal)
      = val_main_v37 (F := Ideal) x0 x1 x2 x5 x7 x8 (ix4 b l h ⟨64 + (u.val * 16 + e.val), by omega⟩) * x3 (ix3 l u e)
        - val_main_v37 (F := Ideal) x0 x1 x2 x5 x7 x8 (ix4 b l h ⟨64 + (u.val * 16 + 8 + e.val), by omega⟩) * x4 (ix3 l u e) := by
  unfold val_main_v95 val_main_v94 val_main_v93 val_main_v92 val_main_v91 val_main_v90 val_main_v89 val_main_v88 val_main_v87 val_main_v86 val_main_v85 val_main_v84 val_main_v83 val_main_v82 val_main_v81
  generalize val_main_v37 (F := Ideal) x0 x1 x2 x5 x7 x8 = p
  pointwise []

/-- The sum of each pair of a query's part with positions. -/
theorem v102_at (b : Fin 2) (l : Fin 8192) (h : Fin 8) (u : Fin 2) (e : Fin 8) :
    (val_main_v102 (F := Ideal) x0 x1 x2 x3 x4 x5 x7 x8 (ix5 b l h u e) : EReal)
      = val_main_v37 (F := Ideal) x0 x1 x2 x5 x7 x8 (ix4 b l h ⟨64 + (u.val * 16 + 8 + e.val), by omega⟩) * x3 (ix3 l u e)
        + val_main_v37 (F := Ideal) x0 x1 x2 x5 x7 x8 (ix4 b l h ⟨64 + (u.val * 16 + e.val), by omega⟩) * x4 (ix3 l u e) := by
  unfold val_main_v102 val_main_v101 val_main_v100 val_main_v99 val_main_v98 val_main_v97 val_main_v96 val_main_v88 val_main_v87 val_main_v86 val_main_v85 val_main_v84 val_main_v83 val_main_v82 val_main_v81
  generalize val_main_v37 (F := Ideal) x0 x1 x2 x5 x7 x8 = p
  pointwise []

/-- The key's rotated part, the same for every head. -/
theorem kr_at (b : Fin 2) (l : Fin 8192) (s : Fin 32) :
    (val_main_v76 (F := Ideal) x0 x1 x2 x3 x4 x5 (ix3 b l s) : EReal)
      = rot x3 x4 l (fun s => val_main_v22 (F := Ideal) x0 x1 x2 x5 (ix3 b l ⟨640 + s.val, by omega⟩)) s := by
  obtain ⟨u, e, rfl | rfl⟩ := split32 s
  · rw [rot_fst]
    refine Eq.trans ?_ (v65_at x0 x1 x2 x3 x4 x5 b l u e)
    unfold val_main_v76 val_main_v75 val_main_v74 val_main_v73
    generalize val_main_v65 (F := Ideal) x0 x1 x2 x3 x4 x5 = y
    generalize val_main_v72 (F := Ideal) x0 x1 x2 x3 x4 x5 = z
    rw [shapeCast_apply _ _ _ (ix5 b l u (0 : Fin 2) e)
      (by rw [Shape.rowMajor_val_five, Shape.rowMajor_val_three]
          show (((b.val * 8192 + l.val) * 2 + u.val) * 2 + 0) * 8 + e.val = (b.val * 8192 + l.val) * 32 + (u.val * 16 + e.val); omega)]
    pointwise []
  · rw [rot_snd]
    refine Eq.trans ?_ (v72_at x0 x1 x2 x3 x4 x5 b l u e)
    unfold val_main_v76 val_main_v75 val_main_v74 val_main_v73
    generalize val_main_v65 (F := Ideal) x0 x1 x2 x3 x4 x5 = y
    generalize val_main_v72 (F := Ideal) x0 x1 x2 x3 x4 x5 = z
    rw [shapeCast_apply _ _ _ (ix5 b l u (1 : Fin 2) e)
      (by rw [Shape.rowMajor_val_five, Shape.rowMajor_val_three]
          show (((b.val * 8192 + l.val) * 2 + u.val) * 2 + 1) * 8 + e.val = (b.val * 8192 + l.val) * 32 + (u.val * 16 + 8 + e.val); omega)]
    pointwise []

/-- A query's rotated part. -/
theorem qr_at (b : Fin 2) (l : Fin 8192) (h : Fin 8) (s : Fin 32) :
    (val_main_v106 (F := Ideal) x0 x1 x2 x3 x4 x5 x7 x8 (ix4 b l h s) : EReal)
      = rot x3 x4 l (fun s => val_main_v37 (F := Ideal) x0 x1 x2 x5 x7 x8 (ix4 b l h ⟨64 + s.val, by omega⟩)) s := by
  obtain ⟨u, e, rfl | rfl⟩ := split32 s
  · rw [rot_fst]
    refine Eq.trans ?_ (v95_at x0 x1 x2 x3 x4 x5 x7 x8 b l h u e)
    unfold val_main_v106 val_main_v105 val_main_v104 val_main_v103
    generalize val_main_v95 (F := Ideal) x0 x1 x2 x3 x4 x5 x7 x8 = y
    generalize val_main_v102 (F := Ideal) x0 x1 x2 x3 x4 x5 x7 x8 = z
    rw [shapeCast_apply _ _ _ (ValueIdx.ix6 b l h u (0 : Fin 2) e)
      (by rw [Shape.rowMajor_val_six, Shape.rowMajor_val_four]
          show ((((b.val * 8192 + l.val) * 8 + h.val) * 2 + u.val) * 2 + 0) * 8 + e.val = ((b.val * 8192 + l.val) * 8 + h.val) * 32 + (u.val * 16 + e.val); omega)]
    pointwise []
  · rw [rot_snd]
    refine Eq.trans ?_ (v102_at x0 x1 x2 x3 x4 x5 x7 x8 b l h u e)
    unfold val_main_v106 val_main_v105 val_main_v104 val_main_v103
    generalize val_main_v95 (F := Ideal) x0 x1 x2 x3 x4 x5 x7 x8 = y
    generalize val_main_v102 (F := Ideal) x0 x1 x2 x3 x4 x5 x7 x8 = z
    rw [shapeCast_apply _ _ _ (ValueIdx.ix6 b l h u (1 : Fin 2) e)
      (by rw [Shape.rowMajor_val_six, Shape.rowMajor_val_four]
          show ((((b.val * 8192 + l.val) * 8 + h.val) * 2 + u.val) * 2 + 1) * 8 + e.val = ((b.val * 8192 + l.val) * 8 + h.val) * 32 + (u.val * 16 + 8 + e.val); omega)]
    pointwise []

end Cert.ProjRefIdeal.At
-- ==== Proof.ProjRefQ.lean ====
module

public import proofs.«01_k».proof.Proof.ProjRefHeads

@[expose] public section

set_option maxRecDepth 16384

/-! The reference's queries, keys and values by head, read at an index. -/

noncomputable section

namespace Cert.ProjRefIdeal.At

open Idealize.ShloMosaic Idealize.ShloMosaic.TcCoe
open Cert.ProjRefIdeal Cert.ProjRefIdeal.Gen Cert.ProjRefIdeal.Read
open Cert.ProjIdeal.Host (sw)

variable (x0 : FVec Ideal S16384x1024 .f32) (x1 : FVec Ideal S2x2x1024 .f32) (x2 : FVec Ideal S1024 .f32)
  (x3 x4 : FVec Ideal S8192x2x8 .f32) (x5 : FVec Ideal S1024x4768 .f32)
  (x7 : FVec Ideal S384 .f32) (x8 : FVec Ideal S384x8x96 .f32) (x9 : FVec Ideal S256 .f32) (x10 : FVec Ideal S256x8x128 .f32)

/-- Rounding changes nothing over the extended reals. -/
theorem trunc_at {s : Shape} (y : FVec Ideal s .f32) (h : FTy.bits .bf16 < FTy.bits .f32) (i : s.Idx) :
    (truncf .bf16 y h i : EReal) = y i := rfl

/-- The queries by head and token are those by sample, token and head. -/
theorem q_e0 (b : Fin 2) (l : Fin 8192) (h : Fin 8) (k : Fin 128) :
    (val_main_v116 (F := Ideal) x0 x1 x2 x3 x4 x5 x7 x8 (ix3 h ⟨b.val * 8192 + l.val, by omega⟩ k) : EReal)
      = val_main_v107 (F := Ideal) x0 x1 x2 x3 x4 x5 x7 x8 (ix4 b l h k) := by
  have e : val_main_v115 (F := Ideal) x0 x1 x2 x3 x4 x5 x7 x8 (ix3 h ⟨b.val * 8192 + l.val, by omega⟩ k)
      = val_main_v114 (F := Ideal) x0 x1 x2 x3 x4 x5 x7 x8 (ix4 h b l k) := by
    unfold val_main_v115
    generalize val_main_v114 (F := Ideal) x0 x1 x2 x3 x4 x5 x7 x8 = y
    exact shapeCast_apply _ _ _ _ (by rw [Shape.rowMajor_val_four, Shape.rowMajor_val_three]
                                      show ((h.val * 2 + b.val) * 8192 + l.val) * 128 + k.val = (h.val * 16384 + (b.val * 8192 + l.val)) * 128 + k.val; omega)
  have e2 : (val_main_v116 (F := Ideal) x0 x1 x2 x3 x4 x5 x7 x8 (ix3 h ⟨b.val * 8192 + l.val, by omega⟩ k) : EReal)
      = val_main_v115 (F := Ideal) x0 x1 x2 x3 x4 x5 x7 x8 (ix3 h ⟨b.val * 8192 + l.val, by omega⟩ k) :=
    trunc_at _ _ _
  rw [e2, e]
  unfold val_main_v114
  generalize val_main_v107 (F := Ideal) x0 x1 x2 x3 x4 x5 x7 x8 = y
  pointwise []

/-- The reference's queries: 64 columns without positions, 32 with, zeros. -/
theorem q_at (b : Fin 2) (l : Fin 8192) (h : Fin 8) (k : Fin 128) :
    (val_main_v116 (F := Ideal) x0 x1 x2 x3 x4 x5 x7 x8 (ix3 h ⟨b.val * 8192 + l.val, by omega⟩ k) : EReal)
      = if h1 : k.val < 64 then val_main_v37 (F := Ideal) x0 x1 x2 x5 x7 x8 (ix4 b l h ⟨k.val, by omega⟩)
        else if h2 : k.val < 96 then
          rot x3 x4 l (fun s => val_main_v37 (F := Ideal) x0 x1 x2 x5 x7 x8 (ix4 b l h ⟨64 + s.val, by omega⟩)) ⟨k.val - 64, by omega⟩
        else 0 := by
  rw [q_e0]
  split
  · rename_i h1
    unfold val_main_v107
    rw [concatenate_apply_piece (t := S2x8192x8x128) 3 _ _ _ 0 (by show 0 < 3; decide) S2x8192x8x64 (val_main_v80 (F := Ideal) x0 x1 x2 x5 x7 x8) rfl rfl 0 rfl
      (ix4 b l h (⟨k.val, h1⟩ : Fin 64)) (fun b hb => by
      match b with
      | ⟨0, _⟩ => rfl
      | ⟨1, _⟩ => rfl
      | ⟨2, _⟩ => rfl
      | ⟨3, _⟩ => exact absurd rfl hb) (Nat.zero_add _)]
    unfold val_main_v80
    generalize val_main_v37 (F := Ideal) x0 x1 x2 x5 x7 x8 = y
    pointwise []
  · split
    · rename_i h1 h2
      rw [← qr_at]
      unfold val_main_v107
      rw [concatenate_apply_piece (t := S2x8192x8x128) 3 _ _ _ 1 (by show 1 < 3; decide) S2x8192x8x32 (val_main_v106 (F := Ideal) x0 x1 x2 x3 x4 x5 x7 x8) rfl rfl 64 rfl
        (ix4 b l h (⟨k.val - 64, by omega⟩ : Fin 32)) (fun b hb => by
        match b with
        | ⟨0, _⟩ => rfl
        | ⟨1, _⟩ => rfl
        | ⟨2, _⟩ => rfl
        | ⟨3, _⟩ => exact absurd rfl hb) (by show 64 + (k.val - 64) = k.val; omega)]
    · rename_i h1 h2
      unfold val_main_v107
      rw [concatenate_apply_piece (t := S2x8192x8x128) 3 _ _ _ 2 (by show 2 < 3; decide) S2x8192x8x32 (val_main_v79 (F := Ideal)) rfl rfl 96 rfl
        (ix4 b l h (⟨k.val - 96, by omega⟩ : Fin 32)) (fun b hb => by
        match b with
        | ⟨0, _⟩ => rfl
        | ⟨1, _⟩ => rfl
        | ⟨2, _⟩ => rfl
        | ⟨3, _⟩ => exact absurd rfl hb) (by show 96 + (k.val - 96) = k.val; omega)]
      pointwise [val_main_v79, val_main_cst_9]

/-- The keys by head and token are those by sample, token and head. -/
theorem k_e0 (b : Fin 2) (l : Fin 8192) (h : Fin 8) (k : Fin 128) :
    (val_main_v119 (F := Ideal) x0 x1 x2 x3 x4 x5 x9 x10 (ix3 h ⟨b.val * 8192 + l.val, by omega⟩ k) : EReal)
      = val_main_v109 (F := Ideal) x0 x1 x2 x3 x4 x5 x9 x10 (ix4 b l h k) := by
  have e : val_main_v118 (F := Ideal) x0 x1 x2 x3 x4 x5 x9 x10 (ix3 h ⟨b.val * 8192 + l.val, by omega⟩ k)
      = val_main_v117 (F := Ideal) x0 x1 x2 x3 x4 x5 x9 x10 (ix4 h b l k) := by
    unfold val_main_v118
    generalize val_main_v117 (F := Ideal) x0 x1 x2 x3 x4 x5 x9 x10 = y
    exact shapeCast_apply _ _ _ _ (by rw [Shape.rowMajor_val_four, Shape.rowMajor_val_three]
                                      show ((h.val * 2 + b.val) * 8192 + l.val) * 128 + k.val = (h.val * 16384 + (b.val * 8192 + l.val)) * 128 + k.val; omega)
  have e2 : (val_main_v119 (F := Ideal) x0 x1 x2 x3 x4 x5 x9 x10 (ix3 h ⟨b.val * 8192 + l.val, by omega⟩ k) : EReal)
      = val_main_v118 (F := Ideal) x0 x1 x2 x3 x4 x5 x9 x10 (ix3 h ⟨b.val * 8192 + l.val, by omega⟩ k) :=
    trunc_at _ _ _
  rw [e2, e]
  unfold val_main_v117
  generalize val_main_v109 (F := Ideal) x0 x1 x2 x3 x4 x5 x9 x10 = y
  pointwise []

/-- The reference's keys: 64 columns without positions, 32 with, zeros. -/
theorem k_at (b : Fin 2) (l : Fin 8192) (h : Fin 8) (k : Fin 128) :
    (val_main_v119 (F := Ideal) x0 x1 x2 x3 x4 x5 x9 x10 (ix3 h ⟨b.val * 8192 + l.val, by omega⟩ k) : EReal)
      = if h1 : k.val < 64 then val_main_v52 (F := Ideal) x0 x1 x2 x5 x9 x10 (ix4 b l h ⟨k.val, by omega⟩)
        else if h2 : k.val < 96 then
          rot x3 x4 l (fun s => val_main_v22 (F := Ideal) x0 x1 x2 x5 (ix3 b l ⟨640 + s.val, by omega⟩)) ⟨k.val - 64, by omega⟩
        else 0 := by
  rw [k_e0]
  split
  · rename_i h1
    unfold val_main_v109
    rw [concatenate_apply_piece (t := S2x8192x8x128) 3 _ _ _ 0 (by show 0 < 3; decide) S2x8192x8x64 (val_main_v108 (F := Ideal) x0 x1 x2 x5 x9 x10) rfl rfl 0 rfl
      (ix4 b l h (⟨k.val, h1⟩ : Fin 64)) (fun b hb => by
      match b with
      | ⟨0, _⟩ => rfl
      | ⟨1, _⟩ => rfl
      | ⟨2, _⟩ => rfl
      | ⟨3, _⟩ => exact absurd rfl hb) (Nat.zero_add _)]
    unfold val_main_v108
    generalize val_main_v52 (F := Ideal) x0 x1 x2 x5 x9 x10 = y
    pointwise []
  · split
    · rename_i h1 h2
      rw [← kr_at]
      unfold val_main_v109
      rw [concatenate_apply_piece (t := S2x8192x8x128) 3 _ _ _ 1 (by show 1 < 3; decide) S2x8192x8x32 (val_main_v78 (F := Ideal) x0 x1 x2 x3 x4 x5) rfl rfl 64 rfl
        (ix4 b l h (⟨k.val - 64, by omega⟩ : Fin 32)) (fun b hb => by
        match b with
        | ⟨0, _⟩ => rfl
        | ⟨1, _⟩ => rfl
        | ⟨2, _⟩ => rfl
        | ⟨3, _⟩ => exact absurd rfl hb) (by show 64 + (k.val - 64) = k.val; omega)]
      unfold val_main_v78 val_main_v77
      generalize val_main_v76 (F := Ideal) x0 x1 x2 x3 x4 x5 = y
      pointwise []
    · rename_i h1 h2
      unfold val_main_v109
      rw [concatenate_apply_piece (t := S2x8192x8x128) 3 _ _ _ 2 (by show 2 < 3; decide) S2x8192x8x32 (val_main_v79 (F := Ideal)) rfl rfl 96 rfl
        (ix4 b l h (⟨k.val - 96, by omega⟩ : Fin 32)) (fun b hb => by
        match b with
        | ⟨0, _⟩ => rfl
        | ⟨1, _⟩ => rfl
        | ⟨2, _⟩ => rfl
        | ⟨3, _⟩ => exact absurd rfl hb) (by show 96 + (k.val - 96) = k.val; omega)]
      pointwise [val_main_v79, val_main_cst_9]

/-- The values by sample, head, row and token are those by sample, token, head and row. -/
theorem vt_e0 (b : Fin 2) (l : Fin 8192) (h : Fin 8) (r : Fin 80) :
    (val_main_v122 (F := Ideal) x0 x1 x2 x5 x9 x10 (ix3 b ⟨h.val * 80 + r.val, by omega⟩ l) : EReal)
      = val_main_v113 (F := Ideal) x0 x1 x2 x5 x9 x10 (ix4 b l h r) := by
  have e : val_main_v121 (F := Ideal) x0 x1 x2 x5 x9 x10 (ix3 b ⟨h.val * 80 + r.val, by omega⟩ l)
      = val_main_v120 (F := Ideal) x0 x1 x2 x5 x9 x10 (ix4 b h r l) := by
    unfold val_main_v121
    generalize val_main_v120 (F := Ideal) x0 x1 x2 x5 x9 x10 = y
    exact shapeCast_apply _ _ _ _ (by rw [Shape.rowMajor_val_four, Shape.rowMajor_val_three]
                                      show ((b.val * 8 + h.val) * 80 + r.val) * 8192 + l.val = (b.val * 640 + (h.val * 80 + r.val)) * 8192 + l.val; omega)
  have e2 : (val_main_v122 (F := Ideal) x0 x1 x2 x5 x9 x10 (ix3 b ⟨h.val * 80 + r.val, by omega⟩ l) : EReal)
      = val_main_v121 (F := Ideal) x0 x1 x2 x5 x9 x10 (ix3 b ⟨h.val * 80 + r.val, by omega⟩ l) :=
    trunc_at _ _ _
  rw [e2, e]
  unfold val_main_v120
  generalize val_main_v113 (F := Ideal) x0 x1 x2 x5 x9 x10 = y
  pointwise []

/-- The reference's values, transposed: of each head's 80 rows 64 of values, a row of ones, zeros. -/
theorem vt_at (b : Fin 2) (l : Fin 8192) (h : Fin 8) (r : Fin 80) :
    (val_main_v122 (F := Ideal) x0 x1 x2 x5 x9 x10 (ix3 b ⟨h.val * 80 + r.val, by omega⟩ l) : EReal)
      = if h1 : r.val < 64 then val_main_v52 (F := Ideal) x0 x1 x2 x5 x9 x10 (ix4 b l h ⟨64 + r.val, by omega⟩)
        else if r.val = 64 then 1 else 0 := by
  rw [vt_e0]
  split
  · rename_i h1
    unfold val_main_v113
    rw [concatenate_apply_piece (t := S2x8192x8x80) 3 _ _ _ 0 (by show 0 < 3; decide) S2x8192x8x64 (val_main_v110 (F := Ideal) x0 x1 x2 x5 x9 x10) rfl rfl 0 rfl
      (ix4 b l h (⟨r.val, h1⟩ : Fin 64)) (fun b hb => by
      match b with
      | ⟨0, _⟩ => rfl
      | ⟨1, _⟩ => rfl
      | ⟨2, _⟩ => rfl
      | ⟨3, _⟩ => exact absurd rfl hb) (Nat.zero_add _)]
    unfold val_main_v110
    generalize val_main_v52 (F := Ideal) x0 x1 x2 x5 x9 x10 = y
    pointwise []
  · split
    · rename_i h1 h2
      unfold val_main_v113
      rw [concatenate_apply_piece (t := S2x8192x8x80) 3 _ _ _ 1 (by show 1 < 3; decide) S2x8192x8x1 (val_main_v111 (F := Ideal)) rfl rfl 64 rfl
        (ix4 b l h (0 : Fin 1)) (fun b hb => by
        match b with
        | ⟨0, _⟩ => rfl
        | ⟨1, _⟩ => rfl
        | ⟨2, _⟩ => rfl
        | ⟨3, _⟩ => exact absurd rfl hb) (by show 64 + 0 = r.val; omega)]
      pointwise [val_main_v111, val_main_cst_10]
    · rename_i h1 h2
      unfold val_main_v113
      rw [concatenate_apply_piece (t := S2x8192x8x80) 3 _ _ _ 2 (by show 2 < 3; decide) S2x8192x8x15 (val_main_v112 (F := Ideal)) rfl rfl 65 rfl
        (ix4 b l h (⟨r.val - 65, by omega⟩ : Fin 15)) (fun b hb => by
        match b with
        | ⟨0, _⟩ => rfl
        | ⟨1, _⟩ => rfl
        | ⟨2, _⟩ => rfl
        | ⟨3, _⟩ => exact absurd rfl hb) (by show 65 + (r.val - 65) = r.val; omega)]
      pointwise [val_main_v112, val_main_cst_11]

end Cert.ProjRefIdeal.At
-- ==== Proof.ProjStages.lean ====
module

public import proofs.«01_k».proof.Proof.ProjRefQ

@[expose] public section

set_option maxRecDepth 16384

/-! One row of the body against one token of the reference: if the blocks hold the arrays' entries then each stage of the
    body, at that row, is the reference's stage at that token. -/

noncomputable section

namespace Cert.ProjIdeal.Result

open Idealize.ShloMosaic Idealize.ShloMosaic.TcCoe
open Cert.ProjIdeal Cert.ProjIdeal.Gen Cert.ProjIdeal.Host
open Cert.ProjRefIdeal.Read Cert.ProjRefIdeal.At

variable (x0 : FVec Ideal S16384x1024 .f32) (x1 : FVec Ideal S2x2x1024 .f32) (x2 : FVec Ideal S1024 .f32)
  (x3 x4 : FVec Ideal S8192x2x8 .f32) (x5 : FVec Ideal S1024x4768 .f32) (x6 : FVec Ideal S3072 .f32)
  (x7 : FVec Ideal S384 .f32) (x8 : FVec Ideal S384x8x96 .f32) (x9 : FVec Ideal S256 .f32) (x10 : FVec Ideal S256x8x128 .f32)
  (b : Fin 2) (l : Fin 8192) (a : Fin 256)
  (v0 : Vec Ideal S256x1024 .f32) (v1 : Vec Ideal S1x2x1024 .f32) (v3 : Vec Ideal S1x1024 .f32)

/-- A sum with two terms that may differ from zero. -/
theorem sum_two {n : Nat} (f : Fin n → EReal) (i j : Fin n) (h : i ≠ j) (z : ∀ k, k ≠ i → k ≠ j → f k = 0) :
    ∑ k, f k = f i + f j :=
  Finset.sum_eq_add i j h (fun k _ hk => z k hk.1 hk.2) (fun h => absurd (Finset.mem_univ _) h) (fun h => absurd (Finset.mem_univ _) h)

/-- The entry times the cosine and its partner times the signed sine: the rotated entry. -/
theorem rot_eq (f : Fin 32 → EReal) (s : Fin 32) :
    f s * cpat x3 (ix2 l s) + f (sw s) * spat x4 (ix2 l s) = rot x3 x4 l f s := by
  rw [cpat_at, spat_at]
  unfold rot
  split
  · rw [mul_neg, ← sub_eq_add_neg]
  · rfl

/-- The modulated norm. -/
theorem h_eq (h0 : ∀ d, v0 (ix2 a d) = x0 (ix2 ⟨b.val * 8192 + l.val, by omega⟩ d)) (h1 : ∀ j d, v1 (ix3 0 j d) = x1 (ix3 b j d))
    (h2 : ∀ d, v3 (ix2 0 d) = x2 (ix1 d)) (d : Fin 1024) :
    (k0_pay2 (F := Ideal) v0 v1 v3 (ix2 a d) : EReal) = val_main_v21 (F := Ideal) x0 x1 x2 (ix3 b l d) := by
  rw [pay2_at, h_at]
  simp only [h0, h1, h2]

section
variable (hh : ∀ d, (k0_pay2 (F := Ideal) v0 v1 v3 (ix2 a d) : EReal) = val_main_v21 (F := Ideal) x0 x1 x2 (ix3 b l d))
include hh

/-- The first projection's columns as they stand. -/
theorem p_lo (k : Fin 768) (hk : k.val < 672) :
    (k0_pay3 (F := Ideal) v0 v1 v3 (wa x5) (ix2 a k) : EReal) = val_main_v22 (F := Ideal) x0 x1 x2 x5 (ix3 b l ⟨k.val, by omega⟩) := by
  rw [pay3_at, p_at]
  exact Finset.sum_congr rfl fun d _ => by rw [hh, wa_lo x5 d k hk]

/-- The first projection's columns of partners. -/
theorem p_sw (s : Fin 32) :
    (k0_pay3 (F := Ideal) v0 v1 v3 (wa x5) (ix2 a ⟨672 + s.val, by omega⟩) : EReal)
      = val_main_v22 (F := Ideal) x0 x1 x2 x5 (ix3 b l ⟨640 + (sw s).val, by omega⟩) := by
  rw [pay3_at, p_at]
  exact Finset.sum_congr rfl fun d _ => by rw [hh, wa_sw x5 d s]

/-- The pooled branch's input. -/
theorem pool_eq (k : Fin 512) :
    (k0_pay32 (F := Ideal) (k0_pay2 (F := Ideal) v0 v1 v3) (wpool x5) (ix2 a k) : EReal)
      = val_main_v124 (F := Ideal) x0 x1 x2 x5 (ix2 ⟨b.val * 8192 + l.val, by omega⟩ k) := by
  rw [pay32_at, pool_at, p_at]
  exact Finset.sum_congr rfl fun d _ => by rw [hh, wpool_at x5 d k]

/-- The spectral branch's input. -/
theorem fft_eq (k : Fin 512) :
    (k0_pay33 (F := Ideal) (k0_pay2 (F := Ideal) v0 v1 v3) (wfft x5) (ix2 a k) : EReal)
      = val_main_v127 (F := Ideal) x0 x1 x2 x5 (ix2 ⟨b.val * 8192 + l.val, by omega⟩ k) := by
  rw [pay33_at, fft_at, p_at]
  exact Finset.sum_congr rfl fun d _ => by rw [hh, wfft_at x5 d k]

/-- The gates. -/
theorem gate_eq (bg : Vec Ideal S1x3072 .f32) (hb : ∀ k, bg (ix2 0 k) = x6 (ix1 k)) (k : Fin 3072) :
    (k0_pay1 (F := Ideal) (k0_pay2 (F := Ideal) v0 v1 v3) (wgate x5) bg (ix2 a k) : EReal)
      = val_main_v139 (F := Ideal) x0 x1 x2 x5 x6 (ix2 ⟨b.val * 8192 + l.val, by omega⟩ k) := by
  rw [pay1_at, gate_at, p_at, hb]
  simp only [hh, wgate_at]

/-- The keys' and values' row, normalised. -/
theorem kvn_eq (g : Vec Ideal S1x256 .f32) (hg : ∀ k, g (ix2 0 k) = x9 (ix1 k)) (j : Fin 256) :
    (k0_pay7 (F := Ideal) (k0_pay4 (F := Ideal) v0 v1 v3 (wa x5)) (k0_pay5 (F := Ideal) g) (k0_pay6 (F := Ideal) v0 v1 v3 (wa x5)) (ix2 a j) : EReal)
      = val_main_v51 (F := Ideal) x0 x1 x2 x5 x9 (ix3 b l j) := by
  have e : ∀ j : Fin 256, (k0_pay3 (F := Ideal) v0 v1 v3 (wa x5) (ix2 a ⟨384 + j.val, by omega⟩) : EReal)
      = val_main_v22 (F := Ideal) x0 x1 x2 x5 (ix3 b l ⟨384 + j.val, by omega⟩) :=
    fun j => p_lo x0 x1 x2 x5 b l a v0 v1 v3 hh _ (by show 384 + j.val < 672; omega)
  rw [pay7_at, kvn_at, hg]
  simp only [e]

/-- The queries' row, normalised. -/
theorem qn_eq (g : Vec Ideal S1x384 .f32) (hg : ∀ k, g (ix2 0 k) = x7 (ix1 k)) (j : Fin 384) :
    qn (k0_pay3 (F := Ideal) v0 v1 v3 (wa x5)) g a j = val_main_v36 (F := Ideal) x0 x1 x2 x5 x7 (ix3 b l j) := by
  have e : ∀ j : Fin 384, (k0_pay3 (F := Ideal) v0 v1 v3 (wa x5) (ix2 a ⟨j.val, by omega⟩) : EReal)
      = val_main_v22 (F := Ideal) x0 x1 x2 x5 (ix3 b l ⟨j.val, by omega⟩) :=
    fun j => p_lo x0 x1 x2 x5 b l a v0 v1 v3 hh _ (by show j.val < 672; omega)
  unfold qn
  rw [qn_at, hg]
  simp only [e]

/-- The values, transposed. -/
theorem vt_eq (g : Vec Ideal S1x256 .f32) (hg : ∀ k, g (ix2 0 k) = x9 (ix1 k)) (h : Fin 8) (r : Fin 80) :
    (k0_pay18 (F := Ideal) (k0_pay7 (F := Ideal) (k0_pay4 (F := Ideal) v0 v1 v3 (wa x5)) (k0_pay5 (F := Ideal) g) (k0_pay6 (F := Ideal) v0 v1 v3 (wa x5)))
        (wvt x10) vone (ix3 0 ⟨h.val * 80 + r.val, by omega⟩ a) : EReal)
      = val_main_v122 (F := Ideal) x0 x1 x2 x5 x9 x10 (ix3 b ⟨h.val * 80 + r.val, by omega⟩ l) := by
  have hd : (h.val * 80 + r.val) / 80 = h.val := by omega
  have hm : (h.val * 80 + r.val) % 80 = r.val := by omega
  rw [pay18_at, vt_at, vone_at]
  simp only [kvn_eq x0 x1 x2 x5 x9 b l a v0 v1 v3 hh g hg, wvt_at, hm]
  by_cases h1 : r.val < 64
  · rw [if_neg (by omega), add_zero, dif_pos h1, ukv_at]
    refine Finset.sum_congr rfl fun j _ => ?_
    rw [dif_pos h1, mul_comm]
    congr 2
    blk_ext
  · simp only [h1, dif_neg, not_false_eq_true, zero_mul, Finset.sum_const_zero, zero_add]

/-- The keys of a head. -/
theorem k_eq (g : Vec Ideal S1x256 .f32) (hg : ∀ k, g (ix2 0 k) = x9 (ix1 k)) (tb : Vec Ideal S256x128 .f32)
    (ht : ∀ j, tb (ix2 a j) = tabk x3 x4 (ix2 l j)) (h : Fin 8) (k : Fin 128) :
    (k0_pay8 (F := Ideal) (k0_pay3 (F := Ideal) v0 v1 v3 (wa x5)) (k0_pay4 (F := Ideal) v0 v1 v3 (wa x5)) (k0_pay5 (F := Ideal) g) (k0_pay6 (F := Ideal) v0 v1 v3 (wa x5))
        tb (wkn x10) ek (ix2 a ⟨h.val * 128 + k.val, by omega⟩) : EReal)
      = val_main_v119 (F := Ideal) x0 x1 x2 x3 x4 x5 x9 x10 (ix3 h ⟨b.val * 8192 + l.val, by omega⟩ k) := by
  have hd : (h.val * 128 + k.val) / 128 = h.val := by omega
  have hm : (h.val * 128 + k.val) % 128 = k.val := by omega
  rw [pay8_at, k_at]
  simp only [kvn_eq x0 x1 x2 x5 x9 b l a v0 v1 v3 hh g hg, wkn_at, ek_at, ht]
  by_cases h1 : k.val < 64
  · rw [dif_pos h1, Finset.sum_eq_zero (s := Finset.univ (α := Fin 128)) (fun j _ => by rw [if_neg (by rw [hm]; omega), mul_zero]), add_zero, ukv_at]
    refine Finset.sum_congr rfl fun j _ => ?_
    rw [dif_pos (by rw [hm]; omega)]
    congr 2
    blk_ext
  · rw [dif_neg h1, Finset.sum_eq_zero (s := Finset.univ (α := Fin 256)) (fun j _ => by rw [dif_neg (by rw [hm]; omega), mul_zero]), zero_add]
    split
    · rename_i h2
      rw [sum_two _ (⟨k.val - 64, by omega⟩ : Fin 128) (⟨32 + (k.val - 64), by omega⟩ : Fin 128)
        (fun e => by have := congrArg Fin.val e; simp at this)
        (fun j hj1 hj2 => by
          have g1 : j.val ≠ k.val - 64 := fun e => hj1 (Fin.ext e)
          have g2 : j.val ≠ 32 + (k.val - 64) := fun e => hj2 (Fin.ext e)
          rw [if_neg (by rw [hm]; omega), mul_zero]),
        if_pos (by show _ ∧ _; rw [hm]; dsimp only; omega), if_pos (by rw [hm]; dsimp only; omega), mul_one, mul_one,
        tabk_lo x3 x4 l ⟨k.val - 64, by omega⟩, tabk_hi x3 x4 l ⟨k.val - 64, by omega⟩, ← rot_eq]
      refine congrArg₂ (· + ·) (congrArg₂ (· * ·) ?_ rfl) (congrArg₂ (· * ·) ?_ rfl)
      · exact p_lo x0 x1 x2 x5 b l a v0 v1 v3 hh _ (by show 640 + (k.val - 64) < 672; omega)
      · refine Eq.trans ?_ (p_sw x0 x1 x2 x5 b l a v0 v1 v3 hh ⟨k.val - 64, by omega⟩)
        exact congrArg _ (by congr 1; ext; show 640 + (32 + (k.val - 64)) = 672 + (k.val - 64); omega)
    · rename_i h2
      exact Finset.sum_eq_zero fun j _ => by rw [if_neg (by rw [hm]; omega), mul_zero]

/-- The queries of a head. -/
theorem q_eq (g : Vec Ideal S1x384 .f32) (hg : ∀ k, g (ix2 0 k) = x7 (ix1 k)) (tb : Vec Ideal S256x512 .f32)
    (ht : ∀ j, tb (ix2 a j) = tabq x3 x4 (ix2 l j)) (h : Fin 8) (k : Fin 128) :
    (k0_pay23 (F := Ideal) (k0_pay19 (F := Ideal) (k0_pay3 (F := Ideal) v0 v1 v3 (wa x5))) (k0_pay20 (F := Ideal) g)
        (k0_pay21 (F := Ideal) (k0_pay3 (F := Ideal) v0 v1 v3 (wa x5))) (k0_pay22 (F := Ideal)) (wqr x8) tb (wqn x8) Host.eq
        (ix2 a ⟨h.val * 128 + k.val, by omega⟩) : EReal)
      = val_main_v116 (F := Ideal) x0 x1 x2 x3 x4 x5 x7 x8 (ix3 h ⟨b.val * 8192 + l.val, by omega⟩ k) := by
  have hd : (h.val * 128 + k.val) / 128 = h.val := by omega
  have hm : (h.val * 128 + k.val) % 128 = k.val := by omega
  rw [pay23_at, q_at]
  simp only [qn_eq x0 x1 x2 x5 x7 b l a v0 v1 v3 hh g hg, wqn_at, eq_at, ht]
  by_cases h1 : k.val < 64
  · rw [dif_pos h1, Finset.sum_eq_zero (s := Finset.univ (α := Fin 512)) (fun j _ => by rw [if_neg (by rw [hm]; omega), mul_zero]), add_zero, uq_at]
    refine Finset.sum_congr rfl fun j _ => ?_
    rw [dif_pos (by rw [hm]; omega)]
    congr 2
    blk_ext
  · rw [dif_neg h1, Finset.sum_eq_zero (s := Finset.univ (α := Fin 384)) (fun j _ => by rw [dif_neg (by rw [hm]; omega), mul_zero]), zero_add]
    split
    · rename_i h2
      rw [sum_two _ (⟨h.val * 32 + (k.val - 64), by omega⟩ : Fin 512) (⟨256 + (h.val * 32 + (k.val - 64)), by omega⟩ : Fin 512)
        (fun e => by have := congrArg Fin.val e; simp at this)
        (fun j hj1 hj2 => by
          have g1 : j.val ≠ h.val * 32 + (k.val - 64) := fun e => hj1 (Fin.ext e)
          have g2 : j.val ≠ 256 + (h.val * 32 + (k.val - 64)) := fun e => hj2 (Fin.ext e)
          rw [if_neg (by rw [hm, hd]; omega), mul_zero]),
        if_pos (by rw [hm, hd]; dsimp only; omega), if_pos (by rw [hm, hd]; dsimp only; omega), mul_one, mul_one,
        tabq_lo x3 x4 l h ⟨k.val - 64, by omega⟩, tabq_hi x3 x4 l h ⟨k.val - 64, by omega⟩, ← rot_eq]
      refine congrArg₂ (· + ·) (congrArg₂ (· * ·) ?_ rfl) (congrArg₂ (· * ·) ?_ rfl)
      · rw [uq_at]
        exact Finset.sum_congr rfl fun r _ => by rw [wqr_lo x8 r h ⟨k.val - 64, by omega⟩]
      · rw [uq_at]
        exact Finset.sum_congr rfl fun r _ => by rw [wqr_hi x8 r h ⟨k.val - 64, by omega⟩]
    · rename_i h2
      exact Finset.sum_eq_zero fun j _ => by rw [if_neg (by rw [hm]; omega), mul_zero]
end

end Cert.ProjIdeal.Result
-- ==== Proof.ProjReads.lean ====
module

public import proofs.«01_k».proof.Proof.ProjIdealFrame
public import proofs.«01_k».proof.Proof.ProjHost
public import Idealize.ShloMosaic.Lib.Pipeline.ValueKit
public import Idealize.ShloMosaic.Lib.Pointwise

@[expose] public section

set_option maxRecDepth 16384

/-! Where each block of the input projections lies in its array: the blocks of the grid point `t` read at an index. -/

noncomputable section

namespace Cert.ProjIdeal.Result

open Idealize.ShloMosaic Idealize.ShloMosaic.TcCoe Idealize.SL.Sem
open Idealize.ShloMosaic.Pipeline (Dat)
open Cert.ProjIdeal Cert.ProjIdeal.Gen Cert.ProjIdeal.Body

variable (m : (ℓ : Loc nD τ sig) → Buf (Elt Ideal) ℓ)

/-! Where each window's block sits at a grid point. -/

theorem at0 : ∀ t : Fin cfg0.N, win0_0.index t = ![t.val, 0] := (by decide +kernel : ∀ t : Fin grid0.N, _)
theorem at1 : ∀ t : Fin cfg0.N, win0_1.index t = ![t.val / 32, 0, 0] := (by decide +kernel : ∀ t : Fin grid0.N, _)
theorem at2 : ∀ t : Fin cfg0.N, win0_2.index t = ![0, 0] := (by decide +kernel : ∀ t : Fin grid0.N, _)
theorem at3 : ∀ t : Fin cfg0.N, win0_3.index t = ![t.val % 32, 0] := (by decide +kernel : ∀ t : Fin grid0.N, _)
theorem at4 : ∀ t : Fin cfg0.N, win0_4.index t = ![t.val % 32, 0] := (by decide +kernel : ∀ t : Fin grid0.N, _)
theorem at5 : ∀ t : Fin cfg0.N, win0_5.index t = ![0, 0] := (by decide +kernel : ∀ t : Fin grid0.N, _)
theorem at6 : ∀ t : Fin cfg0.N, win0_6.index t = ![0, 0] := (by decide +kernel : ∀ t : Fin grid0.N, _)
theorem at7 : ∀ t : Fin cfg0.N, win0_7.index t = ![0, 0] := (by decide +kernel : ∀ t : Fin grid0.N, _)
theorem at8 : ∀ t : Fin cfg0.N, win0_8.index t = ![0, 0] := (by decide +kernel : ∀ t : Fin grid0.N, _)
theorem at9 : ∀ t : Fin cfg0.N, win0_9.index t = ![0, 0] := (by decide +kernel : ∀ t : Fin grid0.N, _)
theorem at10 : ∀ t : Fin cfg0.N, win0_10.index t = ![0, 0] := (by decide +kernel : ∀ t : Fin grid0.N, _)
theorem at11 : ∀ t : Fin cfg0.N, win0_11.index t = ![0, 0] := (by decide +kernel : ∀ t : Fin grid0.N, _)
theorem at12 : ∀ t : Fin cfg0.N, win0_12.index t = ![0, 0] := (by decide +kernel : ∀ t : Fin grid0.N, _)
theorem at13 : ∀ t : Fin cfg0.N, win0_13.index t = ![0, 0] := (by decide +kernel : ∀ t : Fin grid0.N, _)
theorem at14 : ∀ t : Fin cfg0.N, win0_14.index t = ![0, 0] := (by decide +kernel : ∀ t : Fin grid0.N, _)
theorem at15 : ∀ t : Fin cfg0.N, win0_15.index t = ![0, 0] := (by decide +kernel : ∀ t : Fin grid0.N, _)
theorem at16 : ∀ t : Fin cfg0.N, win0_16.index t = ![0, 0] := (by decide +kernel : ∀ t : Fin grid0.N, _)
theorem at17 : ∀ t : Fin cfg0.N, win0_17.index t = ![0, 0] := (by decide +kernel : ∀ t : Fin grid0.N, _)
theorem at18 : ∀ t : Fin cfg0.N, win0_18.index t = ![0, 0] := (by decide +kernel : ∀ t : Fin grid0.N, _)
theorem at19 : ∀ t : Fin cfg0.N, win0_19.index t = ![0, t.val, 0] := (by decide +kernel : ∀ t : Fin grid0.N, _)
theorem at20 : ∀ t : Fin cfg0.N, win0_20.index t = ![0, t.val, 0] := (by decide +kernel : ∀ t : Fin grid0.N, _)
theorem at21 : ∀ t : Fin cfg0.N, win0_21.index t = ![t.val / 32, 0, t.val % 32] := (by decide +kernel : ∀ t : Fin grid0.N, _)
theorem at22 : ∀ t : Fin cfg0.N, win0_22.index t = ![t.val, 0] := (by decide +kernel : ∀ t : Fin grid0.N, _)
theorem at23 : ∀ t : Fin cfg0.N, win0_23.index t = ![t.val, 0] := (by decide +kernel : ∀ t : Fin grid0.N, _)
theorem at24 : ∀ t : Fin cfg0.N, win0_24.index t = ![t.val, 0] := (by decide +kernel : ∀ t : Fin grid0.N, _)

/-- There are 64 grid points. -/
theorem tlt (t : Fin cfg0.N) : t.val < 64 := t.isLt

/-- The sample a grid point works on. -/
abbrev bat (t : Fin cfg0.N) : Fin 2 := ⟨t.val / 32, by have := tlt t; omega⟩
/-- The token of a row of the grid point's block, within its sample. -/
abbrev tok (t : Fin cfg0.N) (a : Fin 256) : Fin 8192 := ⟨t.val % 32 * 256 + a.val, by omega⟩
/-- The row of the token among all samples' rows. -/
abbrev rowOf (t : Fin cfg0.N) (a : Fin 256) : Fin 16384 := ⟨(bat t).val * 8192 + (tok t a).val, by have := tlt t; show t.val / 32 * 8192 + (t.val % 32 * 256 + a.val) < 16384; omega⟩

variable (c : Dev nD) (t : Fin cfg0.N)

set_option maxHeartbeats 1600000 in
/-- The residual stream's rows. -/
theorem read0 (a : Fin 256) (d : Fin 1024) : iblk m c 0 t (ix2 a d) = m (c, main_arg0) (ix2 (rowOf t a) d) := by
  blk_point [iblk, V, at0 t]
set_option maxHeartbeats 1600000 in
/-- The shift and the scale of the sample. -/
theorem read1 (j : Fin 2) (d : Fin 1024) : iblk m c 1 t (ix3 0 j d) = m (c, main_arg1) (ix3 (bat t) j d) := by
  blk_point [iblk, V, at1 t]
set_option maxHeartbeats 1600000 in
/-- The first norm's gain. -/
theorem read2 (d : Fin 1024) : iblk m c 2 t (ix2 0 d) = m (c, main_arg2) (ix1 d) := by
  have e : iblk m c 2 t (ix2 0 d) = V m c main_v82 (((cfg0.win 2).blk t).view.emb (ix2 0 d)) := rfl
  have z : ((cfg0.win 2).blk t).view.emb (ix2 0 d) = ix2 0 d := by blk_ext [at2 t]
  rw [e, Host.V_v82, z]
  generalize (m (c, main_arg2) : FVec Ideal S1024 .f32) = g
  pointwise []
set_option maxHeartbeats 1600000 in
/-- The queries' table at the block's tokens. -/
theorem read3 (a : Fin 256) (j : Fin 512) : iblk m c 3 t (ix2 a j) = Host.tabq (m (c, main_arg3)) (m (c, main_arg4)) (ix2 (tok t a) j) := by
  have e : iblk m c 3 t (ix2 a j) = V m c main_v11 (((cfg0.win 3).blk t).view.emb (ix2 a j)) := rfl
  rw [e, Host.V_v11]
  exact congrArg _ (by blk_ext [at3 t])
set_option maxHeartbeats 1600000 in
/-- The keys' table at the block's tokens. -/
theorem read4 (a : Fin 256) (j : Fin 128) : iblk m c 4 t (ix2 a j) = Host.tabk (m (c, main_arg3)) (m (c, main_arg4)) (ix2 (tok t a) j) := by
  have e : iblk m c 4 t (ix2 a j) = V m c main_v13 (((cfg0.win 4).blk t).view.emb (ix2 a j)) := rfl
  rw [e, Host.V_v13]
  exact congrArg _ (by blk_ext [at4 t])
set_option maxHeartbeats 1600000 in
/-- The first weights. -/
theorem read5 (a : Fin 1024) (j : Fin 768) : iblk m c 5 t (ix2 a j) = Host.wa (m (c, main_arg5)) (ix2 a j) := by
  have e : iblk m c 5 t (ix2 a j) = V m c main_v38 (((cfg0.win 5).blk t).view.emb (ix2 a j)) := rfl
  rw [e, Host.V_v38]
  exact congrArg _ (by blk_ext [at5 t])
set_option maxHeartbeats 1600000 in
/-- The pooled branch's weights. -/
theorem read6 (a : Fin 1024) (j : Fin 512) : iblk m c 6 t (ix2 a j) = Host.wpool (m (c, main_arg5)) (ix2 a j) := by
  have e : iblk m c 6 t (ix2 a j) = V m c main_v40 (((cfg0.win 6).blk t).view.emb (ix2 a j)) := rfl
  rw [e, Host.V_v40]
  exact congrArg _ (by blk_ext [at6 t])
set_option maxHeartbeats 1600000 in
/-- The spectral branch's weights. -/
theorem read7 (a : Fin 1024) (j : Fin 512) : iblk m c 7 t (ix2 a j) = Host.wfft (m (c, main_arg5)) (ix2 a j) := by
  have e : iblk m c 7 t (ix2 a j) = V m c main_v42 (((cfg0.win 7).blk t).view.emb (ix2 a j)) := rfl
  rw [e, Host.V_v42]
  exact congrArg _ (by blk_ext [at7 t])
set_option maxHeartbeats 1600000 in
/-- The gates' weights. -/
theorem read8 (a : Fin 1024) (j : Fin 3072) : iblk m c 8 t (ix2 a j) = Host.wgate (m (c, main_arg5)) (ix2 a j) := by
  have e : iblk m c 8 t (ix2 a j) = V m c main_v44 (((cfg0.win 8).blk t).view.emb (ix2 a j)) := rfl
  rw [e, Host.V_v44]
  exact congrArg _ (by blk_ext [at8 t])
set_option maxHeartbeats 1600000 in
/-- The gates' bias. -/
theorem read9 (d : Fin 3072) : iblk m c 9 t (ix2 0 d) = m (c, main_arg6) (ix1 d) := by
  have e : iblk m c 9 t (ix2 0 d) = V m c main_v45 (((cfg0.win 9).blk t).view.emb (ix2 0 d)) := rfl
  have z : ((cfg0.win 9).blk t).view.emb (ix2 0 d) = ix2 0 d := by blk_ext [at9 t]
  rw [e, Host.V_v45, z]
  generalize (m (c, main_arg6) : FVec Ideal S3072 .f32) = g
  pointwise []
set_option maxHeartbeats 1600000 in
/-- The queries' gain. -/
theorem read10 (d : Fin 384) : iblk m c 10 t (ix2 0 d) = m (c, main_arg7) (ix1 d) := by
  have e : iblk m c 10 t (ix2 0 d) = V m c main_v46 (((cfg0.win 10).blk t).view.emb (ix2 0 d)) := rfl
  have z : ((cfg0.win 10).blk t).view.emb (ix2 0 d) = ix2 0 d := by blk_ext [at10 t]
  rw [e, Host.V_v46, z]
  generalize (m (c, main_arg7) : FVec Ideal S384 .f32) = g
  pointwise []
set_option maxHeartbeats 1600000 in
/-- The queries' weights without positions. -/
theorem read11 (a : Fin 384) (j : Fin 1024) : iblk m c 11 t (ix2 a j) = Host.wqn (m (c, main_arg8)) (ix2 a j) := by
  have e : iblk m c 11 t (ix2 a j) = V m c main_v48 (((cfg0.win 11).blk t).view.emb (ix2 a j)) := rfl
  rw [e, Host.V_v48]
  exact congrArg _ (by blk_ext [at11 t])
set_option maxHeartbeats 1600000 in
/-- The queries' weights with positions. -/
theorem read12 (a : Fin 384) (j : Fin 512) : iblk m c 12 t (ix2 a j) = Host.wqr (m (c, main_arg8)) (ix2 a j) := by
  have e : iblk m c 12 t (ix2 a j) = V m c main_v49 (((cfg0.win 12).blk t).view.emb (ix2 a j)) := rfl
  rw [e, Host.V_v49]
  exact congrArg _ (by blk_ext [at12 t])
set_option maxHeartbeats 1600000 in
/-- The queries' placement. -/
theorem read13 (a : Fin 512) (j : Fin 1024) : iblk m c 13 t (ix2 a j) = Host.eq (ix2 a j) := by
  have e : iblk m c 13 t (ix2 a j) = V m c main_v60 (((cfg0.win 13).blk t).view.emb (ix2 a j)) := rfl
  rw [e, Host.V_v60]
  exact congrArg _ (by blk_ext [at13 t])
set_option maxHeartbeats 1600000 in
/-- The keys' and values' gain. -/
theorem read14 (d : Fin 256) : iblk m c 14 t (ix2 0 d) = m (c, main_arg9) (ix1 d) := by
  have e : iblk m c 14 t (ix2 0 d) = V m c main_v61 (((cfg0.win 14).blk t).view.emb (ix2 0 d)) := rfl
  have z : ((cfg0.win 14).blk t).view.emb (ix2 0 d) = ix2 0 d := by blk_ext [at14 t]
  rw [e, Host.V_v61, z]
  generalize (m (c, main_arg9) : FVec Ideal S256 .f32) = g
  pointwise []
set_option maxHeartbeats 1600000 in
/-- The keys' weights without positions. -/
theorem read15 (a : Fin 256) (j : Fin 1024) : iblk m c 15 t (ix2 a j) = Host.wkn (m (c, main_arg10)) (ix2 a j) := by
  have e : iblk m c 15 t (ix2 a j) = V m c main_v63 (((cfg0.win 15).blk t).view.emb (ix2 a j)) := rfl
  rw [e, Host.V_v63]
  exact congrArg _ (by blk_ext [at15 t])
set_option maxHeartbeats 1600000 in
/-- The keys' placement. -/
theorem read16 (a : Fin 128) (j : Fin 1024) : iblk m c 16 t (ix2 a j) = Host.ek (ix2 a j) := by
  have e : iblk m c 16 t (ix2 a j) = V m c main_v78 (((cfg0.win 16).blk t).view.emb (ix2 a j)) := rfl
  rw [e, Host.V_v78]
  exact congrArg _ (by blk_ext [at16 t])
set_option maxHeartbeats 1600000 in
/-- The values' weights, transposed. -/
theorem read17 (a : Fin 640) (j : Fin 256) : iblk m c 17 t (ix2 a j) = Host.wvt (m (c, main_arg10)) (ix2 a j) := by
  have e : iblk m c 17 t (ix2 a j) = V m c main_v81 (((cfg0.win 17).blk t).view.emb (ix2 a j)) := rfl
  rw [e, Host.V_v81]
  exact congrArg _ (by blk_ext [at17 t])
set_option maxHeartbeats 1600000 in
/-- The row of ones of each head's values. -/
theorem read18 (a : Fin 640) (j : Fin 1) : iblk m c 18 t (ix2 a j) = Host.vone (ix2 a j) := by
  have e : iblk m c 18 t (ix2 a j) = V m c main_cst (((cfg0.win 18).blk t).view.emb (ix2 a j)) := rfl
  rw [e, Host.V_cst]
  exact congrArg _ (by blk_ext [at18 t])

end Cert.ProjIdeal.Result
-- ==== Proof.ProjValue.lean ====
module

public import proofs.«01_k».proof.Proof.ProjStages
public import proofs.«01_k».proof.Proof.ProjReads
public import Idealize.ShloMosaic.Lib.Claim

@[expose] public section

set_option maxRecDepth 16384

/-! The input projections: each of the six arrays the kernel leaves is the reference's, block by block. -/

noncomputable section

namespace Cert.ProjIdeal.Result

open Idealize.ShloMosaic Idealize.ShloMosaic.TcCoe Idealize.SL.Sem
open Idealize.ShloMosaic.Pipeline (Dat)
open Cert.ProjIdeal Cert.ProjIdeal.Gen Cert.ProjIdeal.Body
open Cert.ProjRefIdeal.Read

variable (m : (ℓ : Loc nD τ sig) → Buf (Elt Ideal) ℓ)

section Points

variable (c : Dev nD) (t : Fin cfg0.N)

/-- A two-axis array is known by its entries. -/
theorem ext2 {n k : Nat} {φ : EltTy} (u v : Vec Ideal ⟨2, ![n, k]⟩ φ) (h : ∀ a j, u (ix2 a j) = v (ix2 a j)) : u = v :=
  funext fun i => by rw [ValueIdx.eq_ix2 i]; exact h _ _

/-- The modulated norm of the block's rows is the reference's at their tokens. -/
theorem hblk (a : Fin 256) (d : Fin 1024) :
    (k0_pay2 (F := Ideal) (iblk m c 0 t) (iblk m c 1 t) (iblk m c 2 t) (ix2 a d) : EReal)
      = val_main_v21 (F := Ideal) (m (c, main_arg0)) (m (c, main_arg1)) (m (c, main_arg2)) (ix3 (bat t) (tok t a) d) :=
  h_eq _ _ _ (bat t) (tok t a) a _ _ _ (read0 m c t a) (read1 m c t) (read2 m c t) d

/-- The pooled branch's rows the body stores are the reference's. -/
theorem point22 (a : Fin 256) (k : Fin 512) :
    (k0_pay32 (F := Ideal) (k0_pay2 (F := Ideal) (iblk m c 0 t) (iblk m c 1 t) (iblk m c 2 t)) (iblk m c 6 t) (ix2 a k) : EReal)
      = val_main_v124 (F := Ideal) (m (c, main_arg0)) (m (c, main_arg1)) (m (c, main_arg2)) (m (c, main_arg5)) (ix2 (rowOf t a) k) := by
  have e : (iblk m c 6 t : Vec Ideal S1024x512 .bf16) = Host.wpool (m (c, main_arg5)) := ext2 _ _ (read6 m c t)
  rw [e]
  exact pool_eq _ _ _ _ (bat t) (tok t a) a _ _ _ (hblk m c t a) k

/-- The spectral branch's rows the body stores are the reference's. -/
theorem point23 (a : Fin 256) (k : Fin 512) :
    (k0_pay33 (F := Ideal) (k0_pay2 (F := Ideal) (iblk m c 0 t) (iblk m c 1 t) (iblk m c 2 t)) (iblk m c 7 t) (ix2 a k) : EReal)
      = val_main_v127 (F := Ideal) (m (c, main_arg0)) (m (c, main_arg1)) (m (c, main_arg2)) (m (c, main_arg5)) (ix2 (rowOf t a) k) := by
  have e : (iblk m c 7 t : Vec Ideal S1024x512 .bf16) = Host.wfft (m (c, main_arg5)) := ext2 _ _ (read7 m c t)
  rw [e]
  exact fft_eq _ _ _ _ (bat t) (tok t a) a _ _ _ (hblk m c t a) k

/-- The gates the body stores are the reference's. -/
theorem point24 (a : Fin 256) (k : Fin 3072) :
    (k0_pay1 (F := Ideal) (k0_pay2 (F := Ideal) (iblk m c 0 t) (iblk m c 1 t) (iblk m c 2 t)) (iblk m c 8 t) (iblk m c 9 t) (ix2 a k) : EReal)
      = val_main_v139 (F := Ideal) (m (c, main_arg0)) (m (c, main_arg1)) (m (c, main_arg2)) (m (c, main_arg5)) (m (c, main_arg6)) (ix2 (rowOf t a) k) := by
  have e : (iblk m c 8 t : Vec Ideal S1024x3072 .bf16) = Host.wgate (m (c, main_arg5)) := ext2 _ _ (read8 m c t)
  rw [e]
  exact gate_eq _ _ _ _ _ (bat t) (tok t a) a _ _ _ (hblk m c t a) _ (read9 m c t) k

/-- The values the body stores are the reference's. -/
theorem point21 (h : Fin 8) (r : Fin 80) (a : Fin 256) :
    (k0_pay18 (F := Ideal) (k0_pay7 (F := Ideal) (k0_pay4 (F := Ideal) (iblk m c 0 t) (iblk m c 1 t) (iblk m c 2 t) (iblk m c 5 t))
        (k0_pay5 (F := Ideal) (iblk m c 14 t)) (k0_pay6 (F := Ideal) (iblk m c 0 t) (iblk m c 1 t) (iblk m c 2 t) (iblk m c 5 t)))
        (iblk m c 17 t) (iblk m c 18 t) (ix3 0 ⟨h.val * 80 + r.val, by omega⟩ a) : EReal)
      = val_main_v122 (F := Ideal) (m (c, main_arg0)) (m (c, main_arg1)) (m (c, main_arg2)) (m (c, main_arg5)) (m (c, main_arg9)) (m (c, main_arg10))
          (ix3 (bat t) ⟨h.val * 80 + r.val, by omega⟩ (tok t a)) := by
  have e5 : (iblk m c 5 t : Vec Ideal S1024x768 .bf16) = Host.wa (m (c, main_arg5)) := ext2 _ _ (read5 m c t)
  have e17 : (iblk m c 17 t : Vec Ideal S640x256 .bf16) = Host.wvt (m (c, main_arg10)) := ext2 _ _ (read17 m c t)
  have e18 : (iblk m c 18 t : Vec Ideal S640x1 .f32) = Host.vone := ext2 _ _ (read18 m c t)
  rw [e5, e17, e18]
  exact vt_eq _ _ _ _ _ _ (bat t) (tok t a) a _ _ _ (hblk m c t a) _ (read14 m c t) h r

/-- The keys of all heads in the block are the reference's. -/
theorem point20 (h : Fin 8) (a : Fin 256) (k : Fin 128) :
    (k0_pay8 (F := Ideal) (k0_pay3 (F := Ideal) (iblk m c 0 t) (iblk m c 1 t) (iblk m c 2 t) (iblk m c 5 t))
        (k0_pay4 (F := Ideal) (iblk m c 0 t) (iblk m c 1 t) (iblk m c 2 t) (iblk m c 5 t))
        (k0_pay5 (F := Ideal) (iblk m c 14 t)) (k0_pay6 (F := Ideal) (iblk m c 0 t) (iblk m c 1 t) (iblk m c 2 t) (iblk m c 5 t))
        (iblk m c 4 t) (iblk m c 15 t) (iblk m c 16 t) (ix2 a ⟨h.val * 128 + k.val, by omega⟩) : EReal)
      = val_main_v119 (F := Ideal) (m (c, main_arg0)) (m (c, main_arg1)) (m (c, main_arg2)) (m (c, main_arg3)) (m (c, main_arg4)) (m (c, main_arg5)) (m (c, main_arg9)) (m (c, main_arg10))
          (ix3 h (rowOf t a) k) := by
  have e5 : (iblk m c 5 t : Vec Ideal S1024x768 .bf16) = Host.wa (m (c, main_arg5)) := ext2 _ _ (read5 m c t)
  have e15 : (iblk m c 15 t : Vec Ideal S256x1024 .bf16) = Host.wkn (m (c, main_arg10)) := ext2 _ _ (read15 m c t)
  have e16 : (iblk m c 16 t : Vec Ideal S128x1024 .bf16) = Host.ek := ext2 _ _ (read16 m c t)
  rw [e5, e15, e16]
  exact k_eq _ _ _ _ _ _ _ _ (bat t) (tok t a) a _ _ _ (hblk m c t a) _ (read14 m c t) _ (read4 m c t a) h k

/-- The queries of all heads in the block are the reference's. -/
theorem point19 (h : Fin 8) (a : Fin 256) (k : Fin 128) :
    (k0_pay23 (F := Ideal) (k0_pay19 (F := Ideal) (k0_pay3 (F := Ideal) (iblk m c 0 t) (iblk m c 1 t) (iblk m c 2 t) (iblk m c 5 t)))
        (k0_pay20 (F := Ideal) (iblk m c 10 t))
        (k0_pay21 (F := Ideal) (k0_pay3 (F := Ideal) (iblk m c 0 t) (iblk m c 1 t) (iblk m c 2 t) (iblk m c 5 t))) (k0_pay22 (F := Ideal))
        (iblk m c 12 t) (iblk m c 3 t) (iblk m c 11 t) (iblk m c 13 t) (ix2 a ⟨h.val * 128 + k.val, by omega⟩) : EReal)
      = val_main_v116 (F := Ideal) (m (c, main_arg0)) (m (c, main_arg1)) (m (c, main_arg2)) (m (c, main_arg3)) (m (c, main_arg4)) (m (c, main_arg5)) (m (c, main_arg7)) (m (c, main_arg8))
          (ix3 h (rowOf t a) k) := by
  have e5 : (iblk m c 5 t : Vec Ideal S1024x768 .bf16) = Host.wa (m (c, main_arg5)) := ext2 _ _ (read5 m c t)
  have e11 : (iblk m c 11 t : Vec Ideal S384x1024 .bf16) = Host.wqn (m (c, main_arg8)) := ext2 _ _ (read11 m c t)
  have e12 : (iblk m c 12 t : Vec Ideal S384x512 .bf16) = Host.wqr (m (c, main_arg8)) := ext2 _ _ (read12 m c t)
  have e13 : (iblk m c 13 t : Vec Ideal S512x1024 .bf16) = Host.eq := ext2 _ _ (read13 m c t)
  rw [e5, e11, e12, e13]
  exact q_eq _ _ _ _ _ _ _ _ (bat t) (tok t a) a _ _ _ (hblk m c t a) _ (read10 m c t) _ (read3 m c t a) h k

end Points

/-- The fourth array the kernel leaves: the pooled branch. -/
theorem final22 (c : Dev nD) : (dats m 0 c).arrAt 22 (cfgs 0).N
    = val_main_v124 (F := Ideal) (m (c, main_arg0)) (m (c, main_arg1)) (m (c, main_arg2)) (m (c, main_arg5)) := by
  refine (dats m 0 c).arrAt_eq_of_covers 22 _ (by decide +kernel) fun t _ y => ?_
  blk_simp
  rw [after0_22]
  unfold out0_22 k0_pay34
  frame_out
  have e : ((cfg0.win 22).blk t).view.emb y = ix2 (rowOf t (y 0)) (y 1) := by blk_ext [at22 t]
  rw [e, ValueIdx.eq_ix2 y]
  exact point22 m c t (y 0) (y 1)

/-- The fifth array the kernel leaves: the spectral branch. -/
theorem final23 (c : Dev nD) : (dats m 0 c).arrAt 23 (cfgs 0).N
    = val_main_v127 (F := Ideal) (m (c, main_arg0)) (m (c, main_arg1)) (m (c, main_arg2)) (m (c, main_arg5)) := by
  refine (dats m 0 c).arrAt_eq_of_covers 23 _ (by decide +kernel) fun t _ y => ?_
  blk_simp
  rw [after0_23]
  unfold out0_23 k0_pay34
  frame_out
  have e : ((cfg0.win 23).blk t).view.emb y = ix2 (rowOf t (y 0)) (y 1) := by blk_ext [at23 t]
  rw [e, ValueIdx.eq_ix2 y]
  exact point23 m c t (y 0) (y 1)

/-- The sixth array the kernel leaves: the gates. -/
theorem final24 (c : Dev nD) : (dats m 0 c).arrAt 24 (cfgs 0).N
    = val_main_v139 (F := Ideal) (m (c, main_arg0)) (m (c, main_arg1)) (m (c, main_arg2)) (m (c, main_arg5)) (m (c, main_arg6)) := by
  refine (dats m 0 c).arrAt_eq_of_covers 24 _ (by decide +kernel) fun t _ y => ?_
  blk_simp
  rw [after0_24]
  unfold out0_24 k0_pay34
  frame_out
  have e : ((cfg0.win 24).blk t).view.emb y = ix2 (rowOf t (y 0)) (y 1) := by blk_ext [at24 t]
  rw [e, ValueIdx.eq_ix2 y]
  exact point24 m c t (y 0) (y 1)

/-- The values' tensor at a block, read where the array's entry says. -/
theorem core21 (c : Dev nD) (t : Fin cfg0.N) (y0 : Fin 1) (y1 : Fin 640) (y2 : Fin 256) (j : S2x640x8192.Idx)
    (hj0 : (j 0 : ℕ) = t.val / 32) (hj1 : (j 1 : ℕ) = y1) (hj2 : (j 2 : ℕ) = t.val % 32 * 256 + y2) :
    (k0_pay18 (F := Ideal) (k0_pay7 (F := Ideal) (k0_pay4 (F := Ideal) (iblk m c 0 t) (iblk m c 1 t) (iblk m c 2 t) (iblk m c 5 t)) (k0_pay5 (F := Ideal) (iblk m c 14 t)) (k0_pay6 (F := Ideal) (iblk m c 0 t) (iblk m c 1 t) (iblk m c 2 t) (iblk m c 5 t))) (iblk m c 17 t) (iblk m c 18 t) (ix3 y0 y1 y2) : EReal)
      = val_main_v122 (F := Ideal) (m (c, main_arg0)) (m (c, main_arg1)) (m (c, main_arg2)) (m (c, main_arg5)) (m (c, main_arg9)) (m (c, main_arg10)) j := by
  have ej : j = ix3 (bat t) y1 (tok t y2) :=
    (ValueIdx.eq_ix3 j).trans (congr (congr (congrArg ix3 (Fin.ext hj0)) (Fin.ext hj1)) (Fin.ext hj2))
  subst ej
  obtain ⟨y1, l1⟩ := y1
  obtain ⟨h, r, hr⟩ : ∃ (h : Fin 8) (r : Fin 80), y1 = h.val * 80 + r.val :=
    ⟨⟨y1 / 80, by omega⟩, ⟨y1 % 80, by omega⟩, by show y1 = y1 / 80 * 80 + y1 % 80; omega⟩
  subst hr
  obtain rfl : y0 = 0 := Subsingleton.elim _ _
  exact point21 m c t h r y2

/-- The third array the kernel leaves: the values. -/
theorem final21 (c : Dev nD) : (dats m 0 c).arrAt 21 (cfgs 0).N
    = val_main_v122 (F := Ideal) (m (c, main_arg0)) (m (c, main_arg1)) (m (c, main_arg2)) (m (c, main_arg5)) (m (c, main_arg9)) (m (c, main_arg10)) := by
  refine (dats m 0 c).arrAt_eq_of_covers 21 _ (by decide +kernel) fun t _ y => ?_
  blk_simp
  rw [after0_21]
  unfold out0_21 k0_pay38 k0_pay37 k0_pay36
  frame_out
  refine Eq.trans (congrArg _ (ValueIdx.eq_ix3 (n0 := 1) (n1 := 640) (n2 := 256) y)) (core21 m c t (y 0) (y 1) (y 2) _ ?_ ?_ ?_)
  all_goals (blk_simp [at21 t] <;> try omega)

/-- The tensor of all heads' queries at a block, read where the array's entry says. -/
theorem core19 (c : Dev nD) (t : Fin cfg0.N) (y0 : Fin 8) (y1 : Fin 256) (y2 : Fin 128) (i : S256x1024.Idx) (j : S8x16384x128.Idx)
    (hi0 : (i 0 : ℕ) = y1) (hi1 : (i 1 : ℕ) = y0 * 128 + y2)
    (hj0 : (j 0 : ℕ) = y0) (hj1 : (j 1 : ℕ) = t.val * 256 + y1) (hj2 : (j 2 : ℕ) = y2) :
    (k0_pay23 (F := Ideal) (k0_pay19 (F := Ideal) (k0_pay3 (F := Ideal) (iblk m c 0 t) (iblk m c 1 t) (iblk m c 2 t) (iblk m c 5 t))) (k0_pay20 (F := Ideal) (iblk m c 10 t))
        (k0_pay21 (F := Ideal) (k0_pay3 (F := Ideal) (iblk m c 0 t) (iblk m c 1 t) (iblk m c 2 t) (iblk m c 5 t))) (k0_pay22 (F := Ideal))
        (iblk m c 12 t) (iblk m c 3 t) (iblk m c 11 t) (iblk m c 13 t) i : EReal)
      = val_main_v116 (F := Ideal) (m (c, main_arg0)) (m (c, main_arg1)) (m (c, main_arg2)) (m (c, main_arg3)) (m (c, main_arg4)) (m (c, main_arg5)) (m (c, main_arg7)) (m (c, main_arg8)) j := by
  have tl := tlt t
  have ei : i = ix2 y1 ⟨y0.val * 128 + y2.val, by omega⟩ :=
    (ValueIdx.eq_ix2 i).trans (congr (congrArg ix2 (Fin.ext hi0)) (Fin.ext hi1))
  have ej : j = ix3 y0 (rowOf t y1) y2 :=
    (ValueIdx.eq_ix3 j).trans (congr (congr (congrArg ix3 (Fin.ext hj0))
      (Fin.ext (hj1.trans (by show t.val * 256 + y1.val = t.val / 32 * 8192 + (t.val % 32 * 256 + y1.val); omega)))) (Fin.ext hj2))
  rw [ei]
  exact (point19 m c t y0 y1 y2).trans (congrArg _ ej.symm)

/-- The first array the kernel leaves: the queries. -/
theorem final19 (c : Dev nD) : (dats m 0 c).arrAt 19 (cfgs 0).N
    = val_main_v116 (F := Ideal) (m (c, main_arg0)) (m (c, main_arg1)) (m (c, main_arg2)) (m (c, main_arg3)) (m (c, main_arg4)) (m (c, main_arg5)) (m (c, main_arg7)) (m (c, main_arg8)) := by
  refine (dats m 0 c).arrAt_eq_of_covers 19 _ (by decide +kernel) fun t _ y => ?_
  blk_simp
  rw [after0_19]
  unfold out0_19 k0_pay44 k0_pay43 k0_pay42 k0_pay41 k0_pay40 k0_pay35
  simp only [View.ld_unit_lit]
  have l0 : ((y 0 : Fin 8) : ℕ) < 8 := (y 0).isLt
  have l2 : ((y 2 : Fin 128) : ℕ) < 128 := (y 2).isLt
  obtain_idx i : S256x1024 := [(y 1 : ℕ), (y 0 : ℕ) * 128 + (y 2 : ℕ)] with hi
  refine Eq.trans ?_ (core19 m c t (y 0) (y 1) (y 2) i _ hi0 hi1 ?_ ?_ ?_)
  · canon_tiles x h
    all_goals (open_payloads; generalize (k0_pay23 (F := Ideal) (k0_pay19 (F := Ideal) (k0_pay3 (F := Ideal) (iblk m c 0 t) (iblk m c 1 t) (iblk m c 2 t) (iblk m c 5 t))) (k0_pay20 (F := Ideal) (iblk m c 10 t)) (k0_pay21 (F := Ideal) (k0_pay3 (F := Ideal) (iblk m c 0 t) (iblk m c 1 t) (iblk m c 2 t) (iblk m c 5 t))) (k0_pay22 (F := Ideal)) (iblk m c 12 t) (iblk m c 3 t) (iblk m c 11 t) (iblk m c 13 t)) = T; pointwise; blk_ext)
  all_goals (blk_simp [at19 t] <;> try omega)

/-- The tensor of all heads' keys at a block, read where the array's entry says. -/
theorem core20 (c : Dev nD) (t : Fin cfg0.N) (y0 : Fin 8) (y1 : Fin 256) (y2 : Fin 128) (i : S256x1024.Idx) (j : S8x16384x128.Idx)
    (hi0 : (i 0 : ℕ) = y1) (hi1 : (i 1 : ℕ) = y0 * 128 + y2)
    (hj0 : (j 0 : ℕ) = y0) (hj1 : (j 1 : ℕ) = t.val * 256 + y1) (hj2 : (j 2 : ℕ) = y2) :
    (k0_pay8 (F := Ideal) (k0_pay3 (F := Ideal) (iblk m c 0 t) (iblk m c 1 t) (iblk m c 2 t) (iblk m c 5 t)) (k0_pay4 (F := Ideal) (iblk m c 0 t) (iblk m c 1 t) (iblk m c 2 t) (iblk m c 5 t))
        (k0_pay5 (F := Ideal) (iblk m c 14 t)) (k0_pay6 (F := Ideal) (iblk m c 0 t) (iblk m c 1 t) (iblk m c 2 t) (iblk m c 5 t))
        (iblk m c 4 t) (iblk m c 15 t) (iblk m c 16 t) i : EReal)
      = val_main_v119 (F := Ideal) (m (c, main_arg0)) (m (c, main_arg1)) (m (c, main_arg2)) (m (c, main_arg3)) (m (c, main_arg4)) (m (c, main_arg5)) (m (c, main_arg9)) (m (c, main_arg10)) j := by
  have tl := tlt t
  have ei : i = ix2 y1 ⟨y0.val * 128 + y2.val, by omega⟩ :=
    (ValueIdx.eq_ix2 i).trans (congr (congrArg ix2 (Fin.ext hi0)) (Fin.ext hi1))
  have ej : j = ix3 y0 (rowOf t y1) y2 :=
    (ValueIdx.eq_ix3 j).trans (congr (congr (congrArg ix3 (Fin.ext hj0))
      (Fin.ext (hj1.trans (by show t.val * 256 + y1.val = t.val / 32 * 8192 + (t.val % 32 * 256 + y1.val); omega)))) (Fin.ext hj2))
  rw [ei]
  exact (point20 m c t y0 y1 y2).trans (congrArg _ ej.symm)

/-- The second array the kernel leaves: the keys. -/
theorem final20 (c : Dev nD) : (dats m 0 c).arrAt 20 (cfgs 0).N
    = val_main_v119 (F := Ideal) (m (c, main_arg0)) (m (c, main_arg1)) (m (c, main_arg2)) (m (c, main_arg3)) (m (c, main_arg4)) (m (c, main_arg5)) (m (c, main_arg9)) (m (c, main_arg10)) := by
  refine (dats m 0 c).arrAt_eq_of_covers 20 _ (by decide +kernel) fun t _ y => ?_
  blk_simp
  rw [after0_20]
  unfold out0_20 k0_pay39 k0_pay38 k0_pay37 k0_pay36 k0_pay35
  simp only [View.ld_unit_lit]
  have l0 : ((y 0 : Fin 8) : ℕ) < 8 := (y 0).isLt
  have l2 : ((y 2 : Fin 128) : ℕ) < 128 := (y 2).isLt
  obtain_idx i : S256x1024 := [(y 1 : ℕ), (y 0 : ℕ) * 128 + (y 2 : ℕ)] with hi
  refine Eq.trans ?_ (core20 m c t (y 0) (y 1) (y 2) i _ hi0 hi1 ?_ ?_ ?_)
  · canon_tiles x h
    all_goals (open_payloads; generalize (k0_pay8 (F := Ideal) (k0_pay3 (F := Ideal) (iblk m c 0 t) (iblk m c 1 t) (iblk m c 2 t) (iblk m c 5 t)) (k0_pay4 (F := Ideal) (iblk m c 0 t) (iblk m c 1 t) (iblk m c 2 t) (iblk m c 5 t)) (k0_pay5 (F := Ideal) (iblk m c 14 t)) (k0_pay6 (F := Ideal) (iblk m c 0 t) (iblk m c 1 t) (iblk m c 2 t) (iblk m c 5 t)) (iblk m c 4 t) (iblk m c 15 t) (iblk m c 16 t)) = T; pointwise; blk_ext)
  all_goals (blk_simp [at20 t] <;> try omega)

end Cert.ProjIdeal.Result
-- ==== Proof.ProjPair.lean ====
module

public import proofs.«01_k».proof.Defs
public import proofs.«01_k».proof.Proof.ProjValue
public import proofs.«01_k».proof.Proof.Gen.ProjRefIdeal
public import proofs.«01_k».proof.Proof.Gen.ProjRefIdeal.Run
public import proofs.«01_k».proof.Proof.Gen.ProjRefIdeal.Read
public import Idealize.ShloMosaic.Lib.Claim

@[expose] public section

set_option maxRecDepth 16384

/-! The input projections' call: the kernel's run and its reference's run end with equal results. -/

noncomputable section

namespace Cert.Pairs

open Idealize.ShloMosaic Idealize.SL.Sem

/-- The Proj reference runs and leaves its arguments unchanged. -/
theorem frame_Proj : Cert.quiescent_ProjRefIdeal := fun m ρ _ =>
  (θ_run Cert.ProjRefIdeal.defs _ _).mono (fun r h => ⟨fun c => (h c).2.2.2.2.2.2,
      Idealize.ShloMosaic.sem_eq_zero_of_no_sems (by decide) r.2⟩)
    (Cert.ProjRefIdeal.Value.run (F := Ideal) m ρ)

set_option maxHeartbeats 1600000 in
/-- The Proj kernel ends with the reference's six formulas of its own arguments, and leaves the arguments unchanged. -/
theorem kernel_Proj (m : (ℓ : Loc Cert.ProjIdeal.nD Cert.ProjIdeal.τ Cert.ProjIdeal.sig) → Buf (Elt Ideal) ℓ) (g : Dev Cert.ProjIdeal.nD → PrngReg) :
    θ_run (Cert.ProjIdeal.defs (F := Ideal)) (onTc (τ := Cert.ProjIdeal.τ) (Cert.ProjIdeal.main (F := Ideal))) ⟨m, fun _ => 0, g⟩ (fun r => ∀ c : Dev Cert.ProjIdeal.nD,
      r.2.mem ((c.tc : Thread Cert.ProjIdeal.nD Cert.ProjIdeal.τ).loc Cert.ProjIdeal.main_v83_0) = Cert.ProjRefIdeal.Read.val_main_v116 (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg7)) (m ((c.tc : Thread Cert.ProjIdeal.nD Cert.ProjIdeal.τ).loc Cert.ProjIdeal.main_arg8))
      ∧ r.2.mem ((c.tc : Thread Cert.ProjIdeal.nD Cert.ProjIdeal.τ).loc Cert.ProjIdeal.main_v83_1) = Cert.ProjRefIdeal.Read.val_main_v119 (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg9)) (m ((c.tc : Thread Cert.ProjIdeal.nD Cert.ProjIdeal.τ).loc Cert.ProjIdeal.main_arg10))
      ∧ r.2.mem ((c.tc : Thread Cert.ProjIdeal.nD Cert.ProjIdeal.τ).loc Cert.ProjIdeal.main_v83_2) = Cert.ProjRefIdeal.Read.val_main_v122 (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg5)) (m ((c.tc : Thread Cert.ProjIdeal.nD Cert.ProjIdeal.τ).loc Cert.ProjIdeal.main_arg9)) (m ((c.tc : Thread Cert.ProjIdeal.nD Cert.ProjIdeal.τ).loc Cert.ProjIdeal.main_arg10))
      ∧ r.2.mem ((c.tc : Thread Cert.ProjIdeal.nD Cert.ProjIdeal.τ).loc Cert.ProjIdeal.main_v83_3) = Cert.ProjRefIdeal.Read.val_main_v124 (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg5))
      ∧ r.2.mem ((c.tc : Thread Cert.ProjIdeal.nD Cert.ProjIdeal.τ).loc Cert.ProjIdeal.main_v83_4) = Cert.ProjRefIdeal.Read.val_main_v127 (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg5))
      ∧ r.2.mem ((c.tc : Thread Cert.ProjIdeal.nD Cert.ProjIdeal.τ).loc Cert.ProjIdeal.main_v83_5) = Cert.ProjRefIdeal.Read.val_main_v139 (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg5)) (m ((c.tc : Thread Cert.ProjIdeal.nD Cert.ProjIdeal.τ).loc Cert.ProjIdeal.main_arg6))
      ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
      ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
      ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10)) :=
  (θ_run Cert.ProjIdeal.defs _ _).mono (fun r h c =>
      ⟨((h.1 c).1 19).trans (Cert.ProjIdeal.Result.final19 m c),
        ((h.1 c).1 20).trans (Cert.ProjIdeal.Result.final20 m c),
        ((h.1 c).1 21).trans (Cert.ProjIdeal.Result.final21 m c),
        ((h.1 c).1 22).trans (Cert.ProjIdeal.Result.final22 m c),
        ((h.1 c).1 23).trans (Cert.ProjIdeal.Result.final23 m c),
        ((h.1 c).1 24).trans (Cert.ProjIdeal.Result.final24 m c),
        h.2 c⟩)
    (θ_run_and (Cert.ProjIdeal.Body.run_main (F := Ideal) m g) (Cert.ProjIdeal.Body.unchanged (F := Ideal) m g))

/-- The Proj reference ends with its six formulas of its own arguments, and leaves the arguments unchanged. -/
theorem reference_Proj (m : (ℓ : Loc Cert.ProjRefIdeal.nD Cert.ProjRefIdeal.τ Cert.ProjRefIdeal.sig) → Buf (Elt Ideal) ℓ) (g : Dev Cert.ProjRefIdeal.nD → PrngReg) :
    θ_run (Cert.ProjRefIdeal.defs (F := Ideal)) (onTc (τ := Cert.ProjRefIdeal.τ) (Cert.ProjRefIdeal.main (F := Ideal))) ⟨m, fun _ => 0, g⟩ (fun r => ∀ c : Dev Cert.ProjRefIdeal.nD,
      r.2.mem ((c.tc : Thread Cert.ProjRefIdeal.nD Cert.ProjRefIdeal.τ).loc Cert.ProjRefIdeal.main_v116) = Cert.ProjRefIdeal.Read.val_main_v116 (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4)) (m ((c.tc : Thread Cert.ProjRefIdeal.nD Cert.ProjRefIdeal.τ).loc Cert.ProjRefIdeal.main_arg5)) (m ((c.tc : Thread Cert.ProjRefIdeal.nD Cert.ProjRefIdeal.τ).loc Cert.ProjRefIdeal.main_arg7)) (m ((c.tc : Thread Cert.ProjRefIdeal.nD Cert.ProjRefIdeal.τ).loc Cert.ProjRefIdeal.main_arg8))
      ∧ r.2.mem ((c.tc : Thread Cert.ProjRefIdeal.nD Cert.ProjRefIdeal.τ).loc Cert.ProjRefIdeal.main_v119) = Cert.ProjRefIdeal.Read.val_main_v119 (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4)) (m ((c.tc : Thread Cert.ProjRefIdeal.nD Cert.ProjRefIdeal.τ).loc Cert.ProjRefIdeal.main_arg5)) (m ((c.tc : Thread Cert.ProjRefIdeal.nD Cert.ProjRefIdeal.τ).loc Cert.ProjRefIdeal.main_arg9)) (m ((c.tc : Thread Cert.ProjRefIdeal.nD Cert.ProjRefIdeal.τ).loc Cert.ProjRefIdeal.main_arg10))
      ∧ r.2.mem ((c.tc : Thread Cert.ProjRefIdeal.nD Cert.ProjRefIdeal.τ).loc Cert.ProjRefIdeal.main_v122) = Cert.ProjRefIdeal.Read.val_main_v122 (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg5)) (m ((c.tc : Thread Cert.ProjRefIdeal.nD Cert.ProjRefIdeal.τ).loc Cert.ProjRefIdeal.main_arg9)) (m ((c.tc : Thread Cert.ProjRefIdeal.nD Cert.ProjRefIdeal.τ).loc Cert.ProjRefIdeal.main_arg10))
      ∧ r.2.mem ((c.tc : Thread Cert.ProjRefIdeal.nD Cert.ProjRefIdeal.τ).loc Cert.ProjRefIdeal.main_v124) = Cert.ProjRefIdeal.Read.val_main_v124 (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg5))
      ∧ r.2.mem ((c.tc : Thread Cert.ProjRefIdeal.nD Cert.ProjRefIdeal.τ).loc Cert.ProjRefIdeal.main_v127) = Cert.ProjRefIdeal.Read.val_main_v127 (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg5))
      ∧ r.2.mem ((c.tc : Thread Cert.ProjRefIdeal.nD Cert.ProjRefIdeal.τ).loc Cert.ProjRefIdeal.main_v139) = Cert.ProjRefIdeal.Read.val_main_v139 (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg5)) (m ((c.tc : Thread Cert.ProjRefIdeal.nD Cert.ProjRefIdeal.τ).loc Cert.ProjRefIdeal.main_arg6))
      ∧ r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7)
      ∧ r.2.mem ((c.tc : Thread Cert.ProjRefIdeal.nD Cert.ProjRefIdeal.τ).loc Cert.ProjRefIdeal.main_arg8) = m ((c.tc : Thread Cert.ProjRefIdeal.nD Cert.ProjRefIdeal.τ).loc Cert.ProjRefIdeal.main_arg8)
      ∧ r.2.mem ((c.tc : Thread Cert.ProjRefIdeal.nD Cert.ProjRefIdeal.τ).loc Cert.ProjRefIdeal.main_arg9) = m ((c.tc : Thread Cert.ProjRefIdeal.nD Cert.ProjRefIdeal.τ).loc Cert.ProjRefIdeal.main_arg9)
      ∧ r.2.mem ((c.tc : Thread Cert.ProjRefIdeal.nD Cert.ProjRefIdeal.τ).loc Cert.ProjRefIdeal.main_arg10) = m ((c.tc : Thread Cert.ProjRefIdeal.nD Cert.ProjRefIdeal.τ).loc Cert.ProjRefIdeal.main_arg10)) :=
  (θ_run Cert.ProjRefIdeal.defs _ _).mono (fun r h c =>
      ⟨(h c).1.trans (Cert.ProjRefIdeal.Read.val_main_v116_eq m c),
        (h c).2.1.trans (Cert.ProjRefIdeal.Read.val_main_v119_eq m c),
        (h c).2.2.1.trans (Cert.ProjRefIdeal.Read.val_main_v122_eq m c),
        (h c).2.2.2.1.trans (Cert.ProjRefIdeal.Read.val_main_v124_eq (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg5))),
        (h c).2.2.2.2.1.trans (Cert.ProjRefIdeal.Read.val_main_v127_eq (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg5))),
        (h c).2.2.2.2.2.1.trans (Cert.ProjRefIdeal.Read.val_main_v139_eq (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg5)) (m ((c.tc : Thread Cert.ProjRefIdeal.nD Cert.ProjRefIdeal.τ).loc Cert.ProjRefIdeal.main_arg6))),
        (h c).2.2.2.2.2.2⟩)
    (Cert.ProjRefIdeal.Value.run (F := Ideal) m g)

/-- The Proj call and its reference end with equal results, all six of them. -/
theorem algebraic_Proj : Cert.algebraic_ProjIdeal_ProjRefIdeal := by
  intro m g m' g' _ hagree
  refine ⟨fun c => Cert.ProjRefIdeal.Read.val_main_v116 (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg7)) (m ((c.tc : Thread Cert.ProjIdeal.nD Cert.ProjIdeal.τ).loc Cert.ProjIdeal.main_arg8)),
    fun c => Cert.ProjRefIdeal.Read.val_main_v119 (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg9)) (m ((c.tc : Thread Cert.ProjIdeal.nD Cert.ProjIdeal.τ).loc Cert.ProjIdeal.main_arg10)),
    fun c => Cert.ProjRefIdeal.Read.val_main_v122 (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg5)) (m ((c.tc : Thread Cert.ProjIdeal.nD Cert.ProjIdeal.τ).loc Cert.ProjIdeal.main_arg9)) (m ((c.tc : Thread Cert.ProjIdeal.nD Cert.ProjIdeal.τ).loc Cert.ProjIdeal.main_arg10)),
    fun c => Cert.ProjRefIdeal.Read.val_main_v124 (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg5)),
    fun c => Cert.ProjRefIdeal.Read.val_main_v127 (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg5)),
    fun c => Cert.ProjRefIdeal.Read.val_main_v139 (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)),
    kernel_Proj m g, (θ_run Cert.ProjRefIdeal.defs _ _).mono (fun r h c => ?_) (reference_Proj m' g')⟩
  obtain ⟨a0, a1, a2, a3, a4, a5, a6, a7, a8, a9, a10⟩ := hagree c
  refine ⟨(h c).1.trans ?_, (h c).2.1.trans ?_, (h c).2.2.1.trans ?_, (h c).2.2.2.1.trans ?_, (h c).2.2.2.2.1.trans ?_, (h c).2.2.2.2.2.1.trans ?_, (h c).2.2.2.2.2.2⟩
  · rw [a0, a1, a2, a3, a4, a5, a7, a8]
  · rw [a0, a1, a2, a3, a4, a5, a9, a10]
  · rw [a0, a1, a2, a5, a9, a10]
  · rw [a0, a1, a2, a5]
  · rw [a0, a1, a2, a5]
  · rw [a0, a1, a2, a5, a6]

end Cert.Pairs
-- ==== Proof.PoolMath.lean ====
module

public import proofs.«01_k».proof.Proof.Gen.PoolIdeal.Frame
public import proofs.«01_k».proof.Proof.Gen.PoolRefIdeal.Read
public import Idealize.ShloMosaic.Lib.Pipeline.ValueKit
public import Idealize.ShloMosaic.Lib.Pointwise

@[expose] public section

set_option maxRecDepth 16384

/-! The pooling call: its windows as sums of ones and zeros, and its small integers as words. -/

noncomputable section

namespace Cert.PoolIdeal.Result

open Idealize.ShloMosaic

/-- A band's row times the positions around a block is the sum over the window's positions in the sample. -/
theorem window (f : ℕ → EReal) (T0 r l : ℕ) (hT : T0 + 256 ≤ 8192) (hr : r < 256) (hl : l ≤ 8) :
    ∑ c : Fin 288, (if r + 16 ≤ c.val + l ∧ c.val + 1 ≤ r + 16 + l then (1 : EReal) else 0)
        * (if 16 ≤ T0 + c.val ∧ T0 + c.val < 8208 then f (T0 + c.val - 16) else 0)
      = ∑ u : Fin 8192, if T0 + r ≤ u.val + l ∧ u.val + 1 ≤ T0 + r + l then f u.val else 0 := by
  have e : ∀ c : Fin 288, (if r + 16 ≤ c.val + l ∧ c.val + 1 ≤ r + 16 + l then (1 : EReal) else 0)
        * (if 16 ≤ T0 + c.val ∧ T0 + c.val < 8208 then f (T0 + c.val - 16) else 0)
      = if (r + 16 ≤ c.val + l ∧ c.val + 1 ≤ r + 16 + l) ∧ 16 ≤ T0 + c.val ∧ T0 + c.val < 8208
          then f (T0 + c.val - 16) else 0 := fun c => by
    by_cases h1 : r + 16 ≤ c.val + l ∧ c.val + 1 ≤ r + 16 + l
    · by_cases h2 : 16 ≤ T0 + c.val ∧ T0 + c.val < 8208
      · rw [if_pos h1, if_pos h2, if_pos ⟨h1, h2⟩, one_mul]
      · rw [if_neg h2, mul_zero, if_neg fun h => h2 h.2]
    · rw [if_neg h1, zero_mul, if_neg fun h => h1 h.1]
  rw [Finset.sum_congr rfl fun c _ => e c]
  rw [← Finset.sum_filter, ← Finset.sum_filter]
  refine Finset.sum_bij' (fun c hc => (⟨T0 + c.val - 16, by
      have := (Finset.mem_filter.mp hc).2; omega⟩ : Fin 8192)) (fun u hu => (⟨u.val + 16 - T0, by
      have := (Finset.mem_filter.mp hu).2; omega⟩ : Fin 288)) ?_ ?_ ?_ ?_ ?_
  · intro c hc
    have h := (Finset.mem_filter.mp hc).2
    refine Finset.mem_filter.mpr ⟨Finset.mem_univ _, ?_⟩
    show T0 + r ≤ T0 + c.val - 16 + l ∧ T0 + c.val - 16 + 1 ≤ T0 + r + l
    omega
  · intro u hu
    have h := (Finset.mem_filter.mp hu).2
    have := u.isLt
    refine Finset.mem_filter.mpr ⟨Finset.mem_univ _, ?_⟩
    show (r + 16 ≤ u.val + 16 - T0 + l ∧ u.val + 16 - T0 + 1 ≤ r + 16 + l) ∧ 16 ≤ T0 + (u.val + 16 - T0) ∧ T0 + (u.val + 16 - T0) < 8208
    omega
  · intro c hc
    have h := (Finset.mem_filter.mp hc).2
    refine Fin.ext ?_
    show T0 + c.val - 16 + 16 - T0 = c.val
    omega
  · intro u hu
    have h := (Finset.mem_filter.mp hu).2
    refine Fin.ext ?_
    show T0 + (u.val + 16 - T0) - 16 = u.val
    omega
  · intro c hc
    rfl

/-- A small natural number's word, read as a signed number. -/
theorem word (n : ℕ) (h : n < 65536) : (BitVec.ofNat 32 n).toInt = n := by
  rw [BitVec.toInt_eq_toNat_cond, BitVec.toNat_ofNat]
  have : n % 2 ^ 32 = n := Nat.mod_eq_of_lt (by omega)
  rw [this, if_pos (by omega)]

/-- A difference of small words, read as a signed number. -/
theorem word_sub (x y : BitVec 32) (hx : -1000000 < x.toInt ∧ x.toInt < 1000000) (hy : -1000000 < y.toInt ∧ y.toInt < 1000000) :
    (IntOp.subi x y).toInt = x.toInt - y.toInt := by
  show (x - y).toInt = _
  rw [BitVec.toInt_sub]
  exact Int.bmod_eq_of_le (by omega) (by omega)

/-- A sum of small words, read as a signed number. -/
theorem word_add (x y : BitVec 32) (hx : -1000000 < x.toInt ∧ x.toInt < 1000000) (hy : -1000000 < y.toInt ∧ y.toInt < 1000000) :
    (IntOp.addi x y).toInt = x.toInt + y.toInt := by
  show (x + y).toInt = _
  rw [BitVec.toInt_add]
  exact Int.bmod_eq_of_le (by omega) (by omega)

/-- The signed comparison of two words. -/
theorem sle_word (x y : BitVec 32) : IntOp.cmpi .sle x y = if x.toInt ≤ y.toInt then 1#1 else 0#1 := by
  by_cases h : x.toInt ≤ y.toInt <;> simp [IntOp.cmpi, BitVec.sle, h]

/-- The signed comparison of two words, the other way round. -/
theorem sge_word (x y : BitVec 32) : IntOp.cmpi .sge x y = if y.toInt ≤ x.toInt then 1#1 else 0#1 := by
  by_cases h : y.toInt ≤ x.toInt <;> simp [IntOp.cmpi, BitVec.sle, h]

/-- Both of two tests. -/
theorem and_word (P Q : Prop) [Decidable P] [Decidable Q] :
    IntOp.andi (if P then 1#1 else 0#1) (if Q then 1#1 else 0#1) = if P ∧ Q then 1#1 else 0#1 := by
  by_cases hP : P <;> by_cases hQ : Q <;> simp [IntOp.andi, hP, hQ]

/-- The reference's test whether a position is inside the window. -/
theorem inside (T u l : ℕ) (hT : T < 8192) (hu : u < 8192) (hl : l ≤ 8) (a b : EReal) :
    Scalar.select (IntOp.andi (IntOp.cmpi .sle (IntOp.subi (BitVec.ofNat 32 T) (BitVec.ofNat 32 l)) (BitVec.ofNat 32 u))
        (IntOp.cmpi .sle (BitVec.ofNat 32 u) (IntOp.addi (BitVec.ofNat 32 T) (IntOp.subi (BitVec.ofNat 32 l) 1#32)))) a b
      = if T ≤ u + l ∧ u + 1 ≤ T + l then a else b := by
  have hT' := word T (by omega)
  have hu' := word u (by omega)
  have hl' := word l (by omega)
  have h1 : (1#32 : BitVec 32).toInt = 1 := by decide
  have e1 := word_sub (BitVec.ofNat 32 T) (BitVec.ofNat 32 l) (by omega) (by omega)
  have e2 := word_sub (BitVec.ofNat 32 l) 1#32 (by omega) (by omega)
  have e3 := word_add (BitVec.ofNat 32 T) (IntOp.subi (BitVec.ofNat 32 l) 1#32) (by omega) (by omega)
  rw [sle_word, sle_word, and_word, e1, e3, e2, hT', hu', hl', h1]
  by_cases h : T ≤ u + l ∧ u + 1 ≤ T + l
  · rw [if_pos h, if_pos (by omega)]; rfl
  · rw [if_neg h, if_neg (by omega)]; rfl

/-- A band's entry: one inside the window, zero outside. -/
theorem band_word (r c l : ℕ) (hr : r < 256) (hc : c < 288) (hl : l ≤ 8) (lo hi : BitVec 32) (hlo : lo.toInt = -l)
    (hhi : hi.toInt = l - 1) :
    FloatOps.uitofp (F := Ideal) .f32 (IntOp.andi
        (IntOp.cmpi .sge (IntOp.subi (IntOp.subi (BitVec.ofNat 32 c) 16#32) (BitVec.ofNat 32 r)) lo)
        (IntOp.cmpi .sle (IntOp.subi (IntOp.subi (BitVec.ofNat 32 c) 16#32) (BitVec.ofNat 32 r)) hi))
      = if r + 16 ≤ c + l ∧ c + 1 ≤ r + 16 + l then (1 : EReal) else 0 := by
  have hr' := word r (by omega)
  have hc' := word c (by omega)
  have h16 : (16#32 : BitVec 32).toInt = 16 := by decide
  have e1 := word_sub (BitVec.ofNat 32 c) 16#32 (by omega) (by omega)
  have e2 := word_sub (IntOp.subi (BitVec.ofNat 32 c) 16#32) (BitVec.ofNat 32 r) (by omega) (by omega)
  rw [sle_word, sge_word, and_word, e2, e1, hr', hc', h16, hlo, hhi]
  by_cases h : r + 16 ≤ c + l ∧ c + 1 ≤ r + 16 + l
  · rw [if_pos h, if_pos (by omega)]
    show (((1#1 : BitVec 1).toNat : ℝ) : EReal) = 1
    simp
  · rw [if_neg h, if_neg (by omega)]
    show (((0#1 : BitVec 1).toNat : ℝ) : EReal) = 0
    simp

/-- The number of a window's positions in the sample, as a word. -/
abbrev count (T l : BitVec 32) : BitVec 32 :=
  IntOp.subi (IntOp.minsi (IntOp.addi (IntOp.addi T (IntOp.subi l 1#32)) 1#32) 8192#32) (IntOp.maxsi (IntOp.subi T l) 0#32)

end Cert.PoolIdeal.Result
-- ==== Proof.PoolBand.lean ====
module

public import proofs.«01_k».proof.Proof.PoolMath
public import Idealize.ShloMosaic.Lib.StableHlo.ReadAt

@[expose] public section

set_option maxRecDepth 16384

/-! The pooling call: the bands the host prepares, read at an index. -/

noncomputable section

namespace Cert.PoolIdeal.Result

open Idealize.ShloMosaic Idealize.ShloMosaic.TcCoe Idealize.SL.Sem
open Idealize.ShloMosaic.Pipeline (Dat)
open Cert.PoolIdeal Cert.PoolIdeal.Gen

variable (m : (ℓ : Loc nD τ sig) → Buf (Elt Ideal) ℓ)

/-- How far a column's position lies from a row's. -/
def dist : IVec S256x288 32 :=
  subi (broadcastInDim S256x288 ![0, 1] bcast_S1x288_S256x288_0_1
      (subi (broadcastInDim S1x288 ![1] bcast_S288_S1x288_1 (iotaInDim S288 32 0)) (broadcastInDim S1x288 ![] bcast_S_S1x288 (constantI S_ 32 16#32))))
    (broadcastInDim S256x288 ![0, 1] bcast_S256x1_S256x288_0_1 (broadcastInDim S256x1 ![0] bcast_S256_S256x1_0 (iotaInDim S256 32 0)))

/-- One band's tests: the distance between two bounds. -/
def bits (lo hi : BitVec 32) : IVec S1x256x288 1 :=
  broadcastInDim S1x256x288 ![1, 2] bcast_S256x288_S1x256x288_1_2
    (andi (cmpi .sge dist (broadcastInDim S256x288 ![] bcast_S_S256x288 (constantI S_ 32 lo)))
      (cmpi .sle dist (broadcastInDim S256x288 ![] bcast_S_S256x288 (constantI S_ 32 hi))))

/-- The four bands. -/
def bands : FVec Ideal S4x256x288 .bf16 :=
  truncf .bf16 (uitofp (F := Ideal) .f32 (concatenate S4x256x288 0 [⟨S1x256x288, bits 4294967295#32 0#32⟩, ⟨S1x256x288, bits 4294967294#32 1#32⟩,
    ⟨S1x256x288, bits 4294967292#32 3#32⟩, ⟨S1x256x288, bits 4294967288#32 7#32⟩] concatenates_S1x256x288_S1x256x288_S1x256x288_S1x256x288_S4x256x288_d0)) bitsLt_bf16_f32

set_option maxHeartbeats 2000000 in
/-- The region finds the bands as the host prepared them. -/
theorem V_v37 (c : Dev nD) : V m c main_v37 = bands := by
  unfold V
  after_reads_simp
  rfl

/-- A band's tests at an index. -/
theorem bits_at (lo hi : BitVec 32) (y : S1x256x288.Idx) : bits lo hi y = IntOp.andi
        (IntOp.cmpi .sge (IntOp.subi (IntOp.subi (BitVec.ofNat 32 (y 2).val) 16#32) (BitVec.ofNat 32 (y 1).val)) lo)
        (IntOp.cmpi .sle (IntOp.subi (IntOp.subi (BitVec.ofNat 32 (y 2).val) 16#32) (BitVec.ofNat 32 (y 1).val)) hi) := by
  pointwise [bits, dist]

set_option maxHeartbeats 1000000 in
/-- The four bands at an index: one inside the group's window, zero outside. -/
theorem bands_at (g : Fin 4) (r : Fin 256) (x : Fin 288) : (bands (ix3 g r x) : EReal)
    = if r.val + 16 ≤ x.val + 2 ^ g.val ∧ x.val + 1 ≤ r.val + 16 + 2 ^ g.val then 1 else 0 := by
  have hr := r.isLt
  have hx := x.isLt
  match g with
  | 0 => refine Eq.trans ?_ (band_word r.val x.val 1 hr hx (by omega) 4294967295#32 0#32 (by decide) (by decide)); pointwise [bands, bits, dist]
  | 1 => refine Eq.trans ?_ (band_word r.val x.val 2 hr hx (by omega) 4294967294#32 1#32 (by decide) (by decide)); pointwise [bands, bits, dist]
  | 2 => refine Eq.trans ?_ (band_word r.val x.val 4 hr hx (by omega) 4294967292#32 3#32 (by decide) (by decide)); pointwise [bands, bits, dist]
  | 3 => refine Eq.trans ?_ (band_word r.val x.val 8 hr hx (by omega) 4294967288#32 7#32 (by decide) (by decide)); pointwise [bands, bits, dist]

set_option maxHeartbeats 1000000 in
/-- The region finds the groups' weights as the host cast them. -/
theorem V_v0 (c : Dev nD) : V m c main_v0 = truncf (F := Ideal) .bf16 (m (c, main_arg1) : FVec Ideal S4x128x128 .f32) bitsLt_bf16_f32 := by
  unfold V
  after_reads_simp

set_option maxHeartbeats 1000000 in
/-- The region finds the scale as the host reshaped it. -/
theorem V_v1 (c : Dev nD) : V m c main_v1 = shapeCast S1x512 (m (c, main_arg2)) shapeCasts_S512_S1x512 := by
  unfold V
  after_reads_simp
  try rfl

end Cert.PoolIdeal.Result
-- ==== Proof.PoolValue.lean ====
module

public import proofs.«01_k».proof.Proof.PoolBand

@[expose] public section

set_option maxRecDepth 16384

/-! The pooling call: the array the kernel leaves is the reference's term, group by group. -/

noncomputable section

namespace Cert.PoolIdeal.Result

open Idealize.ShloMosaic Idealize.ShloMosaic.TcCoe Idealize.SL.Sem
open Idealize.ShloMosaic.Pipeline (Dat)
open Cert.PoolIdeal Cert.PoolIdeal.Gen Cert.PoolRefIdeal.Read

variable (m : (ℓ : Loc nD τ sig) → Buf (Elt Ideal) ℓ)

/-- The reference's result of the call's own arguments. -/
abbrev REF (p : FVec Ideal S16384x512 .f32) (w : FVec Ideal S4x128x128 .f32) (s : FVec Ideal S512 .f32) :
    FVec Ideal S16384x512 .bf16 := val_main_v50 (F := Ideal) p w s

/-- Where each window's block sits at a grid point. -/
theorem idx : ∀ t : Fin cfg0.N, win0_0.index t = ![t.val, 0] ∧ win0_1.index t = ![16 * t.val - 1, 0]
    ∧ win0_2.index t = ![min (16 * t.val + 16) 1023, 0] ∧ win0_3.index t = ![0, 0, 0] ∧ win0_4.index t = ![0, 0, 0]
    ∧ win0_5.index t = ![0, 0] ∧ win0_6.index t = ![t.val, 0] ∧ t.val < 64 :=
  (by decide +kernel : ∀ t : Fin grid0.N, _)

/-- A row of the call's first argument, by its number. -/
def row (p : FVec Ideal S16384x512 .f32) (n ch : ℕ) : EReal :=
  p (ix2 ⟨n % 16384, by omega⟩ ⟨ch % 512, by omega⟩)

/-- One entry of the result: the window's mean less the position itself, through the group's weights, scaled. -/
def entry (p : FVec Ideal S16384x512 .f32) (w : FVec Ideal S4x128x128 .f32) (b T l : ℕ) (g : Fin 4) (d : Fin 128) : EReal :=
  ∑ k : Fin 128, w (ix3 g k d) * (Ideal.div (∑ u : Fin 8192, if T ≤ u.val + l ∧ u.val + 1 ≤ T + l then
      row p (8192 * b + u.val) (g.val * 128 + k.val) else 0)
    (FloatOps.sitofp (F := Ideal) .f32 (count (BitVec.ofNat 32 T) (BitVec.ofNat 32 l))) - row p (8192 * b + T) (g.val * 128 + k.val))

/-- Half a group's window as a word. -/
theorem half : ∀ g : Fin 4, IntOp.shli .host 1#32 (BitVec.ofNat 32 g.val) = BitVec.ofNat 32 (2 ^ g.val) := by decide +kernel

set_option maxHeartbeats 1000000 in
/-- The reference's result at an index. -/
theorem REF_at (p : FVec Ideal S16384x512 .f32) (w : FVec Ideal S4x128x128 .f32) (s : FVec Ideal S512 .f32) (i : S16384x512.Idx) :
    (REF p w s i : EReal) = entry p w ((i 0).val / 8192) ((i 0).val % 8192)
        (2 ^ ((i 1).val / 128)) ⟨(i 1).val / 128, by have := (i 1).isLt; simp at this; omega⟩ ⟨(i 1).val % 128, by omega⟩
      * s (ix1 (i 1)) := by
  have h1 : (i 1).val < 512 := (i 1).isLt
  have h0 : (i 0).val < 16384 := (i 0).isLt
  have hz : (constant (F := Ideal) PoolRefIdeal.S_ FTy.f32 0#32 ix0 : EReal) = 0 := by
    show Ideal.ofBits .f32 0x00000000#32 = 0
    simp [Ideal.ofBits, Ideal.ieee, -EReal.coe_mul]
  have hg := half ⟨(i 1).val / 128, by omega⟩
  have hl : 2 ^ ((i 1).val / 128) ≤ 8 := le_trans (Nat.pow_le_pow_right (by omega) (by omega : (i 1).val / 128 ≤ 3)) (by norm_num)
  pointwise [REF, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_c, val_main_c_0, val_main_c_2, val_main_c_3, val_main_c_4, val_main_cst, val_main_cst_1, val_main_call0_v0, val_main_call0_v1, val_main_call0_v2, val_main_call0_v3]
  refine congrArg (· * _) (Finset.sum_congr rfl fun k _ => congrArg (_ * ·) ?_)
  refine congrArg₂ (· - ·) (congrArg₂ Ideal.div (Finset.sum_congr rfl fun u _ => ?_) ?_) ?_
  · rw [hg, inside _ _ _ (by omega) u.isLt hl]
    refine if_congr Iff.rfl ?_ hz
    refine congrArg p (congrArg₂ ix2 (Fin.ext ?_) (Fin.ext ?_))
    · show (i 0).val / 8192 * 8192 + u.val = (8192 * ((i 0).val / 8192) + u.val) % 16384
      have := u.isLt; omega
    · show (i 1).val / 128 * 128 + k.val = ((i 1).val / 128 * 128 + k.val) % 512
      have := k.isLt; omega
  · rw [hg]
  · refine congrArg p (congrArg₂ ix2 (Fin.ext ?_) (Fin.ext ?_))
    · show (i 0).val = (8192 * ((i 0).val / 8192) + (i 0).val % 8192) % 16384
      omega
    · show (i 1).val / 128 * 128 + k.val = ((i 1).val / 128 * 128 + k.val) % 512
      have := k.isLt; omega

/-- Whether a block has rows of its sample before it, as the body computes it. -/
abbrev before (i : grid0.Coords) : BitVec 32 :=
  Scalar.extui (Scalar.cmpi .sgt (Scalar.muli (Scalar.select (Scalar.andi (Scalar.xori (Scalar.cmpi .slt (Scalar.remsi (BitVec.ofNat 32 (i 0).val) (Scalar.select (Scalar.cmpi .eq 32#32 0#32) 1#32 32#32)) 0#32) (Scalar.cmpi .slt (Scalar.select (Scalar.cmpi .eq 32#32 0#32) 1#32 32#32) 0#32)) (Scalar.cmpi .ne (Scalar.remsi (BitVec.ofNat 32 (i 0).val) (Scalar.select (Scalar.cmpi .eq 32#32 0#32) 1#32 32#32)) 0#32)) (Scalar.addi (Scalar.remsi (BitVec.ofNat 32 (i 0).val) (Scalar.select (Scalar.cmpi .eq 32#32 0#32) 1#32 32#32)) (Scalar.select (Scalar.cmpi .eq 32#32 0#32) 1#32 32#32)) (Scalar.remsi (BitVec.ofNat 32 (i 0).val) (Scalar.select (Scalar.cmpi .eq 32#32 0#32) 1#32 32#32))) 256#32) 0#32)

/-- Whether a block has rows of its sample after it, as the body computes it. -/
abbrev after (i : grid0.Coords) : BitVec 32 :=
  Scalar.extui (Scalar.cmpi .slt (Scalar.addi (Scalar.muli (Scalar.select (Scalar.andi (Scalar.xori (Scalar.cmpi .slt (Scalar.remsi (BitVec.ofNat 32 (i 0).val) (Scalar.select (Scalar.cmpi .eq 32#32 0#32) 1#32 32#32)) 0#32) (Scalar.cmpi .slt (Scalar.select (Scalar.cmpi .eq 32#32 0#32) 1#32 32#32) 0#32)) (Scalar.cmpi .ne (Scalar.remsi (BitVec.ofNat 32 (i 0).val) (Scalar.select (Scalar.cmpi .eq 32#32 0#32) 1#32 32#32)) 0#32)) (Scalar.addi (Scalar.remsi (BitVec.ofNat 32 (i 0).val) (Scalar.select (Scalar.cmpi .eq 32#32 0#32) 1#32 32#32)) (Scalar.select (Scalar.cmpi .eq 32#32 0#32) 1#32 32#32)) (Scalar.remsi (BitVec.ofNat 32 (i 0).val) (Scalar.select (Scalar.cmpi .eq 32#32 0#32) 1#32 32#32))) 256#32) 256#32) 8192#32)

/-- The first row of a block in its sample, as the body computes it. -/
abbrev start (i : grid0.Coords) : BitVec 32 :=
  Scalar.muli (Scalar.select (Scalar.andi (Scalar.xori (Scalar.cmpi .slt (Scalar.remsi (BitVec.ofNat 32 (i 0).val) (Scalar.select (Scalar.cmpi .eq 32#32 0#32) 1#32 32#32)) 0#32) (Scalar.cmpi .slt (Scalar.select (Scalar.cmpi .eq 32#32 0#32) 1#32 32#32) 0#32)) (Scalar.cmpi .ne (Scalar.remsi (BitVec.ofNat 32 (i 0).val) (Scalar.select (Scalar.cmpi .eq 32#32 0#32) 1#32 32#32)) 0#32)) (Scalar.addi (Scalar.remsi (BitVec.ofNat 32 (i 0).val) (Scalar.select (Scalar.cmpi .eq 32#32 0#32) 1#32 32#32)) (Scalar.select (Scalar.cmpi .eq 32#32 0#32) 1#32 32#32)) (Scalar.remsi (BitVec.ofNat 32 (i 0).val) (Scalar.select (Scalar.cmpi .eq 32#32 0#32) 1#32 32#32))) 256#32

/-- The three words at a grid point. -/
theorem words : ∀ t : Fin cfg0.N, before (grid0.coords t) = (if t.val % 32 = 0 then 0#32 else 1#32)
    ∧ after (grid0.coords t) = (if t.val % 32 = 31 then 0#32 else 1#32)
    ∧ start (grid0.coords t) = BitVec.ofNat 32 (256 * (t.val % 32)) :=
  (by decide +kernel : ∀ t : Fin grid0.N, _)

/-- A row times the word zero as a number. -/
theorem times_zero (v : EReal) : v * (((0#32 : BitVec 32).toInt : ℝ) : EReal) = 0 := by
  show v * (((0 : ℤ) : ℝ) : EReal) = 0
  simp

/-- A row times the word one as a number. -/
theorem times_one (v : EReal) : v * (((1#32 : BitVec 32).toInt : ℝ) : EReal) = v := by
  show v * (((1 : ℤ) : ℝ) : EReal) = v
  simp

/-- The rows around a block: the sixteen before, the block's and the sixteen after. -/
theorem pay2_at (i : grid0.Coords) (v18 : Vec Ideal S256x512 .f32) (v19 v22 : Vec Ideal S16x512 .f32) (y : S288x512.Idx) :
    (k0_pay2 (F := Ideal) i v18 v19 v22 y : EReal)
      = if h : (y 0).val < 16 then v19 (ix2 ⟨(y 0).val, h⟩ (y 1)) * (((before i).toInt : ℝ) : EReal)
        else if h : (y 0).val - 16 < 256 then v18 (ix2 ⟨(y 0).val - 16, h⟩ (y 1))
        else v22 (ix2 ⟨(y 0).val - 16 - 256, by have := (y 0).isLt; simp at this; omega⟩ (y 1)) * (((after i).toInt : ℝ) : EReal) := by
  pointwise [k0_pay2]

set_option maxHeartbeats 1000000 in
/-- The rows around a grid point's block: the argument's inside the sample, zero outside. -/
theorem around (c : Dev nD) (t : Fin cfg0.N) (j : Fin 288) (ch : Fin 512) :
    (k0_pay2 (F := Ideal) (grid0.coords t) (iblk m c 0 t) (iblk m c 1 t) (iblk m c 2 t) (ix2 j ch) : EReal)
      = if 16 ≤ 256 * (t.val % 32) + j.val ∧ 256 * (t.val % 32) + j.val < 8208 then
          row (m ((c : Thread nD τ).loc main_arg0)) (8192 * (t.val / 32) + (256 * (t.val % 32) + j.val - 16)) ch.val else 0 := by
  obtain ⟨hb, ha, -⟩ := words t
  have ht := (idx t).2.2.2.2.2.2.2
  have hj := j.isLt
  have hch := ch.isLt
  rw [pay2_at, hb, ha]
  by_cases h1 : j.val < 16
  · rw [dif_pos (show (ix2 j ch 0).val < 16 from h1)]
    by_cases h0 : t.val % 32 = 0
    · rw [if_pos h0, if_neg (by omega)]
      exact times_zero _
    · rw [if_neg h0, if_pos (by omega)]
      refine (times_one _).trans ?_
      unfold row
      blk_point [iblk, V, idx t]
  · rw [dif_neg (show ¬(ix2 j ch 0).val < 16 from h1)]
    by_cases h2 : j.val - 16 < 256
    · rw [dif_pos (show (ix2 j ch 0).val - 16 < 256 from h2), if_pos (by omega)]
      unfold row
      blk_point [iblk, V, idx t]
    · rw [dif_neg (show ¬(ix2 j ch 0).val - 16 < 256 from h2)]
      by_cases h0 : t.val % 32 = 31
      · rw [if_pos h0, if_neg (by omega)]
        exact times_zero _
      · rw [if_neg h0, if_pos (by omega)]
        refine (times_one _).trans ?_
        unfold row
        blk_point [iblk, V, idx t]

/-- The position in its sample of a block's row. -/
theorem pos_at (t : Fin cfg0.N) (r : Fin 256) (k : Fin 128) :
    k0_pay3 (grid0.coords t) (ix2 r k) = BitVec.ofNat 32 (256 * (t.val % 32) + r.val) := by
  obtain ⟨-, -, hs⟩ := words t
  have e : k0_pay3 (grid0.coords t) (ix2 r k) = IntOp.addi (start (grid0.coords t)) (BitVec.ofNat 32 r.val) := by
    pointwise [k0_pay3]
  rw [e, hs]
  exact (BitVec.ofNat_add _ _).symm

set_option maxHeartbeats 1000000 in
/-- One group of the body's sums at a row: the reference's entry. -/
theorem group (c : Dev nD) (t : Fin cfg0.N) (g : Fin 4) (r : Fin 256) (d : Fin 128) (ch : Fin 128 → Fin 512)
    (hch : ∀ k, (ch k).val = g.val * 128 + k.val) (B : Fin 288 → EReal) (hB : ∀ x, B x = bands (ix3 g r x))
    (W : Fin 128 → EReal) (hW : ∀ k, W k = m ((c : Thread nD τ).loc main_arg1) (ix3 g k d)) (n : Fin 128 → BitVec 32)
    (hn : ∀ k, n k = count (BitVec.ofNat 32 (256 * (t.val % 32) + r.val)) (BitVec.ofNat 32 (2 ^ g.val))) :
    ∑ k : Fin 128, (Ideal.div (∑ x : Fin 288, B x * (k0_pay2 (F := Ideal) (grid0.coords t) (iblk m c 0 t) (iblk m c 1 t) (iblk m c 2 t) (ix2 x (ch k)) : EReal))
        (FloatOps.sitofp (F := Ideal) .f32 (n k)) - (iblk m c 0 t (ix2 r (ch k)) : EReal)) * W k
      = entry (m ((c : Thread nD τ).loc main_arg0)) (m ((c : Thread nD τ).loc main_arg1)) (t.val / 32) (256 * (t.val % 32) + r.val)
          (2 ^ g.val) g d := by
  have ht := (idx t).2.2.2.2.2.2.2
  have hl : 2 ^ g.val ≤ 8 := le_trans (Nat.pow_le_pow_right (by omega) (by omega : g.val ≤ 3)) (by norm_num)
  have hr := r.isLt
  unfold entry
  refine Finset.sum_congr rfl fun k _ => (mul_comm _ _).trans ?_
  rw [hW, hn]
  refine congrArg₂ (fun a b : EReal => a * b) rfl (congrArg₂ (fun a b : EReal => a - b) (congrArg (Ideal.div · _) ?_) ?_)
  · simp only [hB, bands_at, around, hch]
    exact window (fun u => row (m ((c : Thread nD τ).loc main_arg0)) (8192 * (t.val / 32) + u) (g.val * 128 + k.val)) _ _ _ (by omega) hr hl
  · have := hch k
    have := k.isLt
    have := g.isLt
    unfold row
    blk_point [iblk, V, idx t]

/-- The first group of a block. -/
theorem pay6_at (v18 : Vec Ideal S256x512 .f32) (v26 : FVec Ideal S288x512 .bf16) (v35 v37 : IVec S256x128 32)
    (v42 : Vec Ideal S1x256x288 .bf16) (v50 : Vec Ideal S1x128x128 .bf16) (r : Fin 256) (d : Fin 128) :
    (k0_pay6 (F := Ideal) v18 v26 v35 v37 0#32 v42 v50 (ix2 r d) : EReal)
      = ∑ k : Fin 128, (Ideal.div (∑ x : Fin 288, v42 (ix3 0 r x) * v26 (ix2 x ⟨k.val, by omega⟩))
          (FloatOps.sitofp (F := Ideal) .f32 (IntOp.subi (v35 (ix2 r k)) (IntOp.maxsi (v37 (ix2 r k)) 0#32)))
          - v18 (ix2 r ⟨k.val, by omega⟩)) * v50 (ix3 0 k d) := by
  pointwise [k0_pay6]

/-- The second group of a block. -/
theorem pay7_at (v18 : Vec Ideal S256x512 .f32) (v26 : FVec Ideal S288x512 .bf16) (v29 : IVec S256x128 32)
    (v42 : Vec Ideal S1x256x288 .bf16) (v50 : Vec Ideal S1x128x128 .bf16) (r : Fin 256) (d : Fin 128) :
    (k0_pay7 (F := Ideal) v18 v26 v29 v42 v50 (ix2 r d) : EReal)
      = ∑ k : Fin 128, (Ideal.div (∑ x : Fin 288, v42 (ix3 0 r x) * v26 (ix2 x ⟨128 + k.val, by omega⟩))
          (FloatOps.sitofp (F := Ideal) .f32 (count (v29 (ix2 r k)) (BitVec.ofNat 32 2)))
          - v18 (ix2 r ⟨128 + k.val, by omega⟩)) * v50 (ix3 0 k d) := by
  pointwise [k0_pay7]
  rfl

/-- The third group of a block. -/
theorem pay8_at (v18 : Vec Ideal S256x512 .f32) (v26 : FVec Ideal S288x512 .bf16) (v29 : IVec S256x128 32)
    (v42 : Vec Ideal S1x256x288 .bf16) (v50 : Vec Ideal S1x128x128 .bf16) (r : Fin 256) (d : Fin 128) :
    (k0_pay8 (F := Ideal) v18 v26 v29 3#32 v42 v50 (ix2 r d) : EReal)
      = ∑ k : Fin 128, (Ideal.div (∑ x : Fin 288, v42 (ix3 0 r x) * v26 (ix2 x ⟨256 + k.val, by omega⟩))
          (FloatOps.sitofp (F := Ideal) .f32 (count (v29 (ix2 r k)) (BitVec.ofNat 32 4)))
          - v18 (ix2 r ⟨256 + k.val, by omega⟩)) * v50 (ix3 0 k d) := by
  pointwise [k0_pay8]
  rfl

/-- The last group's divisors. -/
theorem pay9_at (v29 : IVec S256x128 32) (y : S256x128.Idx) : (k0_pay9 (F := Ideal) v29 y : EReal)
    = FloatOps.sitofp (F := Ideal) .f32 (count (v29 y) (BitVec.ofNat 32 8)) := rfl

/-- The last group's sums. -/
theorem pay10_at (v26 : FVec Ideal S288x512 .bf16) (v42 : Vec Ideal S1x256x288 .bf16) (r : Fin 256) (k : Fin 128) :
    (k0_pay10 (F := Ideal) v26 v42 (ix2 r k) : EReal) = ∑ x : Fin 288, v42 (ix3 0 r x) * v26 (ix2 x ⟨384 + k.val, by omega⟩) := by
  pointwise [k0_pay10]

/-- What the body stores, group by group. -/
theorem pay1_at (v18 : Vec Ideal S256x512 .f32) (v52 v75 v98 v110 v114 : FVec Ideal S256x128 .f32) (v119 : Vec Ideal S1x128x128 .bf16)
    (v123 : Vec Ideal S1x512 .f32) (y : S256x512.Idx) :
    (k0_pay1 (F := Ideal) v18 v52 v75 v98 v110 v114 v119 v123 y : EReal)
      = (if h : (y 1).val < 128 then v52 (ix2 (y 0) ⟨(y 1).val, h⟩)
        else if h : (y 1).val - 128 < 128 then v75 (ix2 (y 0) ⟨(y 1).val - 128, h⟩)
        else if h : (y 1).val - 128 - 128 < 128 then v98 (ix2 (y 0) ⟨(y 1).val - 128 - 128, h⟩)
        else ∑ k : Fin 128, (Ideal.div (v114 (ix2 (y 0) k)) (v110 (ix2 (y 0) k)) - v18 (ix2 (y 0) ⟨384 + k.val, by omega⟩))
          * v119 (ix3 0 k ⟨(y 1).val - 128 - 128 - 128, by have := (y 1).isLt; simp at this; omega⟩)) * v123 (ix2 0 (y 1)) := by
  pointwise [k0_pay1]

/-- The staged bands are the host's. -/
theorem iblk3 (c : Dev nD) (t : Fin cfg0.N) (j : S4x256x288.Idx) : (iblk m c 3 t j : EReal) = bands j := by
  refine Eq.trans ?_ (congrFun (V_v37 m c) j)
  show V m c main_v37 (((cfg0.win 3).blk t).view.emb j) = V m c main_v37 j
  refine congrArg (V m c main_v37) ?_
  blk_ext [idx t]

/-- The staged weights are the argument's. -/
theorem iblk4 (c : Dev nD) (t : Fin cfg0.N) (j : S4x128x128.Idx) :
    (iblk m c 4 t j : EReal) = m ((c : Thread nD τ).loc main_arg1) j := by
  refine Eq.trans ?_ (congrFun (V_v0 m c) j)
  show V m c main_v0 (((cfg0.win 4).blk t).view.emb j) = V m c main_v0 j
  refine congrArg (V m c main_v0) ?_
  blk_ext [idx t]

/-- The staged scale is the argument's. -/
theorem iblk5 (c : Dev nD) (t : Fin cfg0.N) (d : Fin 512) :
    (iblk m c 5 t (ix2 0 d) : EReal) = m ((c : Thread nD τ).loc main_arg2) (ix1 d) := by
  have e : (iblk m c 5 t (ix2 0 d) : EReal) = V m c main_v1 (ix2 0 d) := by
    show V m c main_v1 (((cfg0.win 5).blk t).view.emb (ix2 0 d)) = V m c main_v1 (ix2 0 d)
    refine congrArg (V m c main_v1) ?_
    blk_ext [idx t]
  rw [e, V_v1]
  pointwise

/-- Equal places have equal entries. -/
theorem entry_congr (p : FVec Ideal S16384x512 .f32) (w : FVec Ideal S4x128x128 .f32) {b b' T T' l l' : ℕ} {g g' : Fin 4} {d d' : Fin 128}
    (hb : b = b') (hT : T = T') (hl : l = l') (hg : g = g') (hd : d = d') : entry p w b T l g d = entry p w b' T' l' g' d' := by
  subst hb; subst hT; subst hl; subst hg; subst hd; rfl

/-- The last group of a block. -/
theorem last_at (v18 : Vec Ideal S256x512 .f32) (v26 : FVec Ideal S288x512 .bf16) (v29 : IVec S256x128 32)
    (v42 : Vec Ideal S1x256x288 .bf16) (v50 : Vec Ideal S1x128x128 .bf16) (r : Fin 256) (d : Fin 128) :
    ∑ k : Fin 128, (Ideal.div (k0_pay10 (F := Ideal) v26 v42 (ix2 r k)) (k0_pay9 (F := Ideal) v29 (ix2 r k)) - (v18 (ix2 r ⟨384 + k.val, by omega⟩) : EReal))
        * (v50 (ix3 0 k d) : EReal)
      = ∑ k : Fin 128, (Ideal.div (∑ x : Fin 288, v42 (ix3 0 r x) * v26 (ix2 x ⟨384 + k.val, by omega⟩))
          (FloatOps.sitofp (F := Ideal) .f32 (count (v29 (ix2 r k)) (BitVec.ofNat 32 8)))
          - v18 (ix2 r ⟨384 + k.val, by omega⟩)) * v50 (ix3 0 k d) := by
  simp only [pay9_at, pay10_at]

set_option maxHeartbeats 1600000 in
/-- The first group a block stores is the reference's. -/
theorem group0 (c : Dev nD) (t : Fin cfg0.N) (r : Fin 256) (d : Fin 128) :
    (k0_pay6 (F := Ideal) (iblk m c 0 t) (k0_pay2 (grid0.coords t) (iblk m c 0 t) (iblk m c 1 t) (iblk m c 2 t))
        (k0_pay4 (grid0.coords t)) (k0_pay5 (grid0.coords t)) (0#32) (View.ld (iblk m c 3 t) r0_2) (View.ld (iblk m c 4 t) r0_3) (ix2 r d) : EReal)
      = entry (m ((c : Thread nD τ).loc main_arg0)) (m ((c : Thread nD τ).loc main_arg1)) (t.val / 32) (256 * (t.val % 32) + r.val)
          (2 ^ ((0 : Fin 4)).val) 0 d := by
  refine (pay6_at _ _ _ _ _ _ r d).trans (group m c t 0 r d (fun k => ⟨k.val, by omega⟩) (fun k => by show k.val = 0 * 128 + k.val; omega)
    _ (fun x => ?_) _ (fun k => ?_) _ (fun k => ?_))
  · refine (iblk3 m c t _).trans (congrArg bands ?_); blk_ext <;> exact (Rect.idx_unit_val _ _ _ _ _).trans (by first | rfl | exact Nat.zero_add _)
  · refine (iblk4 m c t _).trans (congrArg (m ((c : Thread nD τ).loc main_arg1)) ?_); blk_ext <;> exact (Rect.idx_unit_val _ _ _ _ _).trans (by first | rfl | exact Nat.zero_add _)
  · rw [← pos_at t r k]; rfl

set_option maxHeartbeats 1600000 in
/-- The second group a block stores is the reference's. -/
theorem group1 (c : Dev nD) (t : Fin cfg0.N) (r : Fin 256) (d : Fin 128) :
    (k0_pay7 (F := Ideal) (iblk m c 0 t) (k0_pay2 (grid0.coords t) (iblk m c 0 t) (iblk m c 1 t) (iblk m c 2 t))
        (k0_pay3 (grid0.coords t)) (View.ld (iblk m c 3 t) r0_4) (View.ld (iblk m c 4 t) r0_5) (ix2 r d) : EReal)
      = entry (m ((c : Thread nD τ).loc main_arg0)) (m ((c : Thread nD τ).loc main_arg1)) (t.val / 32) (256 * (t.val % 32) + r.val)
          (2 ^ ((1 : Fin 4)).val) 1 d := by
  refine (pay7_at _ _ _ _ _ r d).trans (group m c t 1 r d (fun k => ⟨128 + k.val, by omega⟩) (fun k => by show 128 + k.val = 1 * 128 + k.val; omega)
    _ (fun x => ?_) _ (fun k => ?_) _ (fun k => ?_))
  · refine (iblk3 m c t _).trans (congrArg bands ?_); blk_ext <;> exact (Rect.idx_unit_val _ _ _ _ _).trans (by first | rfl | exact Nat.zero_add _)
  · refine (iblk4 m c t _).trans (congrArg (m ((c : Thread nD τ).loc main_arg1)) ?_); blk_ext <;> exact (Rect.idx_unit_val _ _ _ _ _).trans (by first | rfl | exact Nat.zero_add _)
  · rw [← pos_at t r k]; rfl

set_option maxHeartbeats 1600000 in
/-- The third group a block stores is the reference's. -/
theorem group2 (c : Dev nD) (t : Fin cfg0.N) (r : Fin 256) (d : Fin 128) :
    (k0_pay8 (F := Ideal) (iblk m c 0 t) (k0_pay2 (grid0.coords t) (iblk m c 0 t) (iblk m c 1 t) (iblk m c 2 t))
        (k0_pay3 (grid0.coords t)) (3#32) (View.ld (iblk m c 3 t) r0_6) (View.ld (iblk m c 4 t) r0_7) (ix2 r d) : EReal)
      = entry (m ((c : Thread nD τ).loc main_arg0)) (m ((c : Thread nD τ).loc main_arg1)) (t.val / 32) (256 * (t.val % 32) + r.val)
          (2 ^ ((2 : Fin 4)).val) 2 d := by
  refine (pay8_at _ _ _ _ _ r d).trans (group m c t 2 r d (fun k => ⟨256 + k.val, by omega⟩) (fun k => by show 256 + k.val = 2 * 128 + k.val; omega)
    _ (fun x => ?_) _ (fun k => ?_) _ (fun k => ?_))
  · refine (iblk3 m c t _).trans (congrArg bands ?_); blk_ext <;> exact (Rect.idx_unit_val _ _ _ _ _).trans (by first | rfl | exact Nat.zero_add _)
  · refine (iblk4 m c t _).trans (congrArg (m ((c : Thread nD τ).loc main_arg1)) ?_); blk_ext <;> exact (Rect.idx_unit_val _ _ _ _ _).trans (by first | rfl | exact Nat.zero_add _)
  · rw [← pos_at t r k]; rfl

set_option maxHeartbeats 1600000 in
/-- The fourth group a block stores is the reference's. -/
theorem group3 (c : Dev nD) (t : Fin cfg0.N) (r : Fin 256) (d : Fin 128) :
    ∑ k : Fin 128, (Ideal.div (k0_pay10 (F := Ideal) (k0_pay2 (grid0.coords t) (iblk m c 0 t) (iblk m c 1 t) (iblk m c 2 t)) (View.ld (iblk m c 3 t) r0_8) (ix2 r k))
          (k0_pay9 (F := Ideal) (k0_pay3 (grid0.coords t)) (ix2 r k)) - (iblk m c 0 t (ix2 r ⟨384 + k.val, by omega⟩) : EReal))
        * (View.ld (iblk m c 4 t) r0_9 (ix3 0 k d) : EReal)
      = entry (m ((c : Thread nD τ).loc main_arg0)) (m ((c : Thread nD τ).loc main_arg1)) (t.val / 32) (256 * (t.val % 32) + r.val)
          (2 ^ ((3 : Fin 4)).val) 3 d := by
  refine (last_at _ _ _ _ _ r d).trans (group m c t 3 r d (fun k => ⟨384 + k.val, by omega⟩) (fun k => by show 384 + k.val = 3 * 128 + k.val; omega)
    _ (fun x => ?_) _ (fun k => ?_) _ (fun k => ?_))
  · refine (iblk3 m c t _).trans (congrArg bands ?_); blk_ext <;> exact (Rect.idx_unit_val _ _ _ _ _).trans (by first | rfl | exact Nat.zero_add _)
  · refine (iblk4 m c t _).trans (congrArg (m ((c : Thread nD τ).loc main_arg1)) ?_); blk_ext <;> exact (Rect.idx_unit_val _ _ _ _ _).trans (by first | rfl | exact Nat.zero_add _)
  · rw [← pos_at t r k]; rfl

set_option maxHeartbeats 1600000 in
/-- What the body stores at an index of its block is the reference's value where that index sits in the array. -/
theorem point (c : Dev nD) (t : Fin cfg0.N) (y : S256x512.Idx) :
    (k0_pay1 (F := Ideal) (iblk m c 0 t)
      (k0_pay6 (iblk m c 0 t) (k0_pay2 (grid0.coords t) (iblk m c 0 t) (iblk m c 1 t) (iblk m c 2 t))
        (k0_pay4 (grid0.coords t)) (k0_pay5 (grid0.coords t)) (0#32) (View.ld (iblk m c 3 t) r0_2) (View.ld (iblk m c 4 t) r0_3))
      (k0_pay7 (iblk m c 0 t) (k0_pay2 (grid0.coords t) (iblk m c 0 t) (iblk m c 1 t) (iblk m c 2 t))
        (k0_pay3 (grid0.coords t)) (View.ld (iblk m c 3 t) r0_4) (View.ld (iblk m c 4 t) r0_5))
      (k0_pay8 (iblk m c 0 t) (k0_pay2 (grid0.coords t) (iblk m c 0 t) (iblk m c 1 t) (iblk m c 2 t))
        (k0_pay3 (grid0.coords t)) (3#32) (View.ld (iblk m c 3 t) r0_6) (View.ld (iblk m c 4 t) r0_7))
      (k0_pay9 (k0_pay3 (grid0.coords t)))
      (k0_pay10 (k0_pay2 (grid0.coords t) (iblk m c 0 t) (iblk m c 1 t) (iblk m c 2 t)) (View.ld (iblk m c 3 t) r0_8))
      (View.ld (iblk m c 4 t) r0_9) (iblk m c 5 t) y : EReal)
      = REF (m ((c : Thread nD τ).loc main_arg0)) (m ((c : Thread nD τ).loc main_arg1)) (m ((c : Thread nD τ).loc main_arg2))
          (((cfg0.win 6).blk t).view.emb y) := by
  have ht := (idx t).2.2.2.2.2.2.2
  have h0 : (y 0).val < 256 := (y 0).isLt
  have h1 : (y 1).val < 512 := (y 1).isLt
  have he : ((cfg0.win 6).blk t).view.emb y = ix2 (⟨256 * t.val + (y 0).val, by omega⟩ : Fin 16384) (⟨(y 1).val, h1⟩ : Fin 512) := by
    blk_ext [idx t]
  rw [he, REF_at, pay1_at]
  refine congrArg₂ (fun a b : EReal => a * b) ?_ (iblk5 m c t (y 1))
  have hb : t.val / 32 = (256 * t.val + (y 0).val) / 8192 := by omega
  have hT : 256 * (t.val % 32) + (y 0).val = (256 * t.val + (y 0).val) % 8192 := by omega
  by_cases c0 : (y 1).val < 128
  · rw [dif_pos c0]
    have hg : (y 1).val / 128 = 0 := by omega
    refine (group0 m c t (y 0) ⟨(y 1).val, by omega⟩).trans (entry_congr _ _ hb hT (congrArg (2 ^ ·) hg.symm) (Fin.ext hg.symm) (Fin.ext ?_))
    show (y 1).val = (y 1).val % 128; omega
  rw [dif_neg c0]
  by_cases c1 : (y 1).val - 128 < 128
  · rw [dif_pos c1]
    have hg : (y 1).val / 128 = 1 := by omega
    refine (group1 m c t (y 0) ⟨(y 1).val - 128, by omega⟩).trans (entry_congr _ _ hb hT (congrArg (2 ^ ·) hg.symm) (Fin.ext hg.symm) (Fin.ext ?_))
    show (y 1).val - 128 = (y 1).val % 128; omega
  rw [dif_neg c1]
  by_cases c2 : (y 1).val - 128 - 128 < 128
  · rw [dif_pos c2]
    have hg : (y 1).val / 128 = 2 := by omega
    refine (group2 m c t (y 0) ⟨(y 1).val - 128 - 128, by omega⟩).trans (entry_congr _ _ hb hT (congrArg (2 ^ ·) hg.symm) (Fin.ext hg.symm) (Fin.ext ?_))
    show (y 1).val - 128 - 128 = (y 1).val % 128; omega
  rw [dif_neg c2]
  have hg : (y 1).val / 128 = 3 := by omega
  refine (group3 m c t (y 0) ⟨(y 1).val - 128 - 128 - 128, by omega⟩).trans (entry_congr _ _ hb hT (congrArg (2 ^ ·) hg.symm) (Fin.ext hg.symm) (Fin.ext ?_))
  show (y 1).val - 128 - 128 - 128 = (y 1).val % 128; omega

/-- The array after the run is the reference's result. -/
theorem final (c : Dev nD) : (dats m 0 c).arrAt 6 (cfgs 0).N
    = REF (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]; unfold_out out0_6; frame_out
  exact point m c t y

end Cert.PoolIdeal.Result
-- ==== Proof.PoolPair.lean ====
module

public import proofs.«01_k».proof.Defs
public import proofs.«01_k».proof.Proof.PoolValue
public import proofs.«01_k».proof.Proof.Gen.PoolRefIdeal
public import proofs.«01_k».proof.Proof.Gen.PoolRefIdeal.Run
public import Idealize.ShloMosaic.Lib.Claim

@[expose] public section

set_option maxRecDepth 16384

/-! The pooling call: the kernel's run and its reference's run end with equal results. -/

noncomputable section

namespace Cert.Pairs

open Idealize.ShloMosaic Idealize.SL.Sem

/-- The pooling reference runs and leaves its arguments unchanged. -/
theorem frame_Pool : Cert.quiescent_PoolRefIdeal := fun m ρ _ =>
  (θ_run Cert.PoolRefIdeal.defs _ _).mono (fun r h => ⟨fun c => ⟨(h c).2.1, (h c).2.2.1, (h c).2.2.2⟩,
      Idealize.ShloMosaic.sem_eq_zero_of_no_sems (by decide) r.2⟩)
    (Cert.PoolRefIdeal.Value.run (F := Ideal) m ρ)

set_option maxHeartbeats 1600000 in
/-- The pooling call and its reference end with equal results. -/
theorem algebraic_Pool : Cert.algebraic_PoolIdeal_PoolRefIdeal := by
  pair_intro
  · run_from Cert.PoolIdeal.Gen.run_main m g
  run_from Cert.PoolRefIdeal.Value.run m' g'
  · exact (Cert.PoolRefIdeal.Read.val_main_v50_eq _ _ _).trans (Cert.PoolIdeal.Result.final m c).symm

end Cert.Pairs

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.Mod
public import proofs.«01_k».proof.Proof.Gen.Mod.Frame
public import proofs.«01_k».proof.Proof.Gen.ModIdeal
public import proofs.«01_k».proof.Proof.Gen.ModIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.MergeRefIdeal
public import proofs.«01_k».proof.Proof.Gen.MergeRefIdeal.Run
public import proofs.«01_k».proof.Proof.Gen.MergeRefIdeal.Read
public import proofs.«01_k».proof.Proof.Gen.NormRefIdeal
public import proofs.«01_k».proof.Proof.Gen.NormRefIdeal.Run
public import proofs.«01_k».proof.Proof.Gen.NormRefIdeal.Read
public import proofs.«01_k».proof.Proof.Gen.ModRefIdeal
public import proofs.«01_k».proof.Proof.Gen.ModRefIdeal.Run
public import proofs.«01_k».proof.Proof.Gen.ModRefIdeal.Read
public import proofs.«01_k».proof.Proof.Gen.Pre_attn_args
public import proofs.«01_k».proof.Proof.Gen.Proj
public import proofs.«01_k».proof.Proof.ProjFrame
public import proofs.«01_k».proof.Proof.Gen.ProjIdeal
public import proofs.«01_k».proof.Proof.ProjIdealFrame
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.Pool
public import proofs.«01_k».proof.Proof.Gen.Pool.Frame
public import proofs.«01_k».proof.Proof.Gen.PoolIdeal
public import proofs.«01_k».proof.Proof.Gen.PoolIdeal.Frame
public import proofs.«01_k».proof.Proof.Gen.PoolRefIdeal
public import proofs.«01_k».proof.Proof.Gen.PoolRefIdeal.Run
public import proofs.«01_k».proof.Proof.Gen.PoolRefIdeal.Read
public import proofs.«01_k».proof.Proof.Pairs
public import proofs.«01_k».proof.Proof.AttnPair
public import proofs.«01_k».proof.Proof.ProjPair
public import proofs.«01_k».proof.Proof.PoolPair
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Ffn.Gen.facts,
    Cert.FfnIdeal.Gen.facts, Cert.FfnRefIdeal.Gen.facts, Cert.Merge.Gen.facts, Cert.MergeIdeal.Gen.facts,
    Cert.MergeRefIdeal.Gen.facts, Cert.Norm.Gen.facts, Cert.NormIdeal.Gen.facts, Cert.NormRefIdeal.Gen.facts,
    Cert.Mod.Gen.facts, Cert.ModIdeal.Gen.facts, Cert.ModRefIdeal.Gen.facts, Cert.Proj.Gen.facts, Cert.ProjIdeal.Gen.facts, Cert.ProjRefIdeal.Gen.facts,
    Cert.Pool.Gen.facts, Cert.PoolIdeal.Gen.facts, Cert.PoolRefIdeal.Gen.facts,
    Cert.Pre_attn_args.Gen.facts,
    fun m ρ _ => Cert.Kernel.Gen.frame m ρ, fun m ρ _ => Cert.KernelIdeal.Gen.frame m ρ,
    fun m ρ _ => Cert.KernelIdeal.Gen.frame m ρ, Cert.Pairs.frame_attn, fun m ρ _ => Cert.Pairs.frame_attn m ρ trivial,
    fun m ρ _ => Cert.Ffn.Gen.frame m ρ, fun m ρ _ => Cert.FfnIdeal.Gen.frame m ρ, Cert.Pairs.frame_Ffn,
    fun m ρ _ => Cert.Merge.Gen.frame m ρ, fun m ρ _ => Cert.MergeIdeal.Gen.frame m ρ, Cert.Pairs.frame_Merge,
    fun m ρ _ => Cert.Norm.Gen.frame m ρ, fun m ρ _ => Cert.NormIdeal.Gen.frame m ρ, Cert.Pairs.frame_Norm,
    fun m ρ _ => Cert.Mod.Gen.frame m ρ, fun m ρ _ => Cert.ModIdeal.Gen.frame m ρ, Cert.Pairs.frame_Mod,
    fun m ρ _ => Cert.Proj.Body.frame m ρ, fun m ρ _ => Cert.ProjIdeal.Body.frame m ρ, Cert.Pairs.frame_Proj,
    fun m ρ _ => Cert.Pool.Gen.frame m ρ, fun m ρ _ => Cert.PoolIdeal.Gen.frame m ρ, Cert.Pairs.frame_Pool,
    IdealRules.named_const.statement Cert.KernelIdeal.κ "qscale" .f32 0x3E16C740#32
      (((Real.sqrt 96)⁻¹ * (Real.log 2)⁻¹ : ℝ) : EReal) rfl,
    Cert.Pairs.algebraic_attn, trivial, Cert.Pairs.algebraic_Ffn, trivial, Cert.Pairs.algebraic_Merge, trivial, Cert.Pairs.algebraic_Norm,
    trivial, Cert.Pairs.algebraic_Mod, trivial, Cert.Pairs.algebraic_Proj, trivial, Cert.Pairs.algebraic_Pool⟩

end Cert.Proof

end
